-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_grid [hPre_uniform_grid : Cert.Pre_uniform_grid.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_grid [hPre_uniform_grid : Cert.Pre_uniform_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_uniform_grid [hKernelIdeal : Cert.KernelIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_grid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_uniform_grid [hReferenceIdeal : Cert.ReferenceIdeal.Facts] [hPre_uniform_grid : Cert.Pre_uniform_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_uniform_grid [hKernelIdeal : Cert.KernelIdeal.Facts] [hReferenceIdeal : Cert.ReferenceIdeal.Facts] [hPre_uniform_grid : Cert.Pre_uniform_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_uniform_grid : Cert.Pre_uniform_grid.Facts),
    quiescent_Kernel (hKernel := hKernel)
    ∧ quiescent_KernelIdeal (hKernelIdeal := hKernelIdeal)
    ∧ quiescent_KernelIdeal_pre_uniform_grid (hKernelIdeal := hKernelIdeal) (hPre_uniform_grid := hPre_uniform_grid)
    ∧ quiescent_ReferenceIdeal (hReferenceIdeal := hReferenceIdeal)
    ∧ quiescent_ReferenceIdeal_pre_uniform_grid (hReferenceIdeal := hReferenceIdeal) (hPre_uniform_grid := hPre_uniform_grid)
    ∧ preserves_Kernel_KernelIdeal
    ∧ algebraic_KernelIdeal_ReferenceIdeal_pre_uniform_grid (hKernelIdeal := hKernelIdeal) (hReferenceIdeal := hReferenceIdeal) (hPre_uniform_grid := hPre_uniform_grid)
-- ==== Pre_uniform_grid.lean ====
abbrev S6400000 : Shape := ⟨1, ![6400000]⟩
abbrev S8 : Shape := ⟨1, ![8]⟩
abbrev S5000x8 : Shape := ⟨2, ![5000, 8]⟩
abbrev S5000 : Shape := ⟨1, ![5000]⟩
abbrev S1 : Shape := ⟨1, ![1]⟩
abbrev S_ : Shape := ⟨0, ![]⟩

class Facts : Prop where
  slices_S5000_S1_4999 : S5000.Slices ![4999] S1
  shapeCasts_S1_S_ : S1.ShapeCasts S_
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S6400000 .f32) (main_arg1 : FVec F S8 .f32) (main_arg2 : FVec F S5000x8 .f32) (main_arg3 : FVec F S5000 .f32) : IVec S_ 1 :=
  let main_v0 : FVec F S1 .f32 := (extractStridedSlice S1 ![4999] · slices_S5000_S1_4999) main_arg3
  let main_v1 : FVec F S_ .f32 := shapeCast S_ main_v0 shapeCasts_S1_S_
  let main_v2 : FVec F S5000 .f32 := sitofp .f32 (iotaInDim S5000 32 0)
  let main_cst : FVec F S_ .f32 := constant S_ .f32 0x459C3800#32
  let main_v3 : FVec F S5000 .f32 := broadcastInDim S5000 ![] bcast_S_S5000 main_cst
  let main_v4 : FVec F S5000 .f32 := mulf main_arg3 main_v3
  let main_v5 : FVec F S5000 .f32 := broadcastInDim S5000 ![] bcast_S_S5000 main_v1
  let main_v6 : FVec F S5000 .f32 := mulf main_v2 main_v5
  let main_v7 : IVec S5000 1 := cmpf .oeq main_v4 main_v6
  let main_c : IVec S_ 1 := constantI S_ 1 1#1
  let main_v8 : IVec S_ 1 := (fun x v => Host.reduce IntOp.andi x v reducesTo_S5000_S_d0 h_S_) main_v7 main_c
  let main_cst_0 : FVec F S_ .f32 := constant S_ .f32 0x00000000#32
  let main_v9 : IVec S_ 1 := cmpf .oge main_v1 main_cst_0
  let main_v10 : IVec S_ 1 := andi main_v8 main_v9
  let main_cst_1 : FVec F S_ .f32 := constant S_ .f32 0x7F800000#32
  let main_v11 : IVec S_ 1 := cmpf .olt main_v1 main_cst_1
  let main_v12 : IVec S_ 1 := andi main_v10 main_v11
  main_v12
-- ==== Kernel.lean ====
abbrev S6400000 : Shape := ⟨1, ![6400000]⟩
abbrev S8 : Shape := ⟨1, ![8]⟩
abbrev S5000x8 : Shape := ⟨2, ![5000, 8]⟩
abbrev S5000 : Shape := ⟨1, ![5000]⟩
abbrev S8x5000 : Shape := ⟨2, ![8, 5000]⟩
abbrev S_ : Shape := ⟨0, ![]⟩
abbrev S8x5008 : Shape := ⟨2, ![8, 5008]⟩
abbrev S40064 : Shape := ⟨1, ![40064]⟩
abbrev S1 : Shape := ⟨1, ![1]⟩
abbrev S16 : Shape := ⟨1, ![16]⟩
abbrev S1x16 : Shape := ⟨2, ![1, 16]⟩
abbrev S2x16 : Shape := ⟨2, ![2, 16]⟩
abbrev S8x1 : Shape := ⟨2, ![8, 1]⟩
abbrev S8x16 : Shape := ⟨2, ![8, 16]⟩
abbrev S51200000 : Shape := ⟨1, ![51200000]⟩
abbrev S5120 : Shape := ⟨1, ![5120]⟩
abbrev S2x40960 : Shape := ⟨2, ![2, 40960]⟩
abbrev S1x40960 : Shape := ⟨2, ![1, 40960]⟩
abbrev S40960 : Shape := ⟨1, ![40960]⟩
abbrev S20480 : Shape := ⟨1, ![20480]⟩
abbrev S50000x8x128 : Shape := ⟨3, ![50000, 8, 128]⟩
abbrev S50000x128x8 : Shape := ⟨3, ![50000, 128, 8]⟩
abbrev S6400000x8 : Shape := ⟨2, ![6400000, 8]⟩

abbrev nBuf : Table → Nat
  | .hbm => 24
  | .local .scVector .vmem => 5
  | _ => 0

abbrev bufTy : (tb : Table) → Fin (nBuf tb) → BufTy
  | .hbm, ⟨0, _⟩ => ⟨S6400000, .f32⟩
  | .hbm, ⟨1, _⟩ => ⟨S8, .f32⟩
  | .hbm, ⟨2, _⟩ => ⟨S5000x8, .f32⟩
  | .hbm, ⟨3, _⟩ => ⟨S5000, .f32⟩
  | .hbm, ⟨4, _⟩ => ⟨S8x5000, .f32⟩
  | .hbm, ⟨5, _⟩ => ⟨S_, .i32⟩
  | .hbm, ⟨6, _⟩ => ⟨S_, .f32⟩
  | .hbm, ⟨7, _⟩ => ⟨S8x5008, .f32⟩
  | .hbm, ⟨8, _⟩ => ⟨S40064, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S1x16, .f32⟩
  | .hbm, ⟨17, _⟩ => ⟨S2x16, .f32⟩
  | .hbm, ⟨18, _⟩ => ⟨S8x1, .f32⟩
  | .hbm, ⟨19, _⟩ => ⟨S8x16, .f32⟩
  | .hbm, ⟨20, _⟩ => ⟨S51200000, .f32⟩
  | .hbm, ⟨21, _⟩ => ⟨S50000x8x128, .f32⟩
  | .hbm, ⟨22, _⟩ => ⟨S50000x128x8, .f32⟩
  | .hbm, ⟨23, _⟩ => ⟨S6400000x8, .f32⟩
  | .local .scVector .vmem, ⟨0, _⟩ => ⟨S40064, .f32⟩
  | .local .scVector .vmem, ⟨1, _⟩ => ⟨S5120, .f32⟩
  | .local .scVector .vmem, ⟨2, _⟩ => ⟨S2x40960, .f32⟩
  | .local .scVector .vmem, ⟨3, _⟩ => ⟨S8x16, .f32⟩
  | .local .scVector .vmem, ⟨4, _⟩ => ⟨S2x16, .f32⟩
  | _, _ => ⟨S6400000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_arg0_scv : Ref sig .scVector := ⟨.hbm, 0, rfl⟩
abbrev main_v2_scv : Ref sig .scVector := ⟨.hbm, 8, rfl⟩
abbrev main_v12_scv : Ref sig .scVector := ⟨.hbm, 19, rfl⟩
abbrev main_v10_scv : Ref sig .scVector := ⟨.hbm, 17, rfl⟩
abbrev main_v13_scv : Ref sig .scVector := ⟨.hbm, 20, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_4 : BitVec 32 := 0#32
  let c313_i32 : BitVec 32 := 313#32
  let v8 : BitVec 32 := Scalar.addi c0_i32_4 c313_i32
  let c1_i32_5 : BitVec 32 := 1#32
  ⟨c0_i32_4, v8, c1_i32_5⟩
def k0_off1 (k0_t1 : Fin k0_t1_loop.trips) : Fin 1 → Nat :=
  let c0_i32_76 : BitVec 32 := 0#32
  let c0_i32_4 : BitVec 32 := 0#32
  let c1_i32_5 : BitVec 32 := 1#32
  let arg16 : BitVec 32 := Scf.iv c0_i32_4 c1_i32_5 k0_t1
  let c16_i32 : BitVec 32 := 16#32
  let v90 : BitVec 32 := Scalar.muli arg16 c16_i32
  let v91 : BitVec 32 := Scalar.addi c0_i32_76 v90
  let v92 : Index := Scalar.indexCast v91
  ![v92.toNat]
@[reducible] def k0_t2_loop : Scf.Loop 32 :=
  let c0_i32_10 : BitVec 32 := 0#32
  let c313_i32_11 : BitVec 32 := 313#32
  let v12 : BitVec 32 := Scalar.addi c0_i32_10 c313_i32_11
  let c1_i32_12 : BitVec 32 := 1#32
  ⟨c0_i32_10, v12, c1_i32_12⟩
def k0_off2 (k0_t2 : Fin k0_t2_loop.trips) : Fin 1 → Nat :=
  let c5008_i32 : BitVec 32 := 5008#32
  let c0_i32_10 : BitVec 32 := 0#32
  let c1_i32_12 : BitVec 32 := 1#32
  let arg16 : BitVec 32 := Scf.iv c0_i32_10 c1_i32_12 k0_t2
  let c16_i32 : BitVec 32 := 16#32
  let v90 : BitVec 32 := Scalar.muli arg16 c16_i32
  let v91 : BitVec 32 := Scalar.addi c5008_i32 v90
  let v92 : Index := Scalar.indexCast v91
  ![v92.toNat]
@[reducible] def k0_t3_loop : Scf.Loop 32 :=
  let c0_i32_17 : BitVec 32 := 0#32
  let c313_i32_18 : BitVec 32 := 313#32
  let v16 : BitVec 32 := Scalar.addi c0_i32_17 c313_i32_18
  let c1_i32_19 : BitVec 32 := 1#32
  ⟨c0_i32_17, v16, c1_i32_19⟩
def k0_off3 (k0_t3 : Fin k0_t3_loop.trips) : Fin 1 → Nat :=
  let c10016_i32 : BitVec 32 := 10016#32
  let c0_i32_17 : BitVec 32 := 0#32
  let c1_i32_19 : BitVec 32 := 1#32
  let arg16 : BitVec 32 := Scf.iv c0_i32_17 c1_i32_19 k0_t3
  let c16_i32 : BitVec 32 := 16#32
  let v90 : BitVec 32 := Scalar.muli arg16 c16_i32
  let v91 : BitVec 32 := Scalar.addi c10016_i32 v90
  let v92 : Index := Scalar.indexCast v91
  ![v92.toNat]
@[reducible] def k0_t4_loop : Scf.Loop 32 :=
  let c0_i32_23 : BitVec 32 := 0#32
  let c313_i32_24 : BitVec 32 := 313#32
  let v20 : BitVec 32 := Scalar.addi c0_i32_23 c313_i32_24
  let c1_i32_25 : BitVec 32 := 1#32
  ⟨c0_i32_23, v20, c1_i32_25⟩
def k0_off4 (k0_t4 : Fin k0_t4_loop.trips) : Fin 1 → Nat :=
  let c15024_i32 : BitVec 32 := 15024#32
  let c0_i32_23 : BitVec 32 := 0#32
  let c1_i32_25 : BitVec 32 := 1#32
  let arg16 : BitVec 32 := Scf.iv c0_i32_23 c1_i32_25 k0_t4
  let c16_i32 : BitVec 32 := 16#32
  let v90 : BitVec 32 := Scalar.muli arg16 c16_i32
  let v91 : BitVec 32 := Scalar.addi c15024_i32 v90
  let v92 : Index := Scalar.indexCast v91
  ![v92.toNat]
@[reducible] def k0_t5_loop : Scf.Loop 32 :=
  let c0_i32_29 : BitVec 32 := 0#32
  let c313_i32_30 : BitVec 32 := 313#32
  let v24 : BitVec 32 := Scalar.addi c0_i32_29 c313_i32_30
  let c1_i32_31 : BitVec 32 := 1#32
  ⟨c0_i32_29, v24, c1_i32_31⟩
def k0_off5 (k0_t5 : Fin k0_t5_loop.trips) : Fin 1 → Nat :=
  let c20032_i32 : BitVec 32 := 20032#32
  let c0_i32_29 : BitVec 32 := 0#32
  let c1_i32_31 : BitVec 32 := 1#32
  let arg16 : BitVec 32 := Scf.iv c0_i32_29 c1_i32_31 k0_t5
  let c16_i32 : BitVec 32 := 16#32
  let v90 : BitVec 32 := Scalar.muli arg16 c16_i32
  let v91 : BitVec 32 := Scalar.addi c20032_i32 v90
  let v92 : Index := Scalar.indexCast v91
  ![v92.toNat]
@[reducible] def k0_t6_loop : Scf.Loop 32 :=
  let c0_i32_35 : BitVec 32 := 0#32
  let c313_i32_36 : BitVec 32 := 313#32
  let v28 : BitVec 32 := Scalar.addi c0_i32_35 c313_i32_36
  let c1_i32_37 : BitVec 32 := 1#32
  ⟨c0_i32_35, v28, c1_i32_37⟩
def k0_off6 (k0_t6 : Fin k0_t6_loop.trips) : Fin 1 → Nat :=
  let c25040_i32 : BitVec 32 := 25040#32
  let c0_i32_35 : BitVec 32 := 0#32
  let c1_i32_37 : BitVec 32 := 1#32
  let arg16 : BitVec 32 := Scf.iv c0_i32_35 c1_i32_37 k0_t6
  let c16_i32 : BitVec 32 := 16#32
  let v90 : BitVec 32 := Scalar.muli arg16 c16_i32
  let v91 : BitVec 32 := Scalar.addi c25040_i32 v90
  let v92 : Index := Scalar.indexCast v91
  ![v92.toNat]
@[reducible] def k0_t7_loop : Scf.Loop 32 :=
  let c0_i32_41 : BitVec 32 := 0#32
  let c313_i32_42 : BitVec 32 := 313#32
  let v32 : BitVec 32 := Scalar.addi c0_i32_41 c313_i32_42
  let c1_i32_43 : BitVec 32 := 1#32
  ⟨c0_i32_41, v32, c1_i32_43⟩
def k0_off7 (k0_t7 : Fin k0_t7_loop.trips) : Fin 1 → Nat :=
  let c30048_i32 : BitVec 32 := 30048#32
  let c0_i32_41 : BitVec 32 := 0#32
  let c1_i32_43 : BitVec 32 := 1#32
  let arg16 : BitVec 32 := Scf.iv c0_i32_41 c1_i32_43 k0_t7
  let c16_i32 : BitVec 32 := 16#32
  let v90 : BitVec 32 := Scalar.muli arg16 c16_i32
  let v91 : BitVec 32 := Scalar.addi c30048_i32 v90
  let v92 : Index := Scalar.indexCast v91
  ![v92.toNat]
@[reducible] def k0_t8_loop : Scf.Loop 32 :=
  let c0_i32_47 : BitVec 32 := 0#32
  let c313_i32_48 : BitVec 32 := 313#32
  let v36 : BitVec 32 := Scalar.addi c0_i32_47 c313_i32_48
  let c1_i32_49 : BitVec 32 := 1#32
  ⟨c0_i32_47, v36, c1_i32_49⟩
def k0_off8 (k0_t8 : Fin k0_t8_loop.trips) : Fin 1 → Nat :=
  let c35056_i32 : BitVec 32 := 35056#32
  let c0_i32_47 : BitVec 32 := 0#32
  let c1_i32_49 : BitVec 32 := 1#32
  let arg16 : BitVec 32 := Scf.iv c0_i32_47 c1_i32_49 k0_t8
  let c16_i32 : BitVec 32 := 16#32
  let v90 : BitVec 32 := Scalar.muli arg16 c16_i32
  let v91 : BitVec 32 := Scalar.addi c35056_i32 v90
  let v92 : Index := Scalar.indexCast v91
  ![v92.toNat]
@[reducible] def k0_t9_loop (i : grid0.Coords) : Scf.Loop 32 :=
  let c0_i32_67 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_70 : BitVec 32 := 1#32
  ⟨c0_i32_67, v81, c1_i32_70⟩
def k0_cond1 (i : grid0.Coords) (k0_t9 : Fin (k0_t9_loop i).trips) : BitVec 1 :=
  let c0_i32_67 : BitVec 32 := 0#32
  let c1_i32_70 : BitVec 32 := 1#32
  let arg16 : BitVec 32 := Scf.iv c0_i32_67 c1_i32_70 k0_t9
  let c2_i32_76 : BitVec 32 := 2#32
  let v90 : BitVec 32 := Scalar.muli arg16 c2_i32_76
  let c0_i32_77 : BitVec 32 := 0#32
  let v91 : BitVec 32 := Scalar.addi v90 c0_i32_77
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let v92 : BitVec 1 := Scalar.cmpi .slt v91 v58
  let v93 : BitVec 32 := Scalar.extui v92
  let c0_i32_78 : BitVec 32 := 0#32
  let v94 : BitVec 1 := Scalar.cmpi .ne v93 c0_i32_78
  v94

def k0_off9 (i : grid0.Coords) (k0_t9 : Fin (k0_t9_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1_i32_70 : BitVec 32 := 1#32
  let arg16 : BitVec 32 := Scf.iv c0_i32_67 c1_i32_70 k0_t9
  let c2_i32_76 : BitVec 32 := 2#32
  let v90 : BitVec 32 := Scalar.muli arg16 c2_i32_76
  let c0_i32_77 : BitVec 32 := 0#32
  let v91 : BitVec 32 := Scalar.addi v90 c0_i32_77
  let c32_i32_83 : BitVec 32 := 32#32
  let v100 : BitVec 32 := Scalar.muli v91 c32_i32_83
  let v101 : BitVec 32 := Scalar.addi v1 v100
  let c5120_i32 : BitVec 32 := 5120#32
  let v102 : BitVec 32 := Scalar.muli v101 c5120_i32
  ![v102.toNat]
def k0_cond2 (i : grid0.Coords) (k0_t9 : Fin (k0_t9_loop i).trips) : BitVec 1 :=
  let c0_i32_67 : BitVec 32 := 0#32
  let c1_i32_70 : BitVec 32 := 1#32
  let arg16 : BitVec 32 := Scf.iv c0_i32_67 c1_i32_70 k0_t9
  let c2_i32_76 : BitVec 32 := 2#32
  let v90 : BitVec 32 := Scalar.muli arg16 c2_i32_76
  let c0_i32_77 : BitVec 32 := 0#32
  let v91 : BitVec 32 := Scalar.addi v90 c0_i32_77
  let c2_i32_84 : BitVec 32 := 2#32
  let v103 : BitVec 1 := Scalar.cmpi .sge v91 c2_i32_84
  let v104 : BitVec 32 := Scalar.extui v103
  let c0_i32_86 : BitVec 32 := 0#32
  let v105 : BitVec 1 := Scalar.cmpi .ne v104 c0_i32_86
  v105

def k0_off10 (i : grid0.Coords) (k0_t9 : Fin (k0_t9_loop i).trips) (c0_i32_105 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1_i32_70 : BitVec 32 := 1#32
  let arg16 : BitVec 32 := Scf.iv c0_i32_67 c1_i32_70 k0_t9
  let c2_i32_76 : BitVec 32 := 2#32
  let v90 : BitVec 32 := Scalar.muli arg16 c2_i32_76
  let c0_i32_77 : BitVec 32 := 0#32
  let v91 : BitVec 32 := Scalar.addi v90 c0_i32_77
  let c32_i32_83 : BitVec 32 := 32#32
  let v100 : BitVec 32 := Scalar.muli v91 c32_i32_83
  let v101 : BitVec 32 := Scalar.addi v1 v100
  let c5120_i32 : BitVec 32 := 5120#32
  let v102 : BitVec 32 := Scalar.muli v101 c5120_i32
  let c8_i32_104 : BitVec 32 := 8#32
  let v128 : BitVec 32 := Scalar.muli v102 c8_i32_104
  let v129 : BitVec 32 := Scalar.addi v128 c0_i32_105
  ![v129.toNat]
@[reducible] def k0_t10_loop : Scf.Loop 32 :=
  let c0_i32_89 : BitVec 32 := 0#32
  let c80_i32 : BitVec 32 := 80#32
  let v106 : BitVec 32 := Scalar.addi c0_i32_89 c80_i32
  let c1_i32_90 : BitVec 32 := 1#32
  ⟨c0_i32_89, v106, c1_i32_90⟩
def k0_off11 (k0_t10 : Fin k0_t10_loop.trips) : Fin 1 → Nat :=
  let c0_i32_89 : BitVec 32 := 0#32
  let c1_i32_90 : BitVec 32 := 1#32
  let arg18 : BitVec 32 := Scf.iv c0_i32_89 c1_i32_90 k0_t10
  let c4_i32_104 : BitVec 32 := 4#32
  let v128 : BitVec 32 := Scalar.muli arg18 c4_i32_104
  let c0_i32_105 : BitVec 32 := 0#32
  let v129 : BitVec 32 := Scalar.addi v128 c0_i32_105
  let c16_i32 : BitVec 32 := 16#32
  let v130 : BitVec 32 := Scalar.muli v129 c16_i32
  let v131 : Index := Scalar.indexCast v130
  ![v131.toNat]

def k0_chk1 (i : grid0.Coords) (k0_t9 : Fin (k0_t9_loop i).trips) (v153 : IVec S16 32) : Prop :=
  (∀ (k0_h1 : k0_cond1 i k0_t9 = 1#1), ∀ a x, ((![v153] : Fin 1 → IVec S16 32) a x).toNat < S40064.size a)
theorem k0_idx1_inb : ∀ (i : grid0.Coords) (k0_t9 : Fin (k0_t9_loop i).trips) (v153 : IVec S16 32) (k0_hw1 : k0_chk1 i k0_t9 v153), ∀ (k0_h1 : k0_cond1 i k0_t9 = 1#1), ∀ a x, ((![v153] : Fin 1 → IVec S16 32) a x).toNat < S40064.size a := fun i k0_t9 v153 k0_hw1 k0_h1 => k0_hw1 k0_h1

def k0_chk2 (i : grid0.Coords) (k0_t9 : Fin (k0_t9_loop i).trips) (v156 : IVec S16 32) : Prop :=
  (∀ (k0_h1 : k0_cond1 i k0_t9 = 1#1), ∀ a x, ((![v156] : Fin 1 → IVec S16 32) a x).toNat < S40960.size a)
theorem k0_idx2_inb : ∀ (i : grid0.Coords) (k0_t9 : Fin (k0_t9_loop i).trips) (v156 : IVec S16 32) (k0_hw2 : k0_chk2 i k0_t9 v156), ∀ (k0_h1 : k0_cond1 i k0_t9 = 1#1), ∀ a x, ((![v156] : Fin 1 → IVec S16 32) a x).toNat < S40960.size a := fun i k0_t9 v156 k0_hw2 k0_h1 => k0_hw2 k0_h1

def k0_chk3 (i : grid0.Coords) (k0_t9 : Fin (k0_t9_loop i).trips) (v160 : IVec S16 32) : Prop :=
  (∀ (k0_h1 : k0_cond1 i k0_t9 = 1#1), ∀ a x, ((![v160] : Fin 1 → IVec S16 32) a x).toNat < S40064.size a)
theorem k0_idx3_inb : ∀ (i : grid0.Coords) (k0_t9 : Fin (k0_t9_loop i).trips) (v160 : IVec S16 32) (k0_hw3 : k0_chk3 i k0_t9 v160), ∀ (k0_h1 : k0_cond1 i k0_t9 = 1#1), ∀ a x, ((![v160] : Fin 1 → IVec S16 32) a x).toNat < S40064.size a := fun i k0_t9 v160 k0_hw3 k0_h1 => k0_hw3 k0_h1

def k0_chk4 (i : grid0.Coords) (k0_t9 : Fin (k0_t9_loop i).trips) (v163 : IVec S16 32) : Prop :=
  (∀ (k0_h1 : k0_cond1 i k0_t9 = 1#1), ∀ a x, ((![v163] : Fin 1 → IVec S16 32) a x).toNat < S40960.size a)
theorem k0_idx4_inb : ∀ (i : grid0.Coords) (k0_t9 : Fin (k0_t9_loop i).trips) (v163 : IVec S16 32) (k0_hw4 : k0_chk4 i k0_t9 v163), ∀ (k0_h1 : k0_cond1 i k0_t9 = 1#1), ∀ a x, ((![v163] : Fin 1 → IVec S16 32) a x).toNat < S40960.size a := fun i k0_t9 v163 k0_hw4 k0_h1 => k0_hw4 k0_h1

def k0_chk5 (i : grid0.Coords) (k0_t9 : Fin (k0_t9_loop i).trips) (v167 : IVec S16 32) : Prop :=
  (∀ (k0_h1 : k0_cond1 i k0_t9 = 1#1), ∀ a x, ((![v167] : Fin 1 → IVec S16 32) a x).toNat < S40064.size a)
theorem k0_idx5_inb : ∀ (i : grid0.Coords) (k0_t9 : Fin (k0_t9_loop i).trips) (v167 : IVec S16 32) (k0_hw5 : k0_chk5 i k0_t9 v167), ∀ (k0_h1 : k0_cond1 i k0_t9 = 1#1), ∀ a x, ((![v167] : Fin 1 → IVec S16 32) a x).toNat < S40064.size a := fun i k0_t9 v167 k0_hw5 k0_h1 => k0_hw5 k0_h1

def k0_chk6 (i : grid0.Coords) (k0_t9 : Fin (k0_t9_loop i).trips) (v170 : IVec S16 32) : Prop :=
  (∀ (k0_h1 : k0_cond1 i k0_t9 = 1#1), ∀ a x, ((![v170] : Fin 1 → IVec S16 32) a x).toNat < S40960.size a)
theorem k0_idx6_inb : ∀ (i : grid0.Coords) (k0_t9 : Fin (k0_t9_loop i).trips) (v170 : IVec S16 32) (k0_hw6 : k0_chk6 i k0_t9 v170), ∀ (k0_h1 : k0_cond1 i k0_t9 = 1#1), ∀ a x, ((![v170] : Fin 1 → IVec S16 32) a x).toNat < S40960.size a := fun i k0_t9 v170 k0_hw6 k0_h1 => k0_hw6 k0_h1

def k0_chk7 (i : grid0.Coords) (k0_t9 : Fin (k0_t9_loop i).trips) (v174 : IVec S16 32) : Prop :=
  (∀ (k0_h1 : k0_cond1 i k0_t9 = 1#1), ∀ a x, ((![v174] : Fin 1 → IVec S16 32) a x).toNat < S40064.size a)
theorem k0_idx7_inb : ∀ (i : grid0.Coords) (k0_t9 : Fin (k0_t9_loop i).trips) (v174 : IVec S16 32) (k0_hw7 : k0_chk7 i k0_t9 v174), ∀ (k0_h1 : k0_cond1 i k0_t9 = 1#1), ∀ a x, ((![v174] : Fin 1 → IVec S16 32) a x).toNat < S40064.size a := fun i k0_t9 v174 k0_hw7 k0_h1 => k0_hw7 k0_h1

def k0_chk8 (i : grid0.Coords) (k0_t9 : Fin (k0_t9_loop i).trips) (v177 : IVec S16 32) : Prop :=
  (∀ (k0_h1 : k0_cond1 i k0_t9 = 1#1), ∀ a x, ((![v177] : Fin 1 → IVec S16 32) a x).toNat < S40960.size a)
theorem k0_idx8_inb : ∀ (i : grid0.Coords) (k0_t9 : Fin (k0_t9_loop i).trips) (v177 : IVec S16 32) (k0_hw8 : k0_chk8 i k0_t9 v177), ∀ (k0_h1 : k0_cond1 i k0_t9 = 1#1), ∀ a x, ((![v177] : Fin 1 → IVec S16 32) a x).toNat < S40960.size a := fun i k0_t9 v177 k0_hw8 k0_h1 => k0_hw8 k0_h1

def k0_chk9 (i : grid0.Coords) (k0_t9 : Fin (k0_t9_loop i).trips) (v181 : IVec S16 32) : Prop :=
  (∀ (k0_h1 : k0_cond1 i k0_t9 = 1#1), ∀ a x, ((![v181] : Fin 1 → IVec S16 32) a x).toNat < S40064.size a)
theorem k0_idx9_inb : ∀ (i : grid0.Coords) (k0_t9 : Fin (k0_t9_loop i).trips) (v181 : IVec S16 32) (k0_hw9 : k0_chk9 i k0_t9 v181), ∀ (k0_h1 : k0_cond1 i k0_t9 = 1#1), ∀ a x, ((![v181] : Fin 1 → IVec S16 32) a x).toNat < S40064.size a := fun i k0_t9 v181 k0_hw9 k0_h1 => k0_hw9 k0_h1

def k0_chk10 (i : grid0.Coords) (k0_t9 : Fin (k0_t9_loop i).trips) (v184 : IVec S16 32) : Prop :=
  (∀ (k0_h1 : k0_cond1 i k0_t9 = 1#1), ∀ a x, ((![v184] : Fin 1 → IVec S16 32) a x).toNat < S40960.size a)
theorem k0_idx10_inb : ∀ (i : grid0.Coords) (k0_t9 : Fin (k0_t9_loop i).trips) (v184 : IVec S16 32) (k0_hw10 : k0_chk10 i k0_t9 v184), ∀ (k0_h1 : k0_cond1 i k0_t9 = 1#1), ∀ a x, ((![v184] : Fin 1 → IVec S16 32) a x).toNat < S40960.size a := fun i k0_t9 v184 k0_hw10 k0_h1 => k0_hw10 k0_h1

def k0_chk11 (i : grid0.Coords) (k0_t9 : Fin (k0_t9_loop i).trips) (v188 : IVec S16 32) : Prop :=
  (∀ (k0_h1 : k0_cond1 i k0_t9 = 1#1), ∀ a x, ((![v188] : Fin 1 → IVec S16 32) a x).toNat < S40064.size a)
theorem k0_idx11_inb : ∀ (i : grid0.Coords) (k0_t9 : Fin (k0_t9_loop i).trips) (v188 : IVec S16 32) (k0_hw11 : k0_chk11 i k0_t9 v188), ∀ (k0_h1 : k0_cond1 i k0_t9 = 1#1), ∀ a x, ((![v188] : Fin 1 → IVec S16 32) a x).toNat < S40064.size a := fun i k0_t9 v188 k0_hw11 k0_h1 => k0_hw11 k0_h1

def k0_chk12 (i : grid0.Coords) (k0_t9 : Fin (k0_t9_loop i).trips) (v191 : IVec S16 32) : Prop :=
  (∀ (k0_h1 : k0_cond1 i k0_t9 = 1#1), ∀ a x, ((![v191] : Fin 1 → IVec S16 32) a x).toNat < S40960.size a)
theorem k0_idx12_inb : ∀ (i : grid0.Coords) (k0_t9 : Fin (k0_t9_loop i).trips) (v191 : IVec S16 32) (k0_hw12 : k0_chk12 i k0_t9 v191), ∀ (k0_h1 : k0_cond1 i k0_t9 = 1#1), ∀ a x, ((![v191] : Fin 1 → IVec S16 32) a x).toNat < S40960.size a := fun i k0_t9 v191 k0_hw12 k0_h1 => k0_hw12 k0_h1

def k0_chk13 (i : grid0.Coords) (k0_t9 : Fin (k0_t9_loop i).trips) (v195 : IVec S16 32) : Prop :=
  (∀ (k0_h1 : k0_cond1 i k0_t9 = 1#1), ∀ a x, ((![v195] : Fin 1 → IVec S16 32) a x).toNat < S40064.size a)
theorem k0_idx13_inb : ∀ (i : grid0.Coords) (k0_t9 : Fin (k0_t9_loop i).trips) (v195 : IVec S16 32) (k0_hw13 : k0_chk13 i k0_t9 v195), ∀ (k0_h1 : k0_cond1 i k0_t9 = 1#1), ∀ a x, ((![v195] : Fin 1 → IVec S16 32) a x).toNat < S40064.size a := fun i k0_t9 v195 k0_hw13 k0_h1 => k0_hw13 k0_h1

def k0_chk14 (i : grid0.Coords) (k0_t9 : Fin (k0_t9_loop i).trips) (v198 : IVec S16 32) : Prop :=
  (∀ (k0_h1 : k0_cond1 i k0_t9 = 1#1), ∀ a x, ((![v198] : Fin 1 → IVec S16 32) a x).toNat < S40960.size a)
theorem k0_idx14_inb : ∀ (i : grid0.Coords) (k0_t9 : Fin (k0_t9_loop i).trips) (v198 : IVec S16 32) (k0_hw14 : k0_chk14 i k0_t9 v198), ∀ (k0_h1 : k0_cond1 i k0_t9 = 1#1), ∀ a x, ((![v198] : Fin 1 → IVec S16 32) a x).toNat < S40960.size a := fun i k0_t9 v198 k0_hw14 k0_h1 => k0_hw14 k0_h1

def k0_chk15 (i : grid0.Coords) (k0_t9 : Fin (k0_t9_loop i).trips) (v202 : IVec S16 32) : Prop :=
  (∀ (k0_h1 : k0_cond1 i k0_t9 = 1#1), ∀ a x, ((![v202] : Fin 1 → IVec S16 32) a x).toNat < S40064.size a)
theorem k0_idx15_inb : ∀ (i : grid0.Coords) (k0_t9 : Fin (k0_t9_loop i).trips) (v202 : IVec S16 32) (k0_hw15 : k0_chk15 i k0_t9 v202), ∀ (k0_h1 : k0_cond1 i k0_t9 = 1#1), ∀ a x, ((![v202] : Fin 1 → IVec S16 32) a x).toNat < S40064.size a := fun i k0_t9 v202 k0_hw15 k0_h1 => k0_hw15 k0_h1

def k0_chk16 (i : grid0.Coords) (k0_t9 : Fin (k0_t9_loop i).trips) (v205 : IVec S16 32) : Prop :=
  (∀ (k0_h1 : k0_cond1 i k0_t9 = 1#1), ∀ a x, ((![v205] : Fin 1 → IVec S16 32) a x).toNat < S40960.size a)
theorem k0_idx16_inb : ∀ (i : grid0.Coords) (k0_t9 : Fin (k0_t9_loop i).trips) (v205 : IVec S16 32) (k0_hw16 : k0_chk16 i k0_t9 v205), ∀ (k0_h1 : k0_cond1 i k0_t9 = 1#1), ∀ a x, ((![v205] : Fin 1 → IVec S16 32) a x).toNat < S40960.size a := fun i k0_t9 v205 k0_hw16 k0_h1 => k0_hw16 k0_h1
def k0_off12 (k0_t10 : Fin k0_t10_loop.trips) : Fin 1 → Nat :=
  let c0_i32_89 : BitVec 32 := 0#32
  let c1_i32_90 : BitVec 32 := 1#32
  let arg18 : BitVec 32 := Scf.iv c0_i32_89 c1_i32_90 k0_t10
  let c4_i32_121 : BitVec 32 := 4#32
  let v208 : BitVec 32 := Scalar.muli arg18 c4_i32_121
  let c1_i32_122 : BitVec 32 := 1#32
  let v209 : BitVec 32 := Scalar.addi v208 c1_i32_122
  let c16_i32_123 : BitVec 32 := 16#32
  let v210 : BitVec 32 := Scalar.muli v209 c16_i32_123
  let v211 : Index := Scalar.indexCast v210
  ![v211.toNat]

def k0_chk17 (i : grid0.Coords) (k0_t9 : Fin (k0_t9_loop i).trips) (v233 : IVec S16 32) : Prop :=
  (∀ (k0_h1 : k0_cond1 i k0_t9 = 1#1), ∀ a x, ((![v233] : Fin 1 → IVec S16 32) a x).toNat < S40064.size a)
theorem k0_idx17_inb : ∀ (i : grid0.Coords) (k0_t9 : Fin (k0_t9_loop i).trips) (v233 : IVec S16 32) (k0_hw17 : k0_chk17 i k0_t9 v233), ∀ (k0_h1 : k0_cond1 i k0_t9 = 1#1), ∀ a x, ((![v233] : Fin 1 → IVec S16 32) a x).toNat < S40064.size a := fun i k0_t9 v233 k0_hw17 k0_h1 => k0_hw17 k0_h1

def k0_chk18 (i : grid0.Coords) (k0_t9 : Fin (k0_t9_loop i).trips) (v236 : IVec S16 32) : Prop :=
  (∀ (k0_h1 : k0_cond1 i k0_t9 = 1#1), ∀ a x, ((![v236] : Fin 1 → IVec S16 32) a x).toNat < S40960.size a)
theorem k0_idx18_inb : ∀ (i : grid0.Coords) (k0_t9 : Fin (k0_t9_loop i).trips) (v236 : IVec S16 32) (k0_hw18 : k0_chk18 i k0_t9 v236), ∀ (k0_h1 : k0_cond1 i k0_t9 = 1#1), ∀ a x, ((![v236] : Fin 1 → IVec S16 32) a x).toNat < S40960.size a := fun i k0_t9 v236 k0_hw18 k0_h1 => k0_hw18 k0_h1

def k0_chk19 (i : grid0.Coords) (k0_t9 : Fin (k0_t9_loop i).trips) (v240 : IVec S16 32) : Prop :=
  (∀ (k0_h1 : k0_cond1 i k0_t9 = 1#1), ∀ a x, ((![v240] : Fin 1 → IVec S16 32) a x).toNat < S40064.size a)
theorem k0_idx19_inb : ∀ (i : grid0.Coords) (k0_t9 : Fin (k0_t9_loop i).trips) (v240 : IVec S16 32) (k0_hw19 : k0_chk19 i k0_t9 v240), ∀ (k0_h1 : k0_cond1 i k0_t9 = 1#1), ∀ a x, ((![v240] : Fin 1 → IVec S16 32) a x).toNat < S40064.size a := fun i k0_t9 v240 k0_hw19 k0_h1 => k0_hw19 k0_h1

def k0_chk20 (i : grid0.Coords) (k0_t9 : Fin (k0_t9_loop i).trips) (v243 : IVec S16 32) : Prop :=
  (∀ (k0_h1 : k0_cond1 i k0_t9 = 1#1), ∀ a x, ((![v243] : Fin 1 → IVec S16 32) a x).toNat < S40960.size a)
theorem k0_idx20_inb : ∀ (i : grid0.Coords) (k0_t9 : Fin (k0_t9_loop i).trips) (v243 : IVec S16 32) (k0_hw20 : k0_chk20 i k0_t9 v243), ∀ (k0_h1 : k0_cond1 i k0_t9 = 1#1), ∀ a x, ((![v243] : Fin 1 → IVec S16 32) a x).toNat < S40960.size a := fun i k0_t9 v243 k0_hw20 k0_h1 => k0_hw20 k0_h1

def k0_chk21 (i : grid0.Coords) (k0_t9 : Fin (k0_t9_loop i).trips) (v247 : IVec S16 32) : Prop :=
  (∀ (k0_h1 : k0_cond1 i k0_t9 = 1#1), ∀ a x, ((![v247] : Fin 1 → IVec S16 32) a x).toNat < S40064.size a)
theorem k0_idx21_inb : ∀ (i : grid0.Coords) (k0_t9 : Fin (k0_t9_loop i).trips) (v247 : IVec S16 32) (k0_hw21 : k0_chk21 i k0_t9 v247), ∀ (k0_h1 : k0_cond1 i k0_t9 = 1#1), ∀ a x, ((![v247] : Fin 1 → IVec S16 32) a x).toNat < S40064.size a := fun i k0_t9 v247 k0_hw21 k0_h1 => k0_hw21 k0_h1

def k0_chk22 (i : grid0.Coords) (k0_t9 : Fin (k0_t9_loop i).trips) (v250 : IVec S16 32) : Prop :=
  (∀ (k0_h1 : k0_cond1 i k0_t9 = 1#1), ∀ a x, ((![v250] : Fin 1 → IVec S16 32) a x).toNat < S40960.size a)
theorem k0_idx22_inb : ∀ (i : grid0.Coords) (k0_t9 : Fin (k0_t9_loop i).trips) (v250 : IVec S16 32) (k0_hw22 : k0_chk22 i k0_t9 v250), ∀ (k0_h1 : k0_cond1 i k0_t9 = 1#1), ∀ a x, ((![v250] : Fin 1 → IVec S16 32) a x).toNat < S40960.size a := fun i k0_t9 v250 k0_hw22 k0_h1 => k0_hw22 k0_h1

def k0_chk23 (i : grid0.Coords) (k0_t9 : Fin (k0_t9_loop i).trips) (v254 : IVec S16 32) : Prop :=
  (∀ (k0_h1 : k0_cond1 i k0_t9 = 1#1), ∀ a x, ((![v254] : Fin 1 → IVec S16 32) a x).toNat < S40064.size a)
theorem k0_idx23_inb : ∀ (i : grid0.Coords) (k0_t9 : Fin (k0_t9_loop i).trips) (v254 : IVec S16 32) (k0_hw23 : k0_chk23 i k0_t9 v254), ∀ (k0_h1 : k0_cond1 i k0_t9 = 1#1), ∀ a x, ((![v254] : Fin 1 → IVec S16 32) a x).toNat < S40064.size a := fun i k0_t9 v254 k0_hw23 k0_h1 => k0_hw23 k0_h1

def k0_chk24 (i : grid0.Coords) (k0_t9 : Fin (k0_t9_loop i).trips) (v257 : IVec S16 32) : Prop :=
  (∀ (k0_h1 : k0_cond1 i k0_t9 = 1#1), ∀ a x, ((![v257] : Fin 1 → IVec S16 32) a x).toNat < S40960.size a)
theorem k0_idx24_inb : ∀ (i : grid0.Coords) (k0_t9 : Fin (k0_t9_loop i).trips) (v257 : IVec S16 32) (k0_hw24 : k0_chk24 i k0_t9 v257), ∀ (k0_h1 : k0_cond1 i k0_t9 = 1#1), ∀ a x, ((![v257] : Fin 1 → IVec S16 32) a x).toNat < S40960.size a := fun i k0_t9 v257 k0_hw24 k0_h1 => k0_hw24 k0_h1

def k0_chk25 (i : grid0.Coords) (k0_t9 : Fin (k0_t9_loop i).trips) (v261 : IVec S16 32) : Prop :=
  (∀ (k0_h1 : k0_cond1 i k0_t9 = 1#1), ∀ a x, ((![v261] : Fin 1 → IVec S16 32) a x).toNat < S40064.size a)
theorem k0_idx25_inb : ∀ (i : grid0.Coords) (k0_t9 : Fin (k0_t9_loop i).trips) (v261 : IVec S16 32) (k0_hw25 : k0_chk25 i k0_t9 v261), ∀ (k0_h1 : k0_cond1 i k0_t9 = 1#1), ∀ a x, ((![v261] : Fin 1 → IVec S16 32) a x).toNat < S40064.size a := fun i k0_t9 v261 k0_hw25 k0_h1 => k0_hw25 k0_h1

def k0_chk26 (i : grid0.Coords) (k0_t9 : Fin (k0_t9_loop i).trips) (v264 : IVec S16 32) : Prop :=
  (∀ (k0_h1 : k0_cond1 i k0_t9 = 1#1), ∀ a x, ((![v264] : Fin 1 → IVec S16 32) a x).toNat < S40960.size a)
theorem k0_idx26_inb : ∀ (i : grid0.Coords) (k0_t9 : Fin (k0_t9_loop i).trips) (v264 : IVec S16 32) (k0_hw26 : k0_chk26 i k0_t9 v264), ∀ (k0_h1 : k0_cond1 i k0_t9 = 1#1), ∀ a x, ((![v264] : Fin 1 → IVec S16 32) a x).toNat < S40960.size a := fun i k0_t9 v264 k0_hw26 k0_h1 => k0_hw26 k0_h1

def k0_chk27 (i : grid0.Coords) (k0_t9 : Fin (k0_t9_loop i).trips) (v268 : IVec S16 32) : Prop :=
  (∀ (k0_h1 : k0_cond1 i k0_t9 = 1#1), ∀ a x, ((![v268] : Fin 1 → IVec S16 32) a x).toNat < S40064.size a)
theorem k0_idx27_inb : ∀ (i : grid0.Coords) (k0_t9 : Fin (k0_t9_loop i).trips) (v268 : IVec S16 32) (k0_hw27 : k0_chk27 i k0_t9 v268), ∀ (k0_h1 : k0_cond1 i k0_t9 = 1#1), ∀ a x, ((![v268] : Fin 1 → IVec S16 32) a x).toNat < S40064.size a := fun i k0_t9 v268 k0_hw27 k0_h1 => k0_hw27 k0_h1

def k0_chk28 (i : grid0.Coords) (k0_t9 : Fin (k0_t9_loop i).trips) (v271 : IVec S16 32) : Prop :=
  (∀ (k0_h1 : k0_cond1 i k0_t9 = 1#1), ∀ a x, ((![v271] : Fin 1 → IVec S16 32) a x).toNat < S40960.size a)
theorem k0_idx28_inb : ∀ (i : grid0.Coords) (k0_t9 : Fin (k0_t9_loop i).trips) (v271 : IVec S16 32) (k0_hw28 : k0_chk28 i k0_t9 v271), ∀ (k0_h1 : k0_cond1 i k0_t9 = 1#1), ∀ a x, ((![v271] : Fin 1 → IVec S16 32) a x).toNat < S40960.size a := fun i k0_t9 v271 k0_hw28 k0_h1 => k0_hw28 k0_h1

def k0_chk29 (i : grid0.Coords) (k0_t9 : Fin (k0_t9_loop i).trips) (v275 : IVec S16 32) : Prop :=
  (∀ (k0_h1 : k0_cond1 i k0_t9 = 1#1), ∀ a x, ((![v275] : Fin 1 → IVec S16 32) a x).toNat < S40064.size a)
theorem k0_idx29_inb : ∀ (i : grid0.Coords) (k0_t9 : Fin (k0_t9_loop i).trips) (v275 : IVec S16 32) (k0_hw29 : k0_chk29 i k0_t9 v275), ∀ (k0_h1 : k0_cond1 i k0_t9 = 1#1), ∀ a x, ((![v275] : Fin 1 → IVec S16 32) a x).toNat < S40064.size a := fun i k0_t9 v275 k0_hw29 k0_h1 => k0_hw29 k0_h1

def k0_chk30 (i : grid0.Coords) (k0_t9 : Fin (k0_t9_loop i).trips) (v278 : IVec S16 32) : Prop :=
  (∀ (k0_h1 : k0_cond1 i k0_t9 = 1#1), ∀ a x, ((![v278] : Fin 1 → IVec S16 32) a x).toNat < S40960.size a)
theorem k0_idx30_inb : ∀ (i : grid0.Coords) (k0_t9 : Fin (k0_t9_loop i).trips) (v278 : IVec S16 32) (k0_hw30 : k0_chk30 i k0_t9 v278), ∀ (k0_h1 : k0_cond1 i k0_t9 = 1#1), ∀ a x, ((![v278] : Fin 1 → IVec S16 32) a x).toNat < S40960.size a := fun i k0_t9 v278 k0_hw30 k0_h1 => k0_hw30 k0_h1

def k0_chk31 (i : grid0.Coords) (k0_t9 : Fin (k0_t9_loop i).trips) (v282 : IVec S16 32) : Prop :=
  (∀ (k0_h1 : k0_cond1 i k0_t9 = 1#1), ∀ a x, ((![v282] : Fin 1 → IVec S16 32) a x).toNat < S40064.size a)
theorem k0_idx31_inb : ∀ (i : grid0.Coords) (k0_t9 : Fin (k0_t9_loop i).trips) (v282 : IVec S16 32) (k0_hw31 : k0_chk31 i k0_t9 v282), ∀ (k0_h1 : k0_cond1 i k0_t9 = 1#1), ∀ a x, ((![v282] : Fin 1 → IVec S16 32) a x).toNat < S40064.size a := fun i k0_t9 v282 k0_hw31 k0_h1 => k0_hw31 k0_h1

def k0_chk32 (i : grid0.Coords) (k0_t9 : Fin (k0_t9_loop i).trips) (v285 : IVec S16 32) : Prop :=
  (∀ (k0_h1 : k0_cond1 i k0_t9 = 1#1), ∀ a x, ((![v285] : Fin 1 → IVec S16 32) a x).toNat < S40960.size a)
theorem k0_idx32_inb : ∀ (i : grid0.Coords) (k0_t9 : Fin (k0_t9_loop i).trips) (v285 : IVec S16 32) (k0_hw32 : k0_chk32 i k0_t9 v285), ∀ (k0_h1 : k0_cond1 i k0_t9 = 1#1), ∀ a x, ((![v285] : Fin 1 → IVec S16 32) a x).toNat < S40960.size a := fun i k0_t9 v285 k0_hw32 k0_h1 => k0_hw32 k0_h1
def k0_off13 (k0_t10 : Fin k0_t10_loop.trips) : Fin 1 → Nat :=
  let c0_i32_89 : BitVec 32 := 0#32
  let c1_i32_90 : BitVec 32 := 1#32
  let arg18 : BitVec 32 := Scf.iv c0_i32_89 c1_i32_90 k0_t10
  let c4_i32_155 : BitVec 32 := 4#32
  let v288 : BitVec 32 := Scalar.muli arg18 c4_i32_155
  let c2_i32_156 : BitVec 32 := 2#32
  let v289 : BitVec 32 := Scalar.addi v288 c2_i32_156
  let c16_i32_157 : BitVec 32 := 16#32
  let v290 : BitVec 32 := Scalar.muli v289 c16_i32_157
  let v291 : Index := Scalar.indexCast v290
  ![v291.toNat]

def k0_chk33 (i : grid0.Coords) (k0_t9 : Fin (k0_t9_loop i).trips) (v313 : IVec S16 32) : Prop :=
  (∀ (k0_h1 : k0_cond1 i k0_t9 = 1#1), ∀ a x, ((![v313] : Fin 1 → IVec S16 32) a x).toNat < S40064.size a)
theorem k0_idx33_inb : ∀ (i : grid0.Coords) (k0_t9 : Fin (k0_t9_loop i).trips) (v313 : IVec S16 32) (k0_hw33 : k0_chk33 i k0_t9 v313), ∀ (k0_h1 : k0_cond1 i k0_t9 = 1#1), ∀ a x, ((![v313] : Fin 1 → IVec S16 32) a x).toNat < S40064.size a := fun i k0_t9 v313 k0_hw33 k0_h1 => k0_hw33 k0_h1

def k0_chk34 (i : grid0.Coords) (k0_t9 : Fin (k0_t9_loop i).trips) (v316 : IVec S16 32) : Prop :=
  (∀ (k0_h1 : k0_cond1 i k0_t9 = 1#1), ∀ a x, ((![v316] : Fin 1 → IVec S16 32) a x).toNat < S40960.size a)
theorem k0_idx34_inb : ∀ (i : grid0.Coords) (k0_t9 : Fin (k0_t9_loop i).trips) (v316 : IVec S16 32) (k0_hw34 : k0_chk34 i k0_t9 v316), ∀ (k0_h1 : k0_cond1 i k0_t9 = 1#1), ∀ a x, ((![v316] : Fin 1 → IVec S16 32) a x).toNat < S40960.size a := fun i k0_t9 v316 k0_hw34 k0_h1 => k0_hw34 k0_h1

def k0_chk35 (i : grid0.Coords) (k0_t9 : Fin (k0_t9_loop i).trips) (v320 : IVec S16 32) : Prop :=
  (∀ (k0_h1 : k0_cond1 i k0_t9 = 1#1), ∀ a x, ((![v320] : Fin 1 → IVec S16 32) a x).toNat < S40064.size a)
theorem k0_idx35_inb : ∀ (i : grid0.Coords) (k0_t9 : Fin (k0_t9_loop i).trips) (v320 : IVec S16 32) (k0_hw35 : k0_chk35 i k0_t9 v320), ∀ (k0_h1 : k0_cond1 i k0_t9 = 1#1), ∀ a x, ((![v320] : Fin 1 → IVec S16 32) a x).toNat < S40064.size a := fun i k0_t9 v320 k0_hw35 k0_h1 => k0_hw35 k0_h1

def k0_chk36 (i : grid0.Coords) (k0_t9 : Fin (k0_t9_loop i).trips) (v323 : IVec S16 32) : Prop :=
  (∀ (k0_h1 : k0_cond1 i k0_t9 = 1#1), ∀ a x, ((![v323] : Fin 1 → IVec S16 32) a x).toNat < S40960.size a)
theorem k0_idx36_inb : ∀ (i : grid0.Coords) (k0_t9 : Fin (k0_t9_loop i).trips) (v323 : IVec S16 32) (k0_hw36 : k0_chk36 i k0_t9 v323), ∀ (k0_h1 : k0_cond1 i k0_t9 = 1#1), ∀ a x, ((![v323] : Fin 1 → IVec S16 32) a x).toNat < S40960.size a := fun i k0_t9 v323 k0_hw36 k0_h1 => k0_hw36 k0_h1

def k0_chk37 (i : grid0.Coords) (k0_t9 : Fin (k0_t9_loop i).trips) (v327 : IVec S16 32) : Prop :=
  (∀ (k0_h1 : k0_cond1 i k0_t9 = 1#1), ∀ a x, ((![v327] : Fin 1 → IVec S16 32) a x).toNat < S40064.size a)
theorem k0_idx37_inb : ∀ (i : grid0.Coords) (k0_t9 : Fin (k0_t9_loop i).trips) (v327 : IVec S16 32) (k0_hw37 : k0_chk37 i k0_t9 v327), ∀ (k0_h1 : k0_cond1 i k0_t9 = 1#1), ∀ a x, ((![v327] : Fin 1 → IVec S16 32) a x).toNat < S40064.size a := fun i k0_t9 v327 k0_hw37 k0_h1 => k0_hw37 k0_h1

def k0_chk38 (i : grid0.Coords) (k0_t9 : Fin (k0_t9_loop i).trips) (v330 : IVec S16 32) : Prop :=
  (∀ (k0_h1 : k0_cond1 i k0_t9 = 1#1), ∀ a x, ((![v330] : Fin 1 → IVec S16 32) a x).toNat < S40960.size a)
theorem k0_idx38_inb : ∀ (i : grid0.Coords) (k0_t9 : Fin (k0_t9_loop i).trips) (v330 : IVec S16 32) (k0_hw38 : k0_chk38 i k0_t9 v330), ∀ (k0_h1 : k0_cond1 i k0_t9 = 1#1), ∀ a x, ((![v330] : Fin 1 → IVec S16 32) a x).toNat < S40960.size a := fun i k0_t9 v330 k0_hw38 k0_h1 => k0_hw38 k0_h1

def k0_chk39 (i : grid0.Coords) (k0_t9 : Fin (k0_t9_loop i).trips) (v334 : IVec S16 32) : Prop :=
  (∀ (k0_h1 : k0_cond1 i k0_t9 = 1#1), ∀ a x, ((![v334] : Fin 1 → IVec S16 32) a x).toNat < S40064.size a)
theorem k0_idx39_inb : ∀ (i : grid0.Coords) (k0_t9 : Fin (k0_t9_loop i).trips) (v334 : IVec S16 32) (k0_hw39 : k0_chk39 i k0_t9 v334), ∀ (k0_h1 : k0_cond1 i k0_t9 = 1#1), ∀ a x, ((![v334] : Fin 1 → IVec S16 32) a x).toNat < S40064.size a := fun i k0_t9 v334 k0_hw39 k0_h1 => k0_hw39 k0_h1

def k0_chk40 (i : grid0.Coords) (k0_t9 : Fin (k0_t9_loop i).trips) (v337 : IVec S16 32) : Prop :=
  (∀ (k0_h1 : k0_cond1 i k0_t9 = 1#1), ∀ a x, ((![v337] : Fin 1 → IVec S16 32) a x).toNat < S40960.size a)
theorem k0_idx40_inb : ∀ (i : grid0.Coords) (k0_t9 : Fin (k0_t9_loop i).trips) (v337 : IVec S16 32) (k0_hw40 : k0_chk40 i k0_t9 v337), ∀ (k0_h1 : k0_cond1 i k0_t9 = 1#1), ∀ a x, ((![v337] : Fin 1 → IVec S16 32) a x).toNat < S40960.size a := fun i k0_t9 v337 k0_hw40 k0_h1 => k0_hw40 k0_h1

def k0_chk41 (i : grid0.Coords) (k0_t9 : Fin (k0_t9_loop i).trips) (v341 : IVec S16 32) : Prop :=
  (∀ (k0_h1 : k0_cond1 i k0_t9 = 1#1), ∀ a x, ((![v341] : Fin 1 → IVec S16 32) a x).toNat < S40064.size a)
theorem k0_idx41_inb : ∀ (i : grid0.Coords) (k0_t9 : Fin (k0_t9_loop i).trips) (v341 : IVec S16 32) (k0_hw41 : k0_chk41 i k0_t9 v341), ∀ (k0_h1 : k0_cond1 i k0_t9 = 1#1), ∀ a x, ((![v341] : Fin 1 → IVec S16 32) a x).toNat < S40064.size a := fun i k0_t9 v341 k0_hw41 k0_h1 => k0_hw41 k0_h1

def k0_chk42 (i : grid0.Coords) (k0_t9 : Fin (k0_t9_loop i).trips) (v344 : IVec S16 32) : Prop :=
  (∀ (k0_h1 : k0_cond1 i k0_t9 = 1#1), ∀ a x, ((![v344] : Fin 1 → IVec S16 32) a x).toNat < S40960.size a)
theorem k0_idx42_inb : ∀ (i : grid0.Coords) (k0_t9 : Fin (k0_t9_loop i).trips) (v344 : IVec S16 32) (k0_hw42 : k0_chk42 i k0_t9 v344), ∀ (k0_h1 : k0_cond1 i k0_t9 = 1#1), ∀ a x, ((![v344] : Fin 1 → IVec S16 32) a x).toNat < S40960.size a := fun i k0_t9 v344 k0_hw42 k0_h1 => k0_hw42 k0_h1

def k0_chk43 (i : grid0.Coords) (k0_t9 : Fin (k0_t9_loop i).trips) (v348 : IVec S16 32) : Prop :=
  (∀ (k0_h1 : k0_cond1 i k0_t9 = 1#1), ∀ a x, ((![v348] : Fin 1 → IVec S16 32) a x).toNat < S40064.size a)
theorem k0_idx43_inb : ∀ (i : grid0.Coords) (k0_t9 : Fin (k0_t9_loop i).trips) (v348 : IVec S16 32) (k0_hw43 : k0_chk43 i k0_t9 v348), ∀ (k0_h1 : k0_cond1 i k0_t9 = 1#1), ∀ a x, ((![v348] : Fin 1 → IVec S16 32) a x).toNat < S40064.size a := fun i k0_t9 v348 k0_hw43 k0_h1 => k0_hw43 k0_h1

def k0_chk44 (i : grid0.Coords) (k0_t9 : Fin (k0_t9_loop i).trips) (v351 : IVec S16 32) : Prop :=
  (∀ (k0_h1 : k0_cond1 i k0_t9 = 1#1), ∀ a x, ((![v351] : Fin 1 → IVec S16 32) a x).toNat < S40960.size a)
theorem k0_idx44_inb : ∀ (i : grid0.Coords) (k0_t9 : Fin (k0_t9_loop i).trips) (v351 : IVec S16 32) (k0_hw44 : k0_chk44 i k0_t9 v351), ∀ (k0_h1 : k0_cond1 i k0_t9 = 1#1), ∀ a x, ((![v351] : Fin 1 → IVec S16 32) a x).toNat < S40960.size a := fun i k0_t9 v351 k0_hw44 k0_h1 => k0_hw44 k0_h1

def k0_chk45 (i : grid0.Coords) (k0_t9 : Fin (k0_t9_loop i).trips) (v355 : IVec S16 32) : Prop :=
  (∀ (k0_h1 : k0_cond1 i k0_t9 = 1#1), ∀ a x, ((![v355] : Fin 1 → IVec S16 32) a x).toNat < S40064.size a)
theorem k0_idx45_inb : ∀ (i : grid0.Coords) (k0_t9 : Fin (k0_t9_loop i).trips) (v355 : IVec S16 32) (k0_hw45 : k0_chk45 i k0_t9 v355), ∀ (k0_h1 : k0_cond1 i k0_t9 = 1#1), ∀ a x, ((![v355] : Fin 1 → IVec S16 32) a x).toNat < S40064.size a := fun i k0_t9 v355 k0_hw45 k0_h1 => k0_hw45 k0_h1

def k0_chk46 (i : grid0.Coords) (k0_t9 : Fin (k0_t9_loop i).trips) (v358 : IVec S16 32) : Prop :=
  (∀ (k0_h1 : k0_cond1 i k0_t9 = 1#1), ∀ a x, ((![v358] : Fin 1 → IVec S16 32) a x).toNat < S40960.size a)
theorem k0_idx46_inb : ∀ (i : grid0.Coords) (k0_t9 : Fin (k0_t9_loop i).trips) (v358 : IVec S16 32) (k0_hw46 : k0_chk46 i k0_t9 v358), ∀ (k0_h1 : k0_cond1 i k0_t9 = 1#1), ∀ a x, ((![v358] : Fin 1 → IVec S16 32) a x).toNat < S40960.size a := fun i k0_t9 v358 k0_hw46 k0_h1 => k0_hw46 k0_h1

def k0_chk47 (i : grid0.Coords) (k0_t9 : Fin (k0_t9_loop i).trips) (v362 : IVec S16 32) : Prop :=
  (∀ (k0_h1 : k0_cond1 i k0_t9 = 1#1), ∀ a x, ((![v362] : Fin 1 → IVec S16 32) a x).toNat < S40064.size a)
theorem k0_idx47_inb : ∀ (i : grid0.Coords) (k0_t9 : Fin (k0_t9_loop i).trips) (v362 : IVec S16 32) (k0_hw47 : k0_chk47 i k0_t9 v362), ∀ (k0_h1 : k0_cond1 i k0_t9 = 1#1), ∀ a x, ((![v362] : Fin 1 → IVec S16 32) a x).toNat < S40064.size a := fun i k0_t9 v362 k0_hw47 k0_h1 => k0_hw47 k0_h1

def k0_chk48 (i : grid0.Coords) (k0_t9 : Fin (k0_t9_loop i).trips) (v365 : IVec S16 32) : Prop :=
  (∀ (k0_h1 : k0_cond1 i k0_t9 = 1#1), ∀ a x, ((![v365] : Fin 1 → IVec S16 32) a x).toNat < S40960.size a)
theorem k0_idx48_inb : ∀ (i : grid0.Coords) (k0_t9 : Fin (k0_t9_loop i).trips) (v365 : IVec S16 32) (k0_hw48 : k0_chk48 i k0_t9 v365), ∀ (k0_h1 : k0_cond1 i k0_t9 = 1#1), ∀ a x, ((![v365] : Fin 1 → IVec S16 32) a x).toNat < S40960.size a := fun i k0_t9 v365 k0_hw48 k0_h1 => k0_hw48 k0_h1
def k0_off14 (k0_t10 : Fin k0_t10_loop.trips) : Fin 1 → Nat :=
  let c0_i32_89 : BitVec 32 := 0#32
  let c1_i32_90 : BitVec 32 := 1#32
  let arg18 : BitVec 32 := Scf.iv c0_i32_89 c1_i32_90 k0_t10
  let c4_i32_189 : BitVec 32 := 4#32
  let v368 : BitVec 32 := Scalar.muli arg18 c4_i32_189
  let c3_i32_190 : BitVec 32 := 3#32
  let v369 : BitVec 32 := Scalar.addi v368 c3_i32_190
  let c16_i32_191 : BitVec 32 := 16#32
  let v370 : BitVec 32 := Scalar.muli v369 c16_i32_191
  let v371 : Index := Scalar.indexCast v370
  ![v371.toNat]

def k0_chk49 (i : grid0.Coords) (k0_t9 : Fin (k0_t9_loop i).trips) (v393 : IVec S16 32) : Prop :=
  (∀ (k0_h1 : k0_cond1 i k0_t9 = 1#1), ∀ a x, ((![v393] : Fin 1 → IVec S16 32) a x).toNat < S40064.size a)
theorem k0_idx49_inb : ∀ (i : grid0.Coords) (k0_t9 : Fin (k0_t9_loop i).trips) (v393 : IVec S16 32) (k0_hw49 : k0_chk49 i k0_t9 v393), ∀ (k0_h1 : k0_cond1 i k0_t9 = 1#1), ∀ a x, ((![v393] : Fin 1 → IVec S16 32) a x).toNat < S40064.size a := fun i k0_t9 v393 k0_hw49 k0_h1 => k0_hw49 k0_h1

def k0_chk50 (i : grid0.Coords) (k0_t9 : Fin (k0_t9_loop i).trips) (v396 : IVec S16 32) : Prop :=
  (∀ (k0_h1 : k0_cond1 i k0_t9 = 1#1), ∀ a x, ((![v396] : Fin 1 → IVec S16 32) a x).toNat < S40960.size a)
theorem k0_idx50_inb : ∀ (i : grid0.Coords) (k0_t9 : Fin (k0_t9_loop i).trips) (v396 : IVec S16 32) (k0_hw50 : k0_chk50 i k0_t9 v396), ∀ (k0_h1 : k0_cond1 i k0_t9 = 1#1), ∀ a x, ((![v396] : Fin 1 → IVec S16 32) a x).toNat < S40960.size a := fun i k0_t9 v396 k0_hw50 k0_h1 => k0_hw50 k0_h1

def k0_chk51 (i : grid0.Coords) (k0_t9 : Fin (k0_t9_loop i).trips) (v400 : IVec S16 32) : Prop :=
  (∀ (k0_h1 : k0_cond1 i k0_t9 = 1#1), ∀ a x, ((![v400] : Fin 1 → IVec S16 32) a x).toNat < S40064.size a)
theorem k0_idx51_inb : ∀ (i : grid0.Coords) (k0_t9 : Fin (k0_t9_loop i).trips) (v400 : IVec S16 32) (k0_hw51 : k0_chk51 i k0_t9 v400), ∀ (k0_h1 : k0_cond1 i k0_t9 = 1#1), ∀ a x, ((![v400] : Fin 1 → IVec S16 32) a x).toNat < S40064.size a := fun i k0_t9 v400 k0_hw51 k0_h1 => k0_hw51 k0_h1

def k0_chk52 (i : grid0.Coords) (k0_t9 : Fin (k0_t9_loop i).trips) (v403 : IVec S16 32) : Prop :=
  (∀ (k0_h1 : k0_cond1 i k0_t9 = 1#1), ∀ a x, ((![v403] : Fin 1 → IVec S16 32) a x).toNat < S40960.size a)
theorem k0_idx52_inb : ∀ (i : grid0.Coords) (k0_t9 : Fin (k0_t9_loop i).trips) (v403 : IVec S16 32) (k0_hw52 : k0_chk52 i k0_t9 v403), ∀ (k0_h1 : k0_cond1 i k0_t9 = 1#1), ∀ a x, ((![v403] : Fin 1 → IVec S16 32) a x).toNat < S40960.size a := fun i k0_t9 v403 k0_hw52 k0_h1 => k0_hw52 k0_h1

def k0_chk53 (i : grid0.Coords) (k0_t9 : Fin (k0_t9_loop i).trips) (v407 : IVec S16 32) : Prop :=
  (∀ (k0_h1 : k0_cond1 i k0_t9 = 1#1), ∀ a x, ((![v407] : Fin 1 → IVec S16 32) a x).toNat < S40064.size a)
theorem k0_idx53_inb : ∀ (i : grid0.Coords) (k0_t9 : Fin (k0_t9_loop i).trips) (v407 : IVec S16 32) (k0_hw53 : k0_chk53 i k0_t9 v407), ∀ (k0_h1 : k0_cond1 i k0_t9 = 1#1), ∀ a x, ((![v407] : Fin 1 → IVec S16 32) a x).toNat < S40064.size a := fun i k0_t9 v407 k0_hw53 k0_h1 => k0_hw53 k0_h1

def k0_chk54 (i : grid0.Coords) (k0_t9 : Fin (k0_t9_loop i).trips) (v410 : IVec S16 32) : Prop :=
  (∀ (k0_h1 : k0_cond1 i k0_t9 = 1#1), ∀ a x, ((![v410] : Fin 1 → IVec S16 32) a x).toNat < S40960.size a)
theorem k0_idx54_inb : ∀ (i : grid0.Coords) (k0_t9 : Fin (k0_t9_loop i).trips) (v410 : IVec S16 32) (k0_hw54 : k0_chk54 i k0_t9 v410), ∀ (k0_h1 : k0_cond1 i k0_t9 = 1#1), ∀ a x, ((![v410] : Fin 1 → IVec S16 32) a x).toNat < S40960.size a := fun i k0_t9 v410 k0_hw54 k0_h1 => k0_hw54 k0_h1

def k0_chk55 (i : grid0.Coords) (k0_t9 : Fin (k0_t9_loop i).trips) (v414 : IVec S16 32) : Prop :=
  (∀ (k0_h1 : k0_cond1 i k0_t9 = 1#1), ∀ a x, ((![v414] : Fin 1 → IVec S16 32) a x).toNat < S40064.size a)
theorem k0_idx55_inb : ∀ (i : grid0.Coords) (k0_t9 : Fin (k0_t9_loop i).trips) (v414 : IVec S16 32) (k0_hw55 : k0_chk55 i k0_t9 v414), ∀ (k0_h1 : k0_cond1 i k0_t9 = 1#1), ∀ a x, ((![v414] : Fin 1 → IVec S16 32) a x).toNat < S40064.size a := fun i k0_t9 v414 k0_hw55 k0_h1 => k0_hw55 k0_h1

def k0_chk56 (i : grid0.Coords) (k0_t9 : Fin (k0_t9_loop i).trips) (v417 : IVec S16 32) : Prop :=
  (∀ (k0_h1 : k0_cond1 i k0_t9 = 1#1), ∀ a x, ((![v417] : Fin 1 → IVec S16 32) a x).toNat < S40960.size a)
theorem k0_idx56_inb : ∀ (i : grid0.Coords) (k0_t9 : Fin (k0_t9_loop i).trips) (v417 : IVec S16 32) (k0_hw56 : k0_chk56 i k0_t9 v417), ∀ (k0_h1 : k0_cond1 i k0_t9 = 1#1), ∀ a x, ((![v417] : Fin 1 → IVec S16 32) a x).toNat < S40960.size a := fun i k0_t9 v417 k0_hw56 k0_h1 => k0_hw56 k0_h1

def k0_chk57 (i : grid0.Coords) (k0_t9 : Fin (k0_t9_loop i).trips) (v421 : IVec S16 32) : Prop :=
  (∀ (k0_h1 : k0_cond1 i k0_t9 = 1#1), ∀ a x, ((![v421] : Fin 1 → IVec S16 32) a x).toNat < S40064.size a)
theorem k0_idx57_inb : ∀ (i : grid0.Coords) (k0_t9 : Fin (k0_t9_loop i).trips) (v421 : IVec S16 32) (k0_hw57 : k0_chk57 i k0_t9 v421), ∀ (k0_h1 : k0_cond1 i k0_t9 = 1#1), ∀ a x, ((![v421] : Fin 1 → IVec S16 32) a x).toNat < S40064.size a := fun i k0_t9 v421 k0_hw57 k0_h1 => k0_hw57 k0_h1

def k0_chk58 (i : grid0.Coords) (k0_t9 : Fin (k0_t9_loop i).trips) (v424 : IVec S16 32) : Prop :=
  (∀ (k0_h1 : k0_cond1 i k0_t9 = 1#1), ∀ a x, ((![v424] : Fin 1 → IVec S16 32) a x).toNat < S40960.size a)
theorem k0_idx58_inb : ∀ (i : grid0.Coords) (k0_t9 : Fin (k0_t9_loop i).trips) (v424 : IVec S16 32) (k0_hw58 : k0_chk58 i k0_t9 v424), ∀ (k0_h1 : k0_cond1 i k0_t9 = 1#1), ∀ a x, ((![v424] : Fin 1 → IVec S16 32) a x).toNat < S40960.size a := fun i k0_t9 v424 k0_hw58 k0_h1 => k0_hw58 k0_h1

def k0_chk59 (i : grid0.Coords) (k0_t9 : Fin (k0_t9_loop i).trips) (v428 : IVec S16 32) : Prop :=
  (∀ (k0_h1 : k0_cond1 i k0_t9 = 1#1), ∀ a x, ((![v428] : Fin 1 → IVec S16 32) a x).toNat < S40064.size a)
theorem k0_idx59_inb : ∀ (i : grid0.Coords) (k0_t9 : Fin (k0_t9_loop i).trips) (v428 : IVec S16 32) (k0_hw59 : k0_chk59 i k0_t9 v428), ∀ (k0_h1 : k0_cond1 i k0_t9 = 1#1), ∀ a x, ((![v428] : Fin 1 → IVec S16 32) a x).toNat < S40064.size a := fun i k0_t9 v428 k0_hw59 k0_h1 => k0_hw59 k0_h1

def k0_chk60 (i : grid0.Coords) (k0_t9 : Fin (k0_t9_loop i).trips) (v431 : IVec S16 32) : Prop :=
  (∀ (k0_h1 : k0_cond1 i k0_t9 = 1#1), ∀ a x, ((![v431] : Fin 1 → IVec S16 32) a x).toNat < S40960.size a)
theorem k0_idx60_inb : ∀ (i : grid0.Coords) (k0_t9 : Fin (k0_t9_loop i).trips) (v431 : IVec S16 32) (k0_hw60 : k0_chk60 i k0_t9 v431), ∀ (k0_h1 : k0_cond1 i k0_t9 = 1#1), ∀ a x, ((![v431] : Fin 1 → IVec S16 32) a x).toNat < S40960.size a := fun i k0_t9 v431 k0_hw60 k0_h1 => k0_hw60 k0_h1

def k0_chk61 (i : grid0.Coords) (k0_t9 : Fin (k0_t9_loop i).trips) (v435 : IVec S16 32) : Prop :=
  (∀ (k0_h1 : k0_cond1 i k0_t9 = 1#1), ∀ a x, ((![v435] : Fin 1 → IVec S16 32) a x).toNat < S40064.size a)
theorem k0_idx61_inb : ∀ (i : grid0.Coords) (k0_t9 : Fin (k0_t9_loop i).trips) (v435 : IVec S16 32) (k0_hw61 : k0_chk61 i k0_t9 v435), ∀ (k0_h1 : k0_cond1 i k0_t9 = 1#1), ∀ a x, ((![v435] : Fin 1 → IVec S16 32) a x).toNat < S40064.size a := fun i k0_t9 v435 k0_hw61 k0_h1 => k0_hw61 k0_h1

def k0_chk62 (i : grid0.Coords) (k0_t9 : Fin (k0_t9_loop i).trips) (v438 : IVec S16 32) : Prop :=
  (∀ (k0_h1 : k0_cond1 i k0_t9 = 1#1), ∀ a x, ((![v438] : Fin 1 → IVec S16 32) a x).toNat < S40960.size a)
theorem k0_idx62_inb : ∀ (i : grid0.Coords) (k0_t9 : Fin (k0_t9_loop i).trips) (v438 : IVec S16 32) (k0_hw62 : k0_chk62 i k0_t9 v438), ∀ (k0_h1 : k0_cond1 i k0_t9 = 1#1), ∀ a x, ((![v438] : Fin 1 → IVec S16 32) a x).toNat < S40960.size a := fun i k0_t9 v438 k0_hw62 k0_h1 => k0_hw62 k0_h1

def k0_chk63 (i : grid0.Coords) (k0_t9 : Fin (k0_t9_loop i).trips) (v442 : IVec S16 32) : Prop :=
  (∀ (k0_h1 : k0_cond1 i k0_t9 = 1#1), ∀ a x, ((![v442] : Fin 1 → IVec S16 32) a x).toNat < S40064.size a)
theorem k0_idx63_inb : ∀ (i : grid0.Coords) (k0_t9 : Fin (k0_t9_loop i).trips) (v442 : IVec S16 32) (k0_hw63 : k0_chk63 i k0_t9 v442), ∀ (k0_h1 : k0_cond1 i k0_t9 = 1#1), ∀ a x, ((![v442] : Fin 1 → IVec S16 32) a x).toNat < S40064.size a := fun i k0_t9 v442 k0_hw63 k0_h1 => k0_hw63 k0_h1

def k0_chk64 (i : grid0.Coords) (k0_t9 : Fin (k0_t9_loop i).trips) (v445 : IVec S16 32) : Prop :=
  (∀ (k0_h1 : k0_cond1 i k0_t9 = 1#1), ∀ a x, ((![v445] : Fin 1 → IVec S16 32) a x).toNat < S40960.size a)
theorem k0_idx64_inb : ∀ (i : grid0.Coords) (k0_t9 : Fin (k0_t9_loop i).trips) (v445 : IVec S16 32) (k0_hw64 : k0_chk64 i k0_t9 v445), ∀ (k0_h1 : k0_cond1 i k0_t9 = 1#1), ∀ a x, ((![v445] : Fin 1 → IVec S16 32) a x).toNat < S40960.size a := fun i k0_t9 v445 k0_hw64 k0_h1 => k0_hw64 k0_h1
def k0_off15 (i : grid0.Coords) (k0_t9 : Fin (k0_t9_loop i).trips) (c0_i32_92 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1_i32_70 : BitVec 32 := 1#32
  let arg16 : BitVec 32 := Scf.iv c0_i32_67 c1_i32_70 k0_t9
  let c2_i32_76 : BitVec 32 := 2#32
  let v90 : BitVec 32 := Scalar.muli arg16 c2_i32_76
  let c0_i32_77 : BitVec 32 := 0#32
  let v91 : BitVec 32 := Scalar.addi v90 c0_i32_77
  let c32_i32_83 : BitVec 32 := 32#32
  let v100 : BitVec 32 := Scalar.muli v91 c32_i32_83
  let v101 : BitVec 32 := Scalar.addi v1 v100
  let c5120_i32 : BitVec 32 := 5120#32
  let v102 : BitVec 32 := Scalar.muli v101 c5120_i32
  let c8_i32 : BitVec 32 := 8#32
  let v108 : BitVec 32 := Scalar.muli v102 c8_i32
  let v109 : BitVec 32 := Scalar.addi v108 c0_i32_92
  ![v109.toNat]
def k0_cond3 (i : grid0.Coords) (k0_t9 : Fin (k0_t9_loop i).trips) : BitVec 1 :=
  let c0_i32_67 : BitVec 32 := 0#32
  let c1_i32_70 : BitVec 32 := 1#32
  let arg16 : BitVec 32 := Scf.iv c0_i32_67 c1_i32_70 k0_t9
  let c2_i32_79 : BitVec 32 := 2#32
  let v95 : BitVec 32 := Scalar.muli arg16 c2_i32_79
  let c1_i32_80 : BitVec 32 := 1#32
  let v96 : BitVec 32 := Scalar.addi v95 c1_i32_80
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let v97 : BitVec 1 := Scalar.cmpi .slt v96 v58
  let v98 : BitVec 32 := Scalar.extui v97
  let c0_i32_81 : BitVec 32 := 0#32
  let v99 : BitVec 1 := Scalar.cmpi .ne v98 c0_i32_81
  v99

def k0_off16 (i : grid0.Coords) (k0_t9 : Fin (k0_t9_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1_i32_70 : BitVec 32 := 1#32
  let arg16 : BitVec 32 := Scf.iv c0_i32_67 c1_i32_70 k0_t9
  let c2_i32_79 : BitVec 32 := 2#32
  let v95 : BitVec 32 := Scalar.muli arg16 c2_i32_79
  let c1_i32_80 : BitVec 32 := 1#32
  let v96 : BitVec 32 := Scalar.addi v95 c1_i32_80
  let c32_i32_83 : BitVec 32 := 32#32
  let v100 : BitVec 32 := Scalar.muli v96 c32_i32_83
  let v101 : BitVec 32 := Scalar.addi v1 v100
  let c5120_i32 : BitVec 32 := 5120#32
  let v102 : BitVec 32 := Scalar.muli v101 c5120_i32
  ![v102.toNat]
def k0_cond4 (i : grid0.Coords) (k0_t9 : Fin (k0_t9_loop i).trips) : BitVec 1 :=
  let c0_i32_67 : BitVec 32 := 0#32
  let c1_i32_70 : BitVec 32 := 1#32
  let arg16 : BitVec 32 := Scf.iv c0_i32_67 c1_i32_70 k0_t9
  let c2_i32_79 : BitVec 32 := 2#32
  let v95 : BitVec 32 := Scalar.muli arg16 c2_i32_79
  let c1_i32_80 : BitVec 32 := 1#32
  let v96 : BitVec 32 := Scalar.addi v95 c1_i32_80
  let c2_i32_84 : BitVec 32 := 2#32
  let v103 : BitVec 1 := Scalar.cmpi .sge v96 c2_i32_84
  let v104 : BitVec 32 := Scalar.extui v103
  let c0_i32_86 : BitVec 32 := 0#32
  let v105 : BitVec 1 := Scalar.cmpi .ne v104 c0_i32_86
  v105

def k0_off17 (i : grid0.Coords) (k0_t9 : Fin (k0_t9_loop i).trips) (c0_i32_105 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1_i32_70 : BitVec 32 := 1#32
  let arg16 : BitVec 32 := Scf.iv c0_i32_67 c1_i32_70 k0_t9
  let c2_i32_79 : BitVec 32 := 2#32
  let v95 : BitVec 32 := Scalar.muli arg16 c2_i32_79
  let c1_i32_80 : BitVec 32 := 1#32
  let v96 : BitVec 32 := Scalar.addi v95 c1_i32_80
  let c32_i32_83 : BitVec 32 := 32#32
  let v100 : BitVec 32 := Scalar.muli v96 c32_i32_83
  let v101 : BitVec 32 := Scalar.addi v1 v100
  let c5120_i32 : BitVec 32 := 5120#32
  let v102 : BitVec 32 := Scalar.muli v101 c5120_i32
  let c8_i32_104 : BitVec 32 := 8#32
  let v128 : BitVec 32 := Scalar.muli v102 c8_i32_104
  let v129 : BitVec 32 := Scalar.addi v128 c0_i32_105
  ![v129.toNat]
@[reducible] def k0_t11_loop : Scf.Loop 32 :=
  let c0_i32_89 : BitVec 32 := 0#32
  let c80_i32 : BitVec 32 := 80#32
  let v106 : BitVec 32 := Scalar.addi c0_i32_89 c80_i32
  let c1_i32_90 : BitVec 32 := 1#32
  ⟨c0_i32_89, v106, c1_i32_90⟩
def k0_off18 (k0_t11 : Fin k0_t11_loop.trips) : Fin 1 → Nat :=
  let c0_i32_89 : BitVec 32 := 0#32
  let c1_i32_90 : BitVec 32 := 1#32
  let arg18 : BitVec 32 := Scf.iv c0_i32_89 c1_i32_90 k0_t11
  let c4_i32_104 : BitVec 32 := 4#32
  let v128 : BitVec 32 := Scalar.muli arg18 c4_i32_104
  let c0_i32_105 : BitVec 32 := 0#32
  let v129 : BitVec 32 := Scalar.addi v128 c0_i32_105
  let c16_i32 : BitVec 32 := 16#32
  let v130 : BitVec 32 := Scalar.muli v129 c16_i32
  let v131 : Index := Scalar.indexCast v130
  ![v131.toNat]

def k0_chk65 (i : grid0.Coords) (k0_t9 : Fin (k0_t9_loop i).trips) (v153 : IVec S16 32) : Prop :=
  (∀ (k0_h3 : k0_cond3 i k0_t9 = 1#1), ∀ a x, ((![v153] : Fin 1 → IVec S16 32) a x).toNat < S40064.size a)
theorem k0_idx65_inb : ∀ (i : grid0.Coords) (k0_t9 : Fin (k0_t9_loop i).trips) (v153 : IVec S16 32) (k0_hw65 : k0_chk65 i k0_t9 v153), ∀ (k0_h3 : k0_cond3 i k0_t9 = 1#1), ∀ a x, ((![v153] : Fin 1 → IVec S16 32) a x).toNat < S40064.size a := fun i k0_t9 v153 k0_hw65 k0_h3 => k0_hw65 k0_h3

def k0_chk66 (i : grid0.Coords) (k0_t9 : Fin (k0_t9_loop i).trips) (v156 : IVec S16 32) : Prop :=
  (∀ (k0_h3 : k0_cond3 i k0_t9 = 1#1), ∀ a x, ((![v156] : Fin 1 → IVec S16 32) a x).toNat < S40960.size a)
theorem k0_idx66_inb : ∀ (i : grid0.Coords) (k0_t9 : Fin (k0_t9_loop i).trips) (v156 : IVec S16 32) (k0_hw66 : k0_chk66 i k0_t9 v156), ∀ (k0_h3 : k0_cond3 i k0_t9 = 1#1), ∀ a x, ((![v156] : Fin 1 → IVec S16 32) a x).toNat < S40960.size a := fun i k0_t9 v156 k0_hw66 k0_h3 => k0_hw66 k0_h3

def k0_chk67 (i : grid0.Coords) (k0_t9 : Fin (k0_t9_loop i).trips) (v160 : IVec S16 32) : Prop :=
  (∀ (k0_h3 : k0_cond3 i k0_t9 = 1#1), ∀ a x, ((![v160] : Fin 1 → IVec S16 32) a x).toNat < S40064.size a)
theorem k0_idx67_inb : ∀ (i : grid0.Coords) (k0_t9 : Fin (k0_t9_loop i).trips) (v160 : IVec S16 32) (k0_hw67 : k0_chk67 i k0_t9 v160), ∀ (k0_h3 : k0_cond3 i k0_t9 = 1#1), ∀ a x, ((![v160] : Fin 1 → IVec S16 32) a x).toNat < S40064.size a := fun i k0_t9 v160 k0_hw67 k0_h3 => k0_hw67 k0_h3

def k0_chk68 (i : grid0.Coords) (k0_t9 : Fin (k0_t9_loop i).trips) (v163 : IVec S16 32) : Prop :=
  (∀ (k0_h3 : k0_cond3 i k0_t9 = 1#1), ∀ a x, ((![v163] : Fin 1 → IVec S16 32) a x).toNat < S40960.size a)
theorem k0_idx68_inb : ∀ (i : grid0.Coords) (k0_t9 : Fin (k0_t9_loop i).trips) (v163 : IVec S16 32) (k0_hw68 : k0_chk68 i k0_t9 v163), ∀ (k0_h3 : k0_cond3 i k0_t9 = 1#1), ∀ a x, ((![v163] : Fin 1 → IVec S16 32) a x).toNat < S40960.size a := fun i k0_t9 v163 k0_hw68 k0_h3 => k0_hw68 k0_h3

def k0_chk69 (i : grid0.Coords) (k0_t9 : Fin (k0_t9_loop i).trips) (v167 : IVec S16 32) : Prop :=
  (∀ (k0_h3 : k0_cond3 i k0_t9 = 1#1), ∀ a x, ((![v167] : Fin 1 → IVec S16 32) a x).toNat < S40064.size a)
theorem k0_idx69_inb : ∀ (i : grid0.Coords) (k0_t9 : Fin (k0_t9_loop i).trips) (v167 : IVec S16 32) (k0_hw69 : k0_chk69 i k0_t9 v167), ∀ (k0_h3 : k0_cond3 i k0_t9 = 1#1), ∀ a x, ((![v167] : Fin 1 → IVec S16 32) a x).toNat < S40064.size a := fun i k0_t9 v167 k0_hw69 k0_h3 => k0_hw69 k0_h3

def k0_chk70 (i : grid0.Coords) (k0_t9 : Fin (k0_t9_loop i).trips) (v170 : IVec S16 32) : Prop :=
  (∀ (k0_h3 : k0_cond3 i k0_t9 = 1#1), ∀ a x, ((![v170] : Fin 1 → IVec S16 32) a x).toNat < S40960.size a)
theorem k0_idx70_inb : ∀ (i : grid0.Coords) (k0_t9 : Fin (k0_t9_loop i).trips) (v170 : IVec S16 32) (k0_hw70 : k0_chk70 i k0_t9 v170), ∀ (k0_h3 : k0_cond3 i k0_t9 = 1#1), ∀ a x, ((![v170] : Fin 1 → IVec S16 32) a x).toNat < S40960.size a := fun i k0_t9 v170 k0_hw70 k0_h3 => k0_hw70 k0_h3

def k0_chk71 (i : grid0.Coords) (k0_t9 : Fin (k0_t9_loop i).trips) (v174 : IVec S16 32) : Prop :=
  (∀ (k0_h3 : k0_cond3 i k0_t9 = 1#1), ∀ a x, ((![v174] : Fin 1 → IVec S16 32) a x).toNat < S40064.size a)
theorem k0_idx71_inb : ∀ (i : grid0.Coords) (k0_t9 : Fin (k0_t9_loop i).trips) (v174 : IVec S16 32) (k0_hw71 : k0_chk71 i k0_t9 v174), ∀ (k0_h3 : k0_cond3 i k0_t9 = 1#1), ∀ a x, ((![v174] : Fin 1 → IVec S16 32) a x).toNat < S40064.size a := fun i k0_t9 v174 k0_hw71 k0_h3 => k0_hw71 k0_h3

def k0_chk72 (i : grid0.Coords) (k0_t9 : Fin (k0_t9_loop i).trips) (v177 : IVec S16 32) : Prop :=
  (∀ (k0_h3 : k0_cond3 i k0_t9 = 1#1), ∀ a x, ((![v177] : Fin 1 → IVec S16 32) a x).toNat < S40960.size a)
theorem k0_idx72_inb : ∀ (i : grid0.Coords) (k0_t9 : Fin (k0_t9_loop i).trips) (v177 : IVec S16 32) (k0_hw72 : k0_chk72 i k0_t9 v177), ∀ (k0_h3 : k0_cond3 i k0_t9 = 1#1), ∀ a x, ((![v177] : Fin 1 → IVec S16 32) a x).toNat < S40960.size a := fun i k0_t9 v177 k0_hw72 k0_h3 => k0_hw72 k0_h3

def k0_chk73 (i : grid0.Coords) (k0_t9 : Fin (k0_t9_loop i).trips) (v181 : IVec S16 32) : Prop :=
  (∀ (k0_h3 : k0_cond3 i k0_t9 = 1#1), ∀ a x, ((![v181] : Fin 1 → IVec S16 32) a x).toNat < S40064.size a)
theorem k0_idx73_inb : ∀ (i : grid0.Coords) (k0_t9 : Fin (k0_t9_loop i).trips) (v181 : IVec S16 32) (k0_hw73 : k0_chk73 i k0_t9 v181), ∀ (k0_h3 : k0_cond3 i k0_t9 = 1#1), ∀ a x, ((![v181] : Fin 1 → IVec S16 32) a x).toNat < S40064.size a := fun i k0_t9 v181 k0_hw73 k0_h3 => k0_hw73 k0_h3

def k0_chk74 (i : grid0.Coords) (k0_t9 : Fin (k0_t9_loop i).trips) (v184 : IVec S16 32) : Prop :=
  (∀ (k0_h3 : k0_cond3 i k0_t9 = 1#1), ∀ a x, ((![v184] : Fin 1 → IVec S16 32) a x).toNat < S40960.size a)
theorem k0_idx74_inb : ∀ (i : grid0.Coords) (k0_t9 : Fin (k0_t9_loop i).trips) (v184 : IVec S16 32) (k0_hw74 : k0_chk74 i k0_t9 v184), ∀ (k0_h3 : k0_cond3 i k0_t9 = 1#1), ∀ a x, ((![v184] : Fin 1 → IVec S16 32) a x).toNat < S40960.size a := fun i k0_t9 v184 k0_hw74 k0_h3 => k0_hw74 k0_h3

def k0_chk75 (i : grid0.Coords) (k0_t9 : Fin (k0_t9_loop i).trips) (v188 : IVec S16 32) : Prop :=
  (∀ (k0_h3 : k0_cond3 i k0_t9 = 1#1), ∀ a x, ((![v188] : Fin 1 → IVec S16 32) a x).toNat < S40064.size a)
theorem k0_idx75_inb : ∀ (i : grid0.Coords) (k0_t9 : Fin (k0_t9_loop i).trips) (v188 : IVec S16 32) (k0_hw75 : k0_chk75 i k0_t9 v188), ∀ (k0_h3 : k0_cond3 i k0_t9 = 1#1), ∀ a x, ((![v188] : Fin 1 → IVec S16 32) a x).toNat < S40064.size a := fun i k0_t9 v188 k0_hw75 k0_h3 => k0_hw75 k0_h3

def k0_chk76 (i : grid0.Coords) (k0_t9 : Fin (k0_t9_loop i).trips) (v191 : IVec S16 32) : Prop :=
  (∀ (k0_h3 : k0_cond3 i k0_t9 = 1#1), ∀ a x, ((![v191] : Fin 1 → IVec S16 32) a x).toNat < S40960.size a)
theorem k0_idx76_inb : ∀ (i : grid0.Coords) (k0_t9 : Fin (k0_t9_loop i).trips) (v191 : IVec S16 32) (k0_hw76 : k0_chk76 i k0_t9 v191), ∀ (k0_h3 : k0_cond3 i k0_t9 = 1#1), ∀ a x, ((![v191] : Fin 1 → IVec S16 32) a x).toNat < S40960.size a := fun i k0_t9 v191 k0_hw76 k0_h3 => k0_hw76 k0_h3

def k0_chk77 (i : grid0.Coords) (k0_t9 : Fin (k0_t9_loop i).trips) (v195 : IVec S16 32) : Prop :=
  (∀ (k0_h3 : k0_cond3 i k0_t9 = 1#1), ∀ a x, ((![v195] : Fin 1 → IVec S16 32) a x).toNat < S40064.size a)
theorem k0_idx77_inb : ∀ (i : grid0.Coords) (k0_t9 : Fin (k0_t9_loop i).trips) (v195 : IVec S16 32) (k0_hw77 : k0_chk77 i k0_t9 v195), ∀ (k0_h3 : k0_cond3 i k0_t9 = 1#1), ∀ a x, ((![v195] : Fin 1 → IVec S16 32) a x).toNat < S40064.size a := fun i k0_t9 v195 k0_hw77 k0_h3 => k0_hw77 k0_h3

def k0_chk78 (i : grid0.Coords) (k0_t9 : Fin (k0_t9_loop i).trips) (v198 : IVec S16 32) : Prop :=
  (∀ (k0_h3 : k0_cond3 i k0_t9 = 1#1), ∀ a x, ((![v198] : Fin 1 → IVec S16 32) a x).toNat < S40960.size a)
theorem k0_idx78_inb : ∀ (i : grid0.Coords) (k0_t9 : Fin (k0_t9_loop i).trips) (v198 : IVec S16 32) (k0_hw78 : k0_chk78 i k0_t9 v198), ∀ (k0_h3 : k0_cond3 i k0_t9 = 1#1), ∀ a x, ((![v198] : Fin 1 → IVec S16 32) a x).toNat < S40960.size a := fun i k0_t9 v198 k0_hw78 k0_h3 => k0_hw78 k0_h3

def k0_chk79 (i : grid0.Coords) (k0_t9 : Fin (k0_t9_loop i).trips) (v202 : IVec S16 32) : Prop :=
  (∀ (k0_h3 : k0_cond3 i k0_t9 = 1#1), ∀ a x, ((![v202] : Fin 1 → IVec S16 32) a x).toNat < S40064.size a)
theorem k0_idx79_inb : ∀ (i : grid0.Coords) (k0_t9 : Fin (k0_t9_loop i).trips) (v202 : IVec S16 32) (k0_hw79 : k0_chk79 i k0_t9 v202), ∀ (k0_h3 : k0_cond3 i k0_t9 = 1#1), ∀ a x, ((![v202] : Fin 1 → IVec S16 32) a x).toNat < S40064.size a := fun i k0_t9 v202 k0_hw79 k0_h3 => k0_hw79 k0_h3

def k0_chk80 (i : grid0.Coords) (k0_t9 : Fin (k0_t9_loop i).trips) (v205 : IVec S16 32) : Prop :=
  (∀ (k0_h3 : k0_cond3 i k0_t9 = 1#1), ∀ a x, ((![v205] : Fin 1 → IVec S16 32) a x).toNat < S40960.size a)
theorem k0_idx80_inb : ∀ (i : grid0.Coords) (k0_t9 : Fin (k0_t9_loop i).trips) (v205 : IVec S16 32) (k0_hw80 : k0_chk80 i k0_t9 v205), ∀ (k0_h3 : k0_cond3 i k0_t9 = 1#1), ∀ a x, ((![v205] : Fin 1 → IVec S16 32) a x).toNat < S40960.size a := fun i k0_t9 v205 k0_hw80 k0_h3 => k0_hw80 k0_h3
def k0_off19 (k0_t11 : Fin k0_t11_loop.trips) : Fin 1 → Nat :=
  let c0_i32_89 : BitVec 32 := 0#32
  let c1_i32_90 : BitVec 32 := 1#32
  let arg18 : BitVec 32 := Scf.iv c0_i32_89 c1_i32_90 k0_t11
  let c4_i32_121 : BitVec 32 := 4#32
  let v208 : BitVec 32 := Scalar.muli arg18 c4_i32_121
  let c1_i32_122 : BitVec 32 := 1#32
  let v209 : BitVec 32 := Scalar.addi v208 c1_i32_122
  let c16_i32_123 : BitVec 32 := 16#32
  let v210 : BitVec 32 := Scalar.muli v209 c16_i32_123
  let v211 : Index := Scalar.indexCast v210
  ![v211.toNat]

def k0_chk81 (i : grid0.Coords) (k0_t9 : Fin (k0_t9_loop i).trips) (v233 : IVec S16 32) : Prop :=
  (∀ (k0_h3 : k0_cond3 i k0_t9 = 1#1), ∀ a x, ((![v233] : Fin 1 → IVec S16 32) a x).toNat < S40064.size a)
theorem k0_idx81_inb : ∀ (i : grid0.Coords) (k0_t9 : Fin (k0_t9_loop i).trips) (v233 : IVec S16 32) (k0_hw81 : k0_chk81 i k0_t9 v233), ∀ (k0_h3 : k0_cond3 i k0_t9 = 1#1), ∀ a x, ((![v233] : Fin 1 → IVec S16 32) a x).toNat < S40064.size a := fun i k0_t9 v233 k0_hw81 k0_h3 => k0_hw81 k0_h3

def k0_chk82 (i : grid0.Coords) (k0_t9 : Fin (k0_t9_loop i).trips) (v236 : IVec S16 32) : Prop :=
  (∀ (k0_h3 : k0_cond3 i k0_t9 = 1#1), ∀ a x, ((![v236] : Fin 1 → IVec S16 32) a x).toNat < S40960.size a)
theorem k0_idx82_inb : ∀ (i : grid0.Coords) (k0_t9 : Fin (k0_t9_loop i).trips) (v236 : IVec S16 32) (k0_hw82 : k0_chk82 i k0_t9 v236), ∀ (k0_h3 : k0_cond3 i k0_t9 = 1#1), ∀ a x, ((![v236] : Fin 1 → IVec S16 32) a x).toNat < S40960.size a := fun i k0_t9 v236 k0_hw82 k0_h3 => k0_hw82 k0_h3

def k0_chk83 (i : grid0.Coords) (k0_t9 : Fin (k0_t9_loop i).trips) (v240 : IVec S16 32) : Prop :=
  (∀ (k0_h3 : k0_cond3 i k0_t9 = 1#1), ∀ a x, ((![v240] : Fin 1 → IVec S16 32) a x).toNat < S40064.size a)
theorem k0_idx83_inb : ∀ (i : grid0.Coords) (k0_t9 : Fin (k0_t9_loop i).trips) (v240 : IVec S16 32) (k0_hw83 : k0_chk83 i k0_t9 v240), ∀ (k0_h3 : k0_cond3 i k0_t9 = 1#1), ∀ a x, ((![v240] : Fin 1 → IVec S16 32) a x).toNat < S40064.size a := fun i k0_t9 v240 k0_hw83 k0_h3 => k0_hw83 k0_h3

def k0_chk84 (i : grid0.Coords) (k0_t9 : Fin (k0_t9_loop i).trips) (v243 : IVec S16 32) : Prop :=
  (∀ (k0_h3 : k0_cond3 i k0_t9 = 1#1), ∀ a x, ((![v243] : Fin 1 → IVec S16 32) a x).toNat < S40960.size a)
theorem k0_idx84_inb : ∀ (i : grid0.Coords) (k0_t9 : Fin (k0_t9_loop i).trips) (v243 : IVec S16 32) (k0_hw84 : k0_chk84 i k0_t9 v243), ∀ (k0_h3 : k0_cond3 i k0_t9 = 1#1), ∀ a x, ((![v243] : Fin 1 → IVec S16 32) a x).toNat < S40960.size a := fun i k0_t9 v243 k0_hw84 k0_h3 => k0_hw84 k0_h3

def k0_chk85 (i : grid0.Coords) (k0_t9 : Fin (k0_t9_loop i).trips) (v247 : IVec S16 32) : Prop :=
  (∀ (k0_h3 : k0_cond3 i k0_t9 = 1#1), ∀ a x, ((![v247] : Fin 1 → IVec S16 32) a x).toNat < S40064.size a)
theorem k0_idx85_inb : ∀ (i : grid0.Coords) (k0_t9 : Fin (k0_t9_loop i).trips) (v247 : IVec S16 32) (k0_hw85 : k0_chk85 i k0_t9 v247), ∀ (k0_h3 : k0_cond3 i k0_t9 = 1#1), ∀ a x, ((![v247] : Fin 1 → IVec S16 32) a x).toNat < S40064.size a := fun i k0_t9 v247 k0_hw85 k0_h3 => k0_hw85 k0_h3

def k0_chk86 (i : grid0.Coords) (k0_t9 : Fin (k0_t9_loop i).trips) (v250 : IVec S16 32) : Prop :=
  (∀ (k0_h3 : k0_cond3 i k0_t9 = 1#1), ∀ a x, ((![v250] : Fin 1 → IVec S16 32) a x).toNat < S40960.size a)
theorem k0_idx86_inb : ∀ (i : grid0.Coords) (k0_t9 : Fin (k0_t9_loop i).trips) (v250 : IVec S16 32) (k0_hw86 : k0_chk86 i k0_t9 v250), ∀ (k0_h3 : k0_cond3 i k0_t9 = 1#1), ∀ a x, ((![v250] : Fin 1 → IVec S16 32) a x).toNat < S40960.size a := fun i k0_t9 v250 k0_hw86 k0_h3 => k0_hw86 k0_h3

def k0_chk87 (i : grid0.Coords) (k0_t9 : Fin (k0_t9_loop i).trips) (v254 : IVec S16 32) : Prop :=
  (∀ (k0_h3 : k0_cond3 i k0_t9 = 1#1), ∀ a x, ((![v254] : Fin 1 → IVec S16 32) a x).toNat < S40064.size a)
theorem k0_idx87_inb : ∀ (i : grid0.Coords) (k0_t9 : Fin (k0_t9_loop i).trips) (v254 : IVec S16 32) (k0_hw87 : k0_chk87 i k0_t9 v254), ∀ (k0_h3 : k0_cond3 i k0_t9 = 1#1), ∀ a x, ((![v254] : Fin 1 → IVec S16 32) a x).toNat < S40064.size a := fun i k0_t9 v254 k0_hw87 k0_h3 => k0_hw87 k0_h3

def k0_chk88 (i : grid0.Coords) (k0_t9 : Fin (k0_t9_loop i).trips) (v257 : IVec S16 32) : Prop :=
  (∀ (k0_h3 : k0_cond3 i k0_t9 = 1#1), ∀ a x, ((![v257] : Fin 1 → IVec S16 32) a x).toNat < S40960.size a)
theorem k0_idx88_inb : ∀ (i : grid0.Coords) (k0_t9 : Fin (k0_t9_loop i).trips) (v257 : IVec S16 32) (k0_hw88 : k0_chk88 i k0_t9 v257), ∀ (k0_h3 : k0_cond3 i k0_t9 = 1#1), ∀ a x, ((![v257] : Fin 1 → IVec S16 32) a x).toNat < S40960.size a := fun i k0_t9 v257 k0_hw88 k0_h3 => k0_hw88 k0_h3

def k0_chk89 (i : grid0.Coords) (k0_t9 : Fin (k0_t9_loop i).trips) (v261 : IVec S16 32) : Prop :=
  (∀ (k0_h3 : k0_cond3 i k0_t9 = 1#1), ∀ a x, ((![v261] : Fin 1 → IVec S16 32) a x).toNat < S40064.size a)
theorem k0_idx89_inb : ∀ (i : grid0.Coords) (k0_t9 : Fin (k0_t9_loop i).trips) (v261 : IVec S16 32) (k0_hw89 : k0_chk89 i k0_t9 v261), ∀ (k0_h3 : k0_cond3 i k0_t9 = 1#1), ∀ a x, ((![v261] : Fin 1 → IVec S16 32) a x).toNat < S40064.size a := fun i k0_t9 v261 k0_hw89 k0_h3 => k0_hw89 k0_h3

def k0_chk90 (i : grid0.Coords) (k0_t9 : Fin (k0_t9_loop i).trips) (v264 : IVec S16 32) : Prop :=
  (∀ (k0_h3 : k0_cond3 i k0_t9 = 1#1), ∀ a x, ((![v264] : Fin 1 → IVec S16 32) a x).toNat < S40960.size a)
theorem k0_idx90_inb : ∀ (i : grid0.Coords) (k0_t9 : Fin (k0_t9_loop i).trips) (v264 : IVec S16 32) (k0_hw90 : k0_chk90 i k0_t9 v264), ∀ (k0_h3 : k0_cond3 i k0_t9 = 1#1), ∀ a x, ((![v264] : Fin 1 → IVec S16 32) a x).toNat < S40960.size a := fun i k0_t9 v264 k0_hw90 k0_h3 => k0_hw90 k0_h3

def k0_chk91 (i : grid0.Coords) (k0_t9 : Fin (k0_t9_loop i).trips) (v268 : IVec S16 32) : Prop :=
  (∀ (k0_h3 : k0_cond3 i k0_t9 = 1#1), ∀ a x, ((![v268] : Fin 1 → IVec S16 32) a x).toNat < S40064.size a)
theorem k0_idx91_inb : ∀ (i : grid0.Coords) (k0_t9 : Fin (k0_t9_loop i).trips) (v268 : IVec S16 32) (k0_hw91 : k0_chk91 i k0_t9 v268), ∀ (k0_h3 : k0_cond3 i k0_t9 = 1#1), ∀ a x, ((![v268] : Fin 1 → IVec S16 32) a x).toNat < S40064.size a := fun i k0_t9 v268 k0_hw91 k0_h3 => k0_hw91 k0_h3

def k0_chk92 (i : grid0.Coords) (k0_t9 : Fin (k0_t9_loop i).trips) (v271 : IVec S16 32) : Prop :=
  (∀ (k0_h3 : k0_cond3 i k0_t9 = 1#1), ∀ a x, ((![v271] : Fin 1 → IVec S16 32) a x).toNat < S40960.size a)
theorem k0_idx92_inb : ∀ (i : grid0.Coords) (k0_t9 : Fin (k0_t9_loop i).trips) (v271 : IVec S16 32) (k0_hw92 : k0_chk92 i k0_t9 v271), ∀ (k0_h3 : k0_cond3 i k0_t9 = 1#1), ∀ a x, ((![v271] : Fin 1 → IVec S16 32) a x).toNat < S40960.size a := fun i k0_t9 v271 k0_hw92 k0_h3 => k0_hw92 k0_h3

def k0_chk93 (i : grid0.Coords) (k0_t9 : Fin (k0_t9_loop i).trips) (v275 : IVec S16 32) : Prop :=
  (∀ (k0_h3 : k0_cond3 i k0_t9 = 1#1), ∀ a x, ((![v275] : Fin 1 → IVec S16 32) a x).toNat < S40064.size a)
theorem k0_idx93_inb : ∀ (i : grid0.Coords) (k0_t9 : Fin (k0_t9_loop i).trips) (v275 : IVec S16 32) (k0_hw93 : k0_chk93 i k0_t9 v275), ∀ (k0_h3 : k0_cond3 i k0_t9 = 1#1), ∀ a x, ((![v275] : Fin 1 → IVec S16 32) a x).toNat < S40064.size a := fun i k0_t9 v275 k0_hw93 k0_h3 => k0_hw93 k0_h3

def k0_chk94 (i : grid0.Coords) (k0_t9 : Fin (k0_t9_loop i).trips) (v278 : IVec S16 32) : Prop :=
  (∀ (k0_h3 : k0_cond3 i k0_t9 = 1#1), ∀ a x, ((![v278] : Fin 1 → IVec S16 32) a x).toNat < S40960.size a)
theorem k0_idx94_inb : ∀ (i : grid0.Coords) (k0_t9 : Fin (k0_t9_loop i).trips) (v278 : IVec S16 32) (k0_hw94 : k0_chk94 i k0_t9 v278), ∀ (k0_h3 : k0_cond3 i k0_t9 = 1#1), ∀ a x, ((![v278] : Fin 1 → IVec S16 32) a x).toNat < S40960.size a := fun i k0_t9 v278 k0_hw94 k0_h3 => k0_hw94 k0_h3

def k0_chk95 (i : grid0.Coords) (k0_t9 : Fin (k0_t9_loop i).trips) (v282 : IVec S16 32) : Prop :=
  (∀ (k0_h3 : k0_cond3 i k0_t9 = 1#1), ∀ a x, ((![v282] : Fin 1 → IVec S16 32) a x).toNat < S40064.size a)
theorem k0_idx95_inb : ∀ (i : grid0.Coords) (k0_t9 : Fin (k0_t9_loop i).trips) (v282 : IVec S16 32) (k0_hw95 : k0_chk95 i k0_t9 v282), ∀ (k0_h3 : k0_cond3 i k0_t9 = 1#1), ∀ a x, ((![v282] : Fin 1 → IVec S16 32) a x).toNat < S40064.size a := fun i k0_t9 v282 k0_hw95 k0_h3 => k0_hw95 k0_h3

def k0_chk96 (i : grid0.Coords) (k0_t9 : Fin (k0_t9_loop i).trips) (v285 : IVec S16 32) : Prop :=
  (∀ (k0_h3 : k0_cond3 i k0_t9 = 1#1), ∀ a x, ((![v285] : Fin 1 → IVec S16 32) a x).toNat < S40960.size a)
theorem k0_idx96_inb : ∀ (i : grid0.Coords) (k0_t9 : Fin (k0_t9_loop i).trips) (v285 : IVec S16 32) (k0_hw96 : k0_chk96 i k0_t9 v285), ∀ (k0_h3 : k0_cond3 i k0_t9 = 1#1), ∀ a x, ((![v285] : Fin 1 → IVec S16 32) a x).toNat < S40960.size a := fun i k0_t9 v285 k0_hw96 k0_h3 => k0_hw96 k0_h3
def k0_off20 (k0_t11 : Fin k0_t11_loop.trips) : Fin 1 → Nat :=
  let c0_i32_89 : BitVec 32 := 0#32
  let c1_i32_90 : BitVec 32 := 1#32
  let arg18 : BitVec 32 := Scf.iv c0_i32_89 c1_i32_90 k0_t11
  let c4_i32_155 : BitVec 32 := 4#32
  let v288 : BitVec 32 := Scalar.muli arg18 c4_i32_155
  let c2_i32_156 : BitVec 32 := 2#32
  let v289 : BitVec 32 := Scalar.addi v288 c2_i32_156
  let c16_i32_157 : BitVec 32 := 16#32
  let v290 : BitVec 32 := Scalar.muli v289 c16_i32_157
  let v291 : Index := Scalar.indexCast v290
  ![v291.toNat]

def k0_chk97 (i : grid0.Coords) (k0_t9 : Fin (k0_t9_loop i).trips) (v313 : IVec S16 32) : Prop :=
  (∀ (k0_h3 : k0_cond3 i k0_t9 = 1#1), ∀ a x, ((![v313] : Fin 1 → IVec S16 32) a x).toNat < S40064.size a)
theorem k0_idx97_inb : ∀ (i : grid0.Coords) (k0_t9 : Fin (k0_t9_loop i).trips) (v313 : IVec S16 32) (k0_hw97 : k0_chk97 i k0_t9 v313), ∀ (k0_h3 : k0_cond3 i k0_t9 = 1#1), ∀ a x, ((![v313] : Fin 1 → IVec S16 32) a x).toNat < S40064.size a := fun i k0_t9 v313 k0_hw97 k0_h3 => k0_hw97 k0_h3

def k0_chk98 (i : grid0.Coords) (k0_t9 : Fin (k0_t9_loop i).trips) (v316 : IVec S16 32) : Prop :=
  (∀ (k0_h3 : k0_cond3 i k0_t9 = 1#1), ∀ a x, ((![v316] : Fin 1 → IVec S16 32) a x).toNat < S40960.size a)
theorem k0_idx98_inb : ∀ (i : grid0.Coords) (k0_t9 : Fin (k0_t9_loop i).trips) (v316 : IVec S16 32) (k0_hw98 : k0_chk98 i k0_t9 v316), ∀ (k0_h3 : k0_cond3 i k0_t9 = 1#1), ∀ a x, ((![v316] : Fin 1 → IVec S16 32) a x).toNat < S40960.size a := fun i k0_t9 v316 k0_hw98 k0_h3 => k0_hw98 k0_h3

def k0_chk99 (i : grid0.Coords) (k0_t9 : Fin (k0_t9_loop i).trips) (v320 : IVec S16 32) : Prop :=
  (∀ (k0_h3 : k0_cond3 i k0_t9 = 1#1), ∀ a x, ((![v320] : Fin 1 → IVec S16 32) a x).toNat < S40064.size a)
theorem k0_idx99_inb : ∀ (i : grid0.Coords) (k0_t9 : Fin (k0_t9_loop i).trips) (v320 : IVec S16 32) (k0_hw99 : k0_chk99 i k0_t9 v320), ∀ (k0_h3 : k0_cond3 i k0_t9 = 1#1), ∀ a x, ((![v320] : Fin 1 → IVec S16 32) a x).toNat < S40064.size a := fun i k0_t9 v320 k0_hw99 k0_h3 => k0_hw99 k0_h3

def k0_chk100 (i : grid0.Coords) (k0_t9 : Fin (k0_t9_loop i).trips) (v323 : IVec S16 32) : Prop :=
  (∀ (k0_h3 : k0_cond3 i k0_t9 = 1#1), ∀ a x, ((![v323] : Fin 1 → IVec S16 32) a x).toNat < S40960.size a)
theorem k0_idx100_inb : ∀ (i : grid0.Coords) (k0_t9 : Fin (k0_t9_loop i).trips) (v323 : IVec S16 32) (k0_hw100 : k0_chk100 i k0_t9 v323), ∀ (k0_h3 : k0_cond3 i k0_t9 = 1#1), ∀ a x, ((![v323] : Fin 1 → IVec S16 32) a x).toNat < S40960.size a := fun i k0_t9 v323 k0_hw100 k0_h3 => k0_hw100 k0_h3

def k0_chk101 (i : grid0.Coords) (k0_t9 : Fin (k0_t9_loop i).trips) (v327 : IVec S16 32) : Prop :=
  (∀ (k0_h3 : k0_cond3 i k0_t9 = 1#1), ∀ a x, ((![v327] : Fin 1 → IVec S16 32) a x).toNat < S40064.size a)
theorem k0_idx101_inb : ∀ (i : grid0.Coords) (k0_t9 : Fin (k0_t9_loop i).trips) (v327 : IVec S16 32) (k0_hw101 : k0_chk101 i k0_t9 v327), ∀ (k0_h3 : k0_cond3 i k0_t9 = 1#1), ∀ a x, ((![v327] : Fin 1 → IVec S16 32) a x).toNat < S40064.size a := fun i k0_t9 v327 k0_hw101 k0_h3 => k0_hw101 k0_h3

def k0_chk102 (i : grid0.Coords) (k0_t9 : Fin (k0_t9_loop i).trips) (v330 : IVec S16 32) : Prop :=
  (∀ (k0_h3 : k0_cond3 i k0_t9 = 1#1), ∀ a x, ((![v330] : Fin 1 → IVec S16 32) a x).toNat < S40960.size a)
theorem k0_idx102_inb : ∀ (i : grid0.Coords) (k0_t9 : Fin (k0_t9_loop i).trips) (v330 : IVec S16 32) (k0_hw102 : k0_chk102 i k0_t9 v330), ∀ (k0_h3 : k0_cond3 i k0_t9 = 1#1), ∀ a x, ((![v330] : Fin 1 → IVec S16 32) a x).toNat < S40960.size a := fun i k0_t9 v330 k0_hw102 k0_h3 => k0_hw102 k0_h3

def k0_chk103 (i : grid0.Coords) (k0_t9 : Fin (k0_t9_loop i).trips) (v334 : IVec S16 32) : Prop :=
  (∀ (k0_h3 : k0_cond3 i k0_t9 = 1#1), ∀ a x, ((![v334] : Fin 1 → IVec S16 32) a x).toNat < S40064.size a)
theorem k0_idx103_inb : ∀ (i : grid0.Coords) (k0_t9 : Fin (k0_t9_loop i).trips) (v334 : IVec S16 32) (k0_hw103 : k0_chk103 i k0_t9 v334), ∀ (k0_h3 : k0_cond3 i k0_t9 = 1#1), ∀ a x, ((![v334] : Fin 1 → IVec S16 32) a x).toNat < S40064.size a := fun i k0_t9 v334 k0_hw103 k0_h3 => k0_hw103 k0_h3

def k0_chk104 (i : grid0.Coords) (k0_t9 : Fin (k0_t9_loop i).trips) (v337 : IVec S16 32) : Prop :=
  (∀ (k0_h3 : k0_cond3 i k0_t9 = 1#1), ∀ a x, ((![v337] : Fin 1 → IVec S16 32) a x).toNat < S40960.size a)
theorem k0_idx104_inb : ∀ (i : grid0.Coords) (k0_t9 : Fin (k0_t9_loop i).trips) (v337 : IVec S16 32) (k0_hw104 : k0_chk104 i k0_t9 v337), ∀ (k0_h3 : k0_cond3 i k0_t9 = 1#1), ∀ a x, ((![v337] : Fin 1 → IVec S16 32) a x).toNat < S40960.size a := fun i k0_t9 v337 k0_hw104 k0_h3 => k0_hw104 k0_h3

def k0_chk105 (i : grid0.Coords) (k0_t9 : Fin (k0_t9_loop i).trips) (v341 : IVec S16 32) : Prop :=
  (∀ (k0_h3 : k0_cond3 i k0_t9 = 1#1), ∀ a x, ((![v341] : Fin 1 → IVec S16 32) a x).toNat < S40064.size a)
theorem k0_idx105_inb : ∀ (i : grid0.Coords) (k0_t9 : Fin (k0_t9_loop i).trips) (v341 : IVec S16 32) (k0_hw105 : k0_chk105 i k0_t9 v341), ∀ (k0_h3 : k0_cond3 i k0_t9 = 1#1), ∀ a x, ((![v341] : Fin 1 → IVec S16 32) a x).toNat < S40064.size a := fun i k0_t9 v341 k0_hw105 k0_h3 => k0_hw105 k0_h3

def k0_chk106 (i : grid0.Coords) (k0_t9 : Fin (k0_t9_loop i).trips) (v344 : IVec S16 32) : Prop :=
  (∀ (k0_h3 : k0_cond3 i k0_t9 = 1#1), ∀ a x, ((![v344] : Fin 1 → IVec S16 32) a x).toNat < S40960.size a)
theorem k0_idx106_inb : ∀ (i : grid0.Coords) (k0_t9 : Fin (k0_t9_loop i).trips) (v344 : IVec S16 32) (k0_hw106 : k0_chk106 i k0_t9 v344), ∀ (k0_h3 : k0_cond3 i k0_t9 = 1#1), ∀ a x, ((![v344] : Fin 1 → IVec S16 32) a x).toNat < S40960.size a := fun i k0_t9 v344 k0_hw106 k0_h3 => k0_hw106 k0_h3

def k0_chk107 (i : grid0.Coords) (k0_t9 : Fin (k0_t9_loop i).trips) (v348 : IVec S16 32) : Prop :=
  (∀ (k0_h3 : k0_cond3 i k0_t9 = 1#1), ∀ a x, ((![v348] : Fin 1 → IVec S16 32) a x).toNat < S40064.size a)
theorem k0_idx107_inb : ∀ (i : grid0.Coords) (k0_t9 : Fin (k0_t9_loop i).trips) (v348 : IVec S16 32) (k0_hw107 : k0_chk107 i k0_t9 v348), ∀ (k0_h3 : k0_cond3 i k0_t9 = 1#1), ∀ a x, ((![v348] : Fin 1 → IVec S16 32) a x).toNat < S40064.size a := fun i k0_t9 v348 k0_hw107 k0_h3 => k0_hw107 k0_h3

def k0_chk108 (i : grid0.Coords) (k0_t9 : Fin (k0_t9_loop i).trips) (v351 : IVec S16 32) : Prop :=
  (∀ (k0_h3 : k0_cond3 i k0_t9 = 1#1), ∀ a x, ((![v351] : Fin 1 → IVec S16 32) a x).toNat < S40960.size a)
theorem k0_idx108_inb : ∀ (i : grid0.Coords) (k0_t9 : Fin (k0_t9_loop i).trips) (v351 : IVec S16 32) (k0_hw108 : k0_chk108 i k0_t9 v351), ∀ (k0_h3 : k0_cond3 i k0_t9 = 1#1), ∀ a x, ((![v351] : Fin 1 → IVec S16 32) a x).toNat < S40960.size a := fun i k0_t9 v351 k0_hw108 k0_h3 => k0_hw108 k0_h3

def k0_chk109 (i : grid0.Coords) (k0_t9 : Fin (k0_t9_loop i).trips) (v355 : IVec S16 32) : Prop :=
  (∀ (k0_h3 : k0_cond3 i k0_t9 = 1#1), ∀ a x, ((![v355] : Fin 1 → IVec S16 32) a x).toNat < S40064.size a)
theorem k0_idx109_inb : ∀ (i : grid0.Coords) (k0_t9 : Fin (k0_t9_loop i).trips) (v355 : IVec S16 32) (k0_hw109 : k0_chk109 i k0_t9 v355), ∀ (k0_h3 : k0_cond3 i k0_t9 = 1#1), ∀ a x, ((![v355] : Fin 1 → IVec S16 32) a x).toNat < S40064.size a := fun i k0_t9 v355 k0_hw109 k0_h3 => k0_hw109 k0_h3

def k0_chk110 (i : grid0.Coords) (k0_t9 : Fin (k0_t9_loop i).trips) (v358 : IVec S16 32) : Prop :=
  (∀ (k0_h3 : k0_cond3 i k0_t9 = 1#1), ∀ a x, ((![v358] : Fin 1 → IVec S16 32) a x).toNat < S40960.size a)
theorem k0_idx110_inb : ∀ (i : grid0.Coords) (k0_t9 : Fin (k0_t9_loop i).trips) (v358 : IVec S16 32) (k0_hw110 : k0_chk110 i k0_t9 v358), ∀ (k0_h3 : k0_cond3 i k0_t9 = 1#1), ∀ a x, ((![v358] : Fin 1 → IVec S16 32) a x).toNat < S40960.size a := fun i k0_t9 v358 k0_hw110 k0_h3 => k0_hw110 k0_h3

def k0_chk111 (i : grid0.Coords) (k0_t9 : Fin (k0_t9_loop i).trips) (v362 : IVec S16 32) : Prop :=
  (∀ (k0_h3 : k0_cond3 i k0_t9 = 1#1), ∀ a x, ((![v362] : Fin 1 → IVec S16 32) a x).toNat < S40064.size a)
theorem k0_idx111_inb : ∀ (i : grid0.Coords) (k0_t9 : Fin (k0_t9_loop i).trips) (v362 : IVec S16 32) (k0_hw111 : k0_chk111 i k0_t9 v362), ∀ (k0_h3 : k0_cond3 i k0_t9 = 1#1), ∀ a x, ((![v362] : Fin 1 → IVec S16 32) a x).toNat < S40064.size a := fun i k0_t9 v362 k0_hw111 k0_h3 => k0_hw111 k0_h3

def k0_chk112 (i : grid0.Coords) (k0_t9 : Fin (k0_t9_loop i).trips) (v365 : IVec S16 32) : Prop :=
  (∀ (k0_h3 : k0_cond3 i k0_t9 = 1#1), ∀ a x, ((![v365] : Fin 1 → IVec S16 32) a x).toNat < S40960.size a)
theorem k0_idx112_inb : ∀ (i : grid0.Coords) (k0_t9 : Fin (k0_t9_loop i).trips) (v365 : IVec S16 32) (k0_hw112 : k0_chk112 i k0_t9 v365), ∀ (k0_h3 : k0_cond3 i k0_t9 = 1#1), ∀ a x, ((![v365] : Fin 1 → IVec S16 32) a x).toNat < S40960.size a := fun i k0_t9 v365 k0_hw112 k0_h3 => k0_hw112 k0_h3
def k0_off21 (k0_t11 : Fin k0_t11_loop.trips) : Fin 1 → Nat :=
  let c0_i32_89 : BitVec 32 := 0#32
  let c1_i32_90 : BitVec 32 := 1#32
  let arg18 : BitVec 32 := Scf.iv c0_i32_89 c1_i32_90 k0_t11
  let c4_i32_189 : BitVec 32 := 4#32
  let v368 : BitVec 32 := Scalar.muli arg18 c4_i32_189
  let c3_i32_190 : BitVec 32 := 3#32
  let v369 : BitVec 32 := Scalar.addi v368 c3_i32_190
  let c16_i32_191 : BitVec 32 := 16#32
  let v370 : BitVec 32 := Scalar.muli v369 c16_i32_191
  let v371 : Index := Scalar.indexCast v370
  ![v371.toNat]

def k0_chk113 (i : grid0.Coords) (k0_t9 : Fin (k0_t9_loop i).trips) (v393 : IVec S16 32) : Prop :=
  (∀ (k0_h3 : k0_cond3 i k0_t9 = 1#1), ∀ a x, ((![v393] : Fin 1 → IVec S16 32) a x).toNat < S40064.size a)
theorem k0_idx113_inb : ∀ (i : grid0.Coords) (k0_t9 : Fin (k0_t9_loop i).trips) (v393 : IVec S16 32) (k0_hw113 : k0_chk113 i k0_t9 v393), ∀ (k0_h3 : k0_cond3 i k0_t9 = 1#1), ∀ a x, ((![v393] : Fin 1 → IVec S16 32) a x).toNat < S40064.size a := fun i k0_t9 v393 k0_hw113 k0_h3 => k0_hw113 k0_h3

def k0_chk114 (i : grid0.Coords) (k0_t9 : Fin (k0_t9_loop i).trips) (v396 : IVec S16 32) : Prop :=
  (∀ (k0_h3 : k0_cond3 i k0_t9 = 1#1), ∀ a x, ((![v396] : Fin 1 → IVec S16 32) a x).toNat < S40960.size a)
theorem k0_idx114_inb : ∀ (i : grid0.Coords) (k0_t9 : Fin (k0_t9_loop i).trips) (v396 : IVec S16 32) (k0_hw114 : k0_chk114 i k0_t9 v396), ∀ (k0_h3 : k0_cond3 i k0_t9 = 1#1), ∀ a x, ((![v396] : Fin 1 → IVec S16 32) a x).toNat < S40960.size a := fun i k0_t9 v396 k0_hw114 k0_h3 => k0_hw114 k0_h3

def k0_chk115 (i : grid0.Coords) (k0_t9 : Fin (k0_t9_loop i).trips) (v400 : IVec S16 32) : Prop :=
  (∀ (k0_h3 : k0_cond3 i k0_t9 = 1#1), ∀ a x, ((![v400] : Fin 1 → IVec S16 32) a x).toNat < S40064.size a)
theorem k0_idx115_inb : ∀ (i : grid0.Coords) (k0_t9 : Fin (k0_t9_loop i).trips) (v400 : IVec S16 32) (k0_hw115 : k0_chk115 i k0_t9 v400), ∀ (k0_h3 : k0_cond3 i k0_t9 = 1#1), ∀ a x, ((![v400] : Fin 1 → IVec S16 32) a x).toNat < S40064.size a := fun i k0_t9 v400 k0_hw115 k0_h3 => k0_hw115 k0_h3

def k0_chk116 (i : grid0.Coords) (k0_t9 : Fin (k0_t9_loop i).trips) (v403 : IVec S16 32) : Prop :=
  (∀ (k0_h3 : k0_cond3 i k0_t9 = 1#1), ∀ a x, ((![v403] : Fin 1 → IVec S16 32) a x).toNat < S40960.size a)
theorem k0_idx116_inb : ∀ (i : grid0.Coords) (k0_t9 : Fin (k0_t9_loop i).trips) (v403 : IVec S16 32) (k0_hw116 : k0_chk116 i k0_t9 v403), ∀ (k0_h3 : k0_cond3 i k0_t9 = 1#1), ∀ a x, ((![v403] : Fin 1 → IVec S16 32) a x).toNat < S40960.size a := fun i k0_t9 v403 k0_hw116 k0_h3 => k0_hw116 k0_h3

def k0_chk117 (i : grid0.Coords) (k0_t9 : Fin (k0_t9_loop i).trips) (v407 : IVec S16 32) : Prop :=
  (∀ (k0_h3 : k0_cond3 i k0_t9 = 1#1), ∀ a x, ((![v407] : Fin 1 → IVec S16 32) a x).toNat < S40064.size a)
theorem k0_idx117_inb : ∀ (i : grid0.Coords) (k0_t9 : Fin (k0_t9_loop i).trips) (v407 : IVec S16 32) (k0_hw117 : k0_chk117 i k0_t9 v407), ∀ (k0_h3 : k0_cond3 i k0_t9 = 1#1), ∀ a x, ((![v407] : Fin 1 → IVec S16 32) a x).toNat < S40064.size a := fun i k0_t9 v407 k0_hw117 k0_h3 => k0_hw117 k0_h3

def k0_chk118 (i : grid0.Coords) (k0_t9 : Fin (k0_t9_loop i).trips) (v410 : IVec S16 32) : Prop :=
  (∀ (k0_h3 : k0_cond3 i k0_t9 = 1#1), ∀ a x, ((![v410] : Fin 1 → IVec S16 32) a x).toNat < S40960.size a)
theorem k0_idx118_inb : ∀ (i : grid0.Coords) (k0_t9 : Fin (k0_t9_loop i).trips) (v410 : IVec S16 32) (k0_hw118 : k0_chk118 i k0_t9 v410), ∀ (k0_h3 : k0_cond3 i k0_t9 = 1#1), ∀ a x, ((![v410] : Fin 1 → IVec S16 32) a x).toNat < S40960.size a := fun i k0_t9 v410 k0_hw118 k0_h3 => k0_hw118 k0_h3

def k0_chk119 (i : grid0.Coords) (k0_t9 : Fin (k0_t9_loop i).trips) (v414 : IVec S16 32) : Prop :=
  (∀ (k0_h3 : k0_cond3 i k0_t9 = 1#1), ∀ a x, ((![v414] : Fin 1 → IVec S16 32) a x).toNat < S40064.size a)
theorem k0_idx119_inb : ∀ (i : grid0.Coords) (k0_t9 : Fin (k0_t9_loop i).trips) (v414 : IVec S16 32) (k0_hw119 : k0_chk119 i k0_t9 v414), ∀ (k0_h3 : k0_cond3 i k0_t9 = 1#1), ∀ a x, ((![v414] : Fin 1 → IVec S16 32) a x).toNat < S40064.size a := fun i k0_t9 v414 k0_hw119 k0_h3 => k0_hw119 k0_h3

def k0_chk120 (i : grid0.Coords) (k0_t9 : Fin (k0_t9_loop i).trips) (v417 : IVec S16 32) : Prop :=
  (∀ (k0_h3 : k0_cond3 i k0_t9 = 1#1), ∀ a x, ((![v417] : Fin 1 → IVec S16 32) a x).toNat < S40960.size a)
theorem k0_idx120_inb : ∀ (i : grid0.Coords) (k0_t9 : Fin (k0_t9_loop i).trips) (v417 : IVec S16 32) (k0_hw120 : k0_chk120 i k0_t9 v417), ∀ (k0_h3 : k0_cond3 i k0_t9 = 1#1), ∀ a x, ((![v417] : Fin 1 → IVec S16 32) a x).toNat < S40960.size a := fun i k0_t9 v417 k0_hw120 k0_h3 => k0_hw120 k0_h3

def k0_chk121 (i : grid0.Coords) (k0_t9 : Fin (k0_t9_loop i).trips) (v421 : IVec S16 32) : Prop :=
  (∀ (k0_h3 : k0_cond3 i k0_t9 = 1#1), ∀ a x, ((![v421] : Fin 1 → IVec S16 32) a x).toNat < S40064.size a)
theorem k0_idx121_inb : ∀ (i : grid0.Coords) (k0_t9 : Fin (k0_t9_loop i).trips) (v421 : IVec S16 32) (k0_hw121 : k0_chk121 i k0_t9 v421), ∀ (k0_h3 : k0_cond3 i k0_t9 = 1#1), ∀ a x, ((![v421] : Fin 1 → IVec S16 32) a x).toNat < S40064.size a := fun i k0_t9 v421 k0_hw121 k0_h3 => k0_hw121 k0_h3

def k0_chk122 (i : grid0.Coords) (k0_t9 : Fin (k0_t9_loop i).trips) (v424 : IVec S16 32) : Prop :=
  (∀ (k0_h3 : k0_cond3 i k0_t9 = 1#1), ∀ a x, ((![v424] : Fin 1 → IVec S16 32) a x).toNat < S40960.size a)
theorem k0_idx122_inb : ∀ (i : grid0.Coords) (k0_t9 : Fin (k0_t9_loop i).trips) (v424 : IVec S16 32) (k0_hw122 : k0_chk122 i k0_t9 v424), ∀ (k0_h3 : k0_cond3 i k0_t9 = 1#1), ∀ a x, ((![v424] : Fin 1 → IVec S16 32) a x).toNat < S40960.size a := fun i k0_t9 v424 k0_hw122 k0_h3 => k0_hw122 k0_h3

def k0_chk123 (i : grid0.Coords) (k0_t9 : Fin (k0_t9_loop i).trips) (v428 : IVec S16 32) : Prop :=
  (∀ (k0_h3 : k0_cond3 i k0_t9 = 1#1), ∀ a x, ((![v428] : Fin 1 → IVec S16 32) a x).toNat < S40064.size a)
theorem k0_idx123_inb : ∀ (i : grid0.Coords) (k0_t9 : Fin (k0_t9_loop i).trips) (v428 : IVec S16 32) (k0_hw123 : k0_chk123 i k0_t9 v428), ∀ (k0_h3 : k0_cond3 i k0_t9 = 1#1), ∀ a x, ((![v428] : Fin 1 → IVec S16 32) a x).toNat < S40064.size a := fun i k0_t9 v428 k0_hw123 k0_h3 => k0_hw123 k0_h3

def k0_chk124 (i : grid0.Coords) (k0_t9 : Fin (k0_t9_loop i).trips) (v431 : IVec S16 32) : Prop :=
  (∀ (k0_h3 : k0_cond3 i k0_t9 = 1#1), ∀ a x, ((![v431] : Fin 1 → IVec S16 32) a x).toNat < S40960.size a)
theorem k0_idx124_inb : ∀ (i : grid0.Coords) (k0_t9 : Fin (k0_t9_loop i).trips) (v431 : IVec S16 32) (k0_hw124 : k0_chk124 i k0_t9 v431), ∀ (k0_h3 : k0_cond3 i k0_t9 = 1#1), ∀ a x, ((![v431] : Fin 1 → IVec S16 32) a x).toNat < S40960.size a := fun i k0_t9 v431 k0_hw124 k0_h3 => k0_hw124 k0_h3

def k0_chk125 (i : grid0.Coords) (k0_t9 : Fin (k0_t9_loop i).trips) (v435 : IVec S16 32) : Prop :=
  (∀ (k0_h3 : k0_cond3 i k0_t9 = 1#1), ∀ a x, ((![v435] : Fin 1 → IVec S16 32) a x).toNat < S40064.size a)
theorem k0_idx125_inb : ∀ (i : grid0.Coords) (k0_t9 : Fin (k0_t9_loop i).trips) (v435 : IVec S16 32) (k0_hw125 : k0_chk125 i k0_t9 v435), ∀ (k0_h3 : k0_cond3 i k0_t9 = 1#1), ∀ a x, ((![v435] : Fin 1 → IVec S16 32) a x).toNat < S40064.size a := fun i k0_t9 v435 k0_hw125 k0_h3 => k0_hw125 k0_h3

def k0_chk126 (i : grid0.Coords) (k0_t9 : Fin (k0_t9_loop i).trips) (v438 : IVec S16 32) : Prop :=
  (∀ (k0_h3 : k0_cond3 i k0_t9 = 1#1), ∀ a x, ((![v438] : Fin 1 → IVec S16 32) a x).toNat < S40960.size a)
theorem k0_idx126_inb : ∀ (i : grid0.Coords) (k0_t9 : Fin (k0_t9_loop i).trips) (v438 : IVec S16 32) (k0_hw126 : k0_chk126 i k0_t9 v438), ∀ (k0_h3 : k0_cond3 i k0_t9 = 1#1), ∀ a x, ((![v438] : Fin 1 → IVec S16 32) a x).toNat < S40960.size a := fun i k0_t9 v438 k0_hw126 k0_h3 => k0_hw126 k0_h3

def k0_chk127 (i : grid0.Coords) (k0_t9 : Fin (k0_t9_loop i).trips) (v442 : IVec S16 32) : Prop :=
  (∀ (k0_h3 : k0_cond3 i k0_t9 = 1#1), ∀ a x, ((![v442] : Fin 1 → IVec S16 32) a x).toNat < S40064.size a)
theorem k0_idx127_inb : ∀ (i : grid0.Coords) (k0_t9 : Fin (k0_t9_loop i).trips) (v442 : IVec S16 32) (k0_hw127 : k0_chk127 i k0_t9 v442), ∀ (k0_h3 : k0_cond3 i k0_t9 = 1#1), ∀ a x, ((![v442] : Fin 1 → IVec S16 32) a x).toNat < S40064.size a := fun i k0_t9 v442 k0_hw127 k0_h3 => k0_hw127 k0_h3

def k0_chk128 (i : grid0.Coords) (k0_t9 : Fin (k0_t9_loop i).trips) (v445 : IVec S16 32) : Prop :=
  (∀ (k0_h3 : k0_cond3 i k0_t9 = 1#1), ∀ a x, ((![v445] : Fin 1 → IVec S16 32) a x).toNat < S40960.size a)
theorem k0_idx128_inb : ∀ (i : grid0.Coords) (k0_t9 : Fin (k0_t9_loop i).trips) (v445 : IVec S16 32) (k0_hw128 : k0_chk128 i k0_t9 v445), ∀ (k0_h3 : k0_cond3 i k0_t9 = 1#1), ∀ a x, ((![v445] : Fin 1 → IVec S16 32) a x).toNat < S40960.size a := fun i k0_t9 v445 k0_hw128 k0_h3 => k0_hw128 k0_h3
def k0_off22 (i : grid0.Coords) (k0_t9 : Fin (k0_t9_loop i).trips) (c0_i32_92 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1_i32_70 : BitVec 32 := 1#32
  let arg16 : BitVec 32 := Scf.iv c0_i32_67 c1_i32_70 k0_t9
  let c2_i32_79 : BitVec 32 := 2#32
  let v95 : BitVec 32 := Scalar.muli arg16 c2_i32_79
  let c1_i32_80 : BitVec 32 := 1#32
  let v96 : BitVec 32 := Scalar.addi v95 c1_i32_80
  let c32_i32_83 : BitVec 32 := 32#32
  let v100 : BitVec 32 := Scalar.muli v96 c32_i32_83
  let v101 : BitVec 32 := Scalar.addi v1 v100
  let c5120_i32 : BitVec 32 := 5120#32
  let v102 : BitVec 32 := Scalar.muli v101 c5120_i32
  let c8_i32 : BitVec 32 := 8#32
  let v108 : BitVec 32 := Scalar.muli v102 c8_i32
  let v109 : BitVec 32 := Scalar.addi v108 c0_i32_92
  ![v109.toNat]
@[reducible] def k0_t12_loop (i : grid0.Coords) : Scf.Loop 32 :=
  let c0_i32_67 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let v78 : BitVec 32 := Scalar.addi c0_i32_67 v77
  let c1_i32_71 : BitVec 32 := 1#32
  ⟨v81, v78, c1_i32_71⟩
def k0_cond5 (i : grid0.Coords) (k0_t12 : Fin (k0_t12_loop i).trips) : BitVec 1 :=
  let c0_i32_67 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_76 : BitVec 32 := 2#32
  let v90 : BitVec 32 := Scalar.muli arg16 c2_i32_76
  let c0_i32_77 : BitVec 32 := 0#32
  let v91 : BitVec 32 := Scalar.addi v90 c0_i32_77
  let v92 : BitVec 1 := Scalar.cmpi .slt v91 v58
  let v93 : BitVec 32 := Scalar.extui v92
  let c0_i32_78 : BitVec 32 := 0#32
  let v94 : BitVec 1 := Scalar.cmpi .ne v93 c0_i32_78
  v94

def k0_off23 (i : grid0.Coords) (k0_t12 : Fin (k0_t12_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1250_i32 : BitVec 32 := 1250#32
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_76 : BitVec 32 := 2#32
  let v90 : BitVec 32 := Scalar.muli arg16 c2_i32_76
  let c0_i32_77 : BitVec 32 := 0#32
  let v91 : BitVec 32 := Scalar.addi v90 c0_i32_77
  let c32_i32_83 : BitVec 32 := 32#32
  let v100 : BitVec 32 := Scalar.muli v91 c32_i32_83
  let v101 : BitVec 32 := Scalar.addi v1 v100
  let c5120_i32 : BitVec 32 := 5120#32
  let v102 : BitVec 32 := Scalar.muli v101 c5120_i32
  ![v102.toNat]
def k0_cond6 (i : grid0.Coords) (k0_t12 : Fin (k0_t12_loop i).trips) : BitVec 1 :=
  let c0_i32_67 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_76 : BitVec 32 := 2#32
  let v90 : BitVec 32 := Scalar.muli arg16 c2_i32_76
  let c0_i32_77 : BitVec 32 := 0#32
  let v91 : BitVec 32 := Scalar.addi v90 c0_i32_77
  let c2_i32_84 : BitVec 32 := 2#32
  let v103 : BitVec 1 := Scalar.cmpi .sge v91 c2_i32_84
  let v104 : BitVec 32 := Scalar.extui v103
  let c0_i32_86 : BitVec 32 := 0#32
  let v105 : BitVec 1 := Scalar.cmpi .ne v104 c0_i32_86
  v105

def k0_off24 (i : grid0.Coords) (k0_t12 : Fin (k0_t12_loop i).trips) (c0_i32_105 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1250_i32 : BitVec 32 := 1250#32
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_76 : BitVec 32 := 2#32
  let v90 : BitVec 32 := Scalar.muli arg16 c2_i32_76
  let c0_i32_77 : BitVec 32 := 0#32
  let v91 : BitVec 32 := Scalar.addi v90 c0_i32_77
  let c32_i32_83 : BitVec 32 := 32#32
  let v100 : BitVec 32 := Scalar.muli v91 c32_i32_83
  let v101 : BitVec 32 := Scalar.addi v1 v100
  let c5120_i32 : BitVec 32 := 5120#32
  let v102 : BitVec 32 := Scalar.muli v101 c5120_i32
  let c8_i32_104 : BitVec 32 := 8#32
  let v128 : BitVec 32 := Scalar.muli v102 c8_i32_104
  let v129 : BitVec 32 := Scalar.addi v128 c0_i32_105
  ![v129.toNat]
@[reducible] def k0_t13_loop : Scf.Loop 32 :=
  let c0_i32_89 : BitVec 32 := 0#32
  let c80_i32 : BitVec 32 := 80#32
  let v106 : BitVec 32 := Scalar.addi c0_i32_89 c80_i32
  let c1_i32_90 : BitVec 32 := 1#32
  ⟨c0_i32_89, v106, c1_i32_90⟩
def k0_off25 (k0_t13 : Fin k0_t13_loop.trips) : Fin 1 → Nat :=
  let c0_i32_89 : BitVec 32 := 0#32
  let c1_i32_90 : BitVec 32 := 1#32
  let arg18 : BitVec 32 := Scf.iv c0_i32_89 c1_i32_90 k0_t13
  let c4_i32_104 : BitVec 32 := 4#32
  let v128 : BitVec 32 := Scalar.muli arg18 c4_i32_104
  let c0_i32_105 : BitVec 32 := 0#32
  let v129 : BitVec 32 := Scalar.addi v128 c0_i32_105
  let c16_i32 : BitVec 32 := 16#32
  let v130 : BitVec 32 := Scalar.muli v129 c16_i32
  let v131 : Index := Scalar.indexCast v130
  ![v131.toNat]

def k0_chk129 (i : grid0.Coords) (k0_t12 : Fin (k0_t12_loop i).trips) (v153 : IVec S16 32) : Prop :=
  (∀ (k0_h5 : k0_cond5 i k0_t12 = 1#1), ∀ a x, ((![v153] : Fin 1 → IVec S16 32) a x).toNat < S40064.size a)
theorem k0_idx129_inb : ∀ (i : grid0.Coords) (k0_t12 : Fin (k0_t12_loop i).trips) (v153 : IVec S16 32) (k0_hw129 : k0_chk129 i k0_t12 v153), ∀ (k0_h5 : k0_cond5 i k0_t12 = 1#1), ∀ a x, ((![v153] : Fin 1 → IVec S16 32) a x).toNat < S40064.size a := fun i k0_t12 v153 k0_hw129 k0_h5 => k0_hw129 k0_h5

def k0_chk130 (i : grid0.Coords) (k0_t12 : Fin (k0_t12_loop i).trips) (v156 : IVec S16 32) : Prop :=
  (∀ (k0_h5 : k0_cond5 i k0_t12 = 1#1), ∀ a x, ((![v156] : Fin 1 → IVec S16 32) a x).toNat < S40960.size a)
theorem k0_idx130_inb : ∀ (i : grid0.Coords) (k0_t12 : Fin (k0_t12_loop i).trips) (v156 : IVec S16 32) (k0_hw130 : k0_chk130 i k0_t12 v156), ∀ (k0_h5 : k0_cond5 i k0_t12 = 1#1), ∀ a x, ((![v156] : Fin 1 → IVec S16 32) a x).toNat < S40960.size a := fun i k0_t12 v156 k0_hw130 k0_h5 => k0_hw130 k0_h5

def k0_chk131 (i : grid0.Coords) (k0_t12 : Fin (k0_t12_loop i).trips) (v160 : IVec S16 32) : Prop :=
  (∀ (k0_h5 : k0_cond5 i k0_t12 = 1#1), ∀ a x, ((![v160] : Fin 1 → IVec S16 32) a x).toNat < S40064.size a)
theorem k0_idx131_inb : ∀ (i : grid0.Coords) (k0_t12 : Fin (k0_t12_loop i).trips) (v160 : IVec S16 32) (k0_hw131 : k0_chk131 i k0_t12 v160), ∀ (k0_h5 : k0_cond5 i k0_t12 = 1#1), ∀ a x, ((![v160] : Fin 1 → IVec S16 32) a x).toNat < S40064.size a := fun i k0_t12 v160 k0_hw131 k0_h5 => k0_hw131 k0_h5

def k0_chk132 (i : grid0.Coords) (k0_t12 : Fin (k0_t12_loop i).trips) (v163 : IVec S16 32) : Prop :=
  (∀ (k0_h5 : k0_cond5 i k0_t12 = 1#1), ∀ a x, ((![v163] : Fin 1 → IVec S16 32) a x).toNat < S40960.size a)
theorem k0_idx132_inb : ∀ (i : grid0.Coords) (k0_t12 : Fin (k0_t12_loop i).trips) (v163 : IVec S16 32) (k0_hw132 : k0_chk132 i k0_t12 v163), ∀ (k0_h5 : k0_cond5 i k0_t12 = 1#1), ∀ a x, ((![v163] : Fin 1 → IVec S16 32) a x).toNat < S40960.size a := fun i k0_t12 v163 k0_hw132 k0_h5 => k0_hw132 k0_h5

def k0_chk133 (i : grid0.Coords) (k0_t12 : Fin (k0_t12_loop i).trips) (v167 : IVec S16 32) : Prop :=
  (∀ (k0_h5 : k0_cond5 i k0_t12 = 1#1), ∀ a x, ((![v167] : Fin 1 → IVec S16 32) a x).toNat < S40064.size a)
theorem k0_idx133_inb : ∀ (i : grid0.Coords) (k0_t12 : Fin (k0_t12_loop i).trips) (v167 : IVec S16 32) (k0_hw133 : k0_chk133 i k0_t12 v167), ∀ (k0_h5 : k0_cond5 i k0_t12 = 1#1), ∀ a x, ((![v167] : Fin 1 → IVec S16 32) a x).toNat < S40064.size a := fun i k0_t12 v167 k0_hw133 k0_h5 => k0_hw133 k0_h5

def k0_chk134 (i : grid0.Coords) (k0_t12 : Fin (k0_t12_loop i).trips) (v170 : IVec S16 32) : Prop :=
  (∀ (k0_h5 : k0_cond5 i k0_t12 = 1#1), ∀ a x, ((![v170] : Fin 1 → IVec S16 32) a x).toNat < S40960.size a)
theorem k0_idx134_inb : ∀ (i : grid0.Coords) (k0_t12 : Fin (k0_t12_loop i).trips) (v170 : IVec S16 32) (k0_hw134 : k0_chk134 i k0_t12 v170), ∀ (k0_h5 : k0_cond5 i k0_t12 = 1#1), ∀ a x, ((![v170] : Fin 1 → IVec S16 32) a x).toNat < S40960.size a := fun i k0_t12 v170 k0_hw134 k0_h5 => k0_hw134 k0_h5

def k0_chk135 (i : grid0.Coords) (k0_t12 : Fin (k0_t12_loop i).trips) (v174 : IVec S16 32) : Prop :=
  (∀ (k0_h5 : k0_cond5 i k0_t12 = 1#1), ∀ a x, ((![v174] : Fin 1 → IVec S16 32) a x).toNat < S40064.size a)
theorem k0_idx135_inb : ∀ (i : grid0.Coords) (k0_t12 : Fin (k0_t12_loop i).trips) (v174 : IVec S16 32) (k0_hw135 : k0_chk135 i k0_t12 v174), ∀ (k0_h5 : k0_cond5 i k0_t12 = 1#1), ∀ a x, ((![v174] : Fin 1 → IVec S16 32) a x).toNat < S40064.size a := fun i k0_t12 v174 k0_hw135 k0_h5 => k0_hw135 k0_h5

def k0_chk136 (i : grid0.Coords) (k0_t12 : Fin (k0_t12_loop i).trips) (v177 : IVec S16 32) : Prop :=
  (∀ (k0_h5 : k0_cond5 i k0_t12 = 1#1), ∀ a x, ((![v177] : Fin 1 → IVec S16 32) a x).toNat < S40960.size a)
theorem k0_idx136_inb : ∀ (i : grid0.Coords) (k0_t12 : Fin (k0_t12_loop i).trips) (v177 : IVec S16 32) (k0_hw136 : k0_chk136 i k0_t12 v177), ∀ (k0_h5 : k0_cond5 i k0_t12 = 1#1), ∀ a x, ((![v177] : Fin 1 → IVec S16 32) a x).toNat < S40960.size a := fun i k0_t12 v177 k0_hw136 k0_h5 => k0_hw136 k0_h5

def k0_chk137 (i : grid0.Coords) (k0_t12 : Fin (k0_t12_loop i).trips) (v181 : IVec S16 32) : Prop :=
  (∀ (k0_h5 : k0_cond5 i k0_t12 = 1#1), ∀ a x, ((![v181] : Fin 1 → IVec S16 32) a x).toNat < S40064.size a)
theorem k0_idx137_inb : ∀ (i : grid0.Coords) (k0_t12 : Fin (k0_t12_loop i).trips) (v181 : IVec S16 32) (k0_hw137 : k0_chk137 i k0_t12 v181), ∀ (k0_h5 : k0_cond5 i k0_t12 = 1#1), ∀ a x, ((![v181] : Fin 1 → IVec S16 32) a x).toNat < S40064.size a := fun i k0_t12 v181 k0_hw137 k0_h5 => k0_hw137 k0_h5

def k0_chk138 (i : grid0.Coords) (k0_t12 : Fin (k0_t12_loop i).trips) (v184 : IVec S16 32) : Prop :=
  (∀ (k0_h5 : k0_cond5 i k0_t12 = 1#1), ∀ a x, ((![v184] : Fin 1 → IVec S16 32) a x).toNat < S40960.size a)
theorem k0_idx138_inb : ∀ (i : grid0.Coords) (k0_t12 : Fin (k0_t12_loop i).trips) (v184 : IVec S16 32) (k0_hw138 : k0_chk138 i k0_t12 v184), ∀ (k0_h5 : k0_cond5 i k0_t12 = 1#1), ∀ a x, ((![v184] : Fin 1 → IVec S16 32) a x).toNat < S40960.size a := fun i k0_t12 v184 k0_hw138 k0_h5 => k0_hw138 k0_h5

def k0_chk139 (i : grid0.Coords) (k0_t12 : Fin (k0_t12_loop i).trips) (v188 : IVec S16 32) : Prop :=
  (∀ (k0_h5 : k0_cond5 i k0_t12 = 1#1), ∀ a x, ((![v188] : Fin 1 → IVec S16 32) a x).toNat < S40064.size a)
theorem k0_idx139_inb : ∀ (i : grid0.Coords) (k0_t12 : Fin (k0_t12_loop i).trips) (v188 : IVec S16 32) (k0_hw139 : k0_chk139 i k0_t12 v188), ∀ (k0_h5 : k0_cond5 i k0_t12 = 1#1), ∀ a x, ((![v188] : Fin 1 → IVec S16 32) a x).toNat < S40064.size a := fun i k0_t12 v188 k0_hw139 k0_h5 => k0_hw139 k0_h5

def k0_chk140 (i : grid0.Coords) (k0_t12 : Fin (k0_t12_loop i).trips) (v191 : IVec S16 32) : Prop :=
  (∀ (k0_h5 : k0_cond5 i k0_t12 = 1#1), ∀ a x, ((![v191] : Fin 1 → IVec S16 32) a x).toNat < S40960.size a)
theorem k0_idx140_inb : ∀ (i : grid0.Coords) (k0_t12 : Fin (k0_t12_loop i).trips) (v191 : IVec S16 32) (k0_hw140 : k0_chk140 i k0_t12 v191), ∀ (k0_h5 : k0_cond5 i k0_t12 = 1#1), ∀ a x, ((![v191] : Fin 1 → IVec S16 32) a x).toNat < S40960.size a := fun i k0_t12 v191 k0_hw140 k0_h5 => k0_hw140 k0_h5

def k0_chk141 (i : grid0.Coords) (k0_t12 : Fin (k0_t12_loop i).trips) (v195 : IVec S16 32) : Prop :=
  (∀ (k0_h5 : k0_cond5 i k0_t12 = 1#1), ∀ a x, ((![v195] : Fin 1 → IVec S16 32) a x).toNat < S40064.size a)
theorem k0_idx141_inb : ∀ (i : grid0.Coords) (k0_t12 : Fin (k0_t12_loop i).trips) (v195 : IVec S16 32) (k0_hw141 : k0_chk141 i k0_t12 v195), ∀ (k0_h5 : k0_cond5 i k0_t12 = 1#1), ∀ a x, ((![v195] : Fin 1 → IVec S16 32) a x).toNat < S40064.size a := fun i k0_t12 v195 k0_hw141 k0_h5 => k0_hw141 k0_h5

def k0_chk142 (i : grid0.Coords) (k0_t12 : Fin (k0_t12_loop i).trips) (v198 : IVec S16 32) : Prop :=
  (∀ (k0_h5 : k0_cond5 i k0_t12 = 1#1), ∀ a x, ((![v198] : Fin 1 → IVec S16 32) a x).toNat < S40960.size a)
theorem k0_idx142_inb : ∀ (i : grid0.Coords) (k0_t12 : Fin (k0_t12_loop i).trips) (v198 : IVec S16 32) (k0_hw142 : k0_chk142 i k0_t12 v198), ∀ (k0_h5 : k0_cond5 i k0_t12 = 1#1), ∀ a x, ((![v198] : Fin 1 → IVec S16 32) a x).toNat < S40960.size a := fun i k0_t12 v198 k0_hw142 k0_h5 => k0_hw142 k0_h5

def k0_chk143 (i : grid0.Coords) (k0_t12 : Fin (k0_t12_loop i).trips) (v202 : IVec S16 32) : Prop :=
  (∀ (k0_h5 : k0_cond5 i k0_t12 = 1#1), ∀ a x, ((![v202] : Fin 1 → IVec S16 32) a x).toNat < S40064.size a)
theorem k0_idx143_inb : ∀ (i : grid0.Coords) (k0_t12 : Fin (k0_t12_loop i).trips) (v202 : IVec S16 32) (k0_hw143 : k0_chk143 i k0_t12 v202), ∀ (k0_h5 : k0_cond5 i k0_t12 = 1#1), ∀ a x, ((![v202] : Fin 1 → IVec S16 32) a x).toNat < S40064.size a := fun i k0_t12 v202 k0_hw143 k0_h5 => k0_hw143 k0_h5

def k0_chk144 (i : grid0.Coords) (k0_t12 : Fin (k0_t12_loop i).trips) (v205 : IVec S16 32) : Prop :=
  (∀ (k0_h5 : k0_cond5 i k0_t12 = 1#1), ∀ a x, ((![v205] : Fin 1 → IVec S16 32) a x).toNat < S40960.size a)
theorem k0_idx144_inb : ∀ (i : grid0.Coords) (k0_t12 : Fin (k0_t12_loop i).trips) (v205 : IVec S16 32) (k0_hw144 : k0_chk144 i k0_t12 v205), ∀ (k0_h5 : k0_cond5 i k0_t12 = 1#1), ∀ a x, ((![v205] : Fin 1 → IVec S16 32) a x).toNat < S40960.size a := fun i k0_t12 v205 k0_hw144 k0_h5 => k0_hw144 k0_h5
def k0_off26 (k0_t13 : Fin k0_t13_loop.trips) : Fin 1 → Nat :=
  let c0_i32_89 : BitVec 32 := 0#32
  let c1_i32_90 : BitVec 32 := 1#32
  let arg18 : BitVec 32 := Scf.iv c0_i32_89 c1_i32_90 k0_t13
  let c4_i32_121 : BitVec 32 := 4#32
  let v208 : BitVec 32 := Scalar.muli arg18 c4_i32_121
  let c1_i32_122 : BitVec 32 := 1#32
  let v209 : BitVec 32 := Scalar.addi v208 c1_i32_122
  let c16_i32_123 : BitVec 32 := 16#32
  let v210 : BitVec 32 := Scalar.muli v209 c16_i32_123
  let v211 : Index := Scalar.indexCast v210
  ![v211.toNat]

def k0_chk145 (i : grid0.Coords) (k0_t12 : Fin (k0_t12_loop i).trips) (v233 : IVec S16 32) : Prop :=
  (∀ (k0_h5 : k0_cond5 i k0_t12 = 1#1), ∀ a x, ((![v233] : Fin 1 → IVec S16 32) a x).toNat < S40064.size a)
theorem k0_idx145_inb : ∀ (i : grid0.Coords) (k0_t12 : Fin (k0_t12_loop i).trips) (v233 : IVec S16 32) (k0_hw145 : k0_chk145 i k0_t12 v233), ∀ (k0_h5 : k0_cond5 i k0_t12 = 1#1), ∀ a x, ((![v233] : Fin 1 → IVec S16 32) a x).toNat < S40064.size a := fun i k0_t12 v233 k0_hw145 k0_h5 => k0_hw145 k0_h5

def k0_chk146 (i : grid0.Coords) (k0_t12 : Fin (k0_t12_loop i).trips) (v236 : IVec S16 32) : Prop :=
  (∀ (k0_h5 : k0_cond5 i k0_t12 = 1#1), ∀ a x, ((![v236] : Fin 1 → IVec S16 32) a x).toNat < S40960.size a)
theorem k0_idx146_inb : ∀ (i : grid0.Coords) (k0_t12 : Fin (k0_t12_loop i).trips) (v236 : IVec S16 32) (k0_hw146 : k0_chk146 i k0_t12 v236), ∀ (k0_h5 : k0_cond5 i k0_t12 = 1#1), ∀ a x, ((![v236] : Fin 1 → IVec S16 32) a x).toNat < S40960.size a := fun i k0_t12 v236 k0_hw146 k0_h5 => k0_hw146 k0_h5

def k0_chk147 (i : grid0.Coords) (k0_t12 : Fin (k0_t12_loop i).trips) (v240 : IVec S16 32) : Prop :=
  (∀ (k0_h5 : k0_cond5 i k0_t12 = 1#1), ∀ a x, ((![v240] : Fin 1 → IVec S16 32) a x).toNat < S40064.size a)
theorem k0_idx147_inb : ∀ (i : grid0.Coords) (k0_t12 : Fin (k0_t12_loop i).trips) (v240 : IVec S16 32) (k0_hw147 : k0_chk147 i k0_t12 v240), ∀ (k0_h5 : k0_cond5 i k0_t12 = 1#1), ∀ a x, ((![v240] : Fin 1 → IVec S16 32) a x).toNat < S40064.size a := fun i k0_t12 v240 k0_hw147 k0_h5 => k0_hw147 k0_h5

def k0_chk148 (i : grid0.Coords) (k0_t12 : Fin (k0_t12_loop i).trips) (v243 : IVec S16 32) : Prop :=
  (∀ (k0_h5 : k0_cond5 i k0_t12 = 1#1), ∀ a x, ((![v243] : Fin 1 → IVec S16 32) a x).toNat < S40960.size a)
theorem k0_idx148_inb : ∀ (i : grid0.Coords) (k0_t12 : Fin (k0_t12_loop i).trips) (v243 : IVec S16 32) (k0_hw148 : k0_chk148 i k0_t12 v243), ∀ (k0_h5 : k0_cond5 i k0_t12 = 1#1), ∀ a x, ((![v243] : Fin 1 → IVec S16 32) a x).toNat < S40960.size a := fun i k0_t12 v243 k0_hw148 k0_h5 => k0_hw148 k0_h5

def k0_chk149 (i : grid0.Coords) (k0_t12 : Fin (k0_t12_loop i).trips) (v247 : IVec S16 32) : Prop :=
  (∀ (k0_h5 : k0_cond5 i k0_t12 = 1#1), ∀ a x, ((![v247] : Fin 1 → IVec S16 32) a x).toNat < S40064.size a)
theorem k0_idx149_inb : ∀ (i : grid0.Coords) (k0_t12 : Fin (k0_t12_loop i).trips) (v247 : IVec S16 32) (k0_hw149 : k0_chk149 i k0_t12 v247), ∀ (k0_h5 : k0_cond5 i k0_t12 = 1#1), ∀ a x, ((![v247] : Fin 1 → IVec S16 32) a x).toNat < S40064.size a := fun i k0_t12 v247 k0_hw149 k0_h5 => k0_hw149 k0_h5

def k0_chk150 (i : grid0.Coords) (k0_t12 : Fin (k0_t12_loop i).trips) (v250 : IVec S16 32) : Prop :=
  (∀ (k0_h5 : k0_cond5 i k0_t12 = 1#1), ∀ a x, ((![v250] : Fin 1 → IVec S16 32) a x).toNat < S40960.size a)
theorem k0_idx150_inb : ∀ (i : grid0.Coords) (k0_t12 : Fin (k0_t12_loop i).trips) (v250 : IVec S16 32) (k0_hw150 : k0_chk150 i k0_t12 v250), ∀ (k0_h5 : k0_cond5 i k0_t12 = 1#1), ∀ a x, ((![v250] : Fin 1 → IVec S16 32) a x).toNat < S40960.size a := fun i k0_t12 v250 k0_hw150 k0_h5 => k0_hw150 k0_h5

def k0_chk151 (i : grid0.Coords) (k0_t12 : Fin (k0_t12_loop i).trips) (v254 : IVec S16 32) : Prop :=
  (∀ (k0_h5 : k0_cond5 i k0_t12 = 1#1), ∀ a x, ((![v254] : Fin 1 → IVec S16 32) a x).toNat < S40064.size a)
theorem k0_idx151_inb : ∀ (i : grid0.Coords) (k0_t12 : Fin (k0_t12_loop i).trips) (v254 : IVec S16 32) (k0_hw151 : k0_chk151 i k0_t12 v254), ∀ (k0_h5 : k0_cond5 i k0_t12 = 1#1), ∀ a x, ((![v254] : Fin 1 → IVec S16 32) a x).toNat < S40064.size a := fun i k0_t12 v254 k0_hw151 k0_h5 => k0_hw151 k0_h5

def k0_chk152 (i : grid0.Coords) (k0_t12 : Fin (k0_t12_loop i).trips) (v257 : IVec S16 32) : Prop :=
  (∀ (k0_h5 : k0_cond5 i k0_t12 = 1#1), ∀ a x, ((![v257] : Fin 1 → IVec S16 32) a x).toNat < S40960.size a)
theorem k0_idx152_inb : ∀ (i : grid0.Coords) (k0_t12 : Fin (k0_t12_loop i).trips) (v257 : IVec S16 32) (k0_hw152 : k0_chk152 i k0_t12 v257), ∀ (k0_h5 : k0_cond5 i k0_t12 = 1#1), ∀ a x, ((![v257] : Fin 1 → IVec S16 32) a x).toNat < S40960.size a := fun i k0_t12 v257 k0_hw152 k0_h5 => k0_hw152 k0_h5

def k0_chk153 (i : grid0.Coords) (k0_t12 : Fin (k0_t12_loop i).trips) (v261 : IVec S16 32) : Prop :=
  (∀ (k0_h5 : k0_cond5 i k0_t12 = 1#1), ∀ a x, ((![v261] : Fin 1 → IVec S16 32) a x).toNat < S40064.size a)
theorem k0_idx153_inb : ∀ (i : grid0.Coords) (k0_t12 : Fin (k0_t12_loop i).trips) (v261 : IVec S16 32) (k0_hw153 : k0_chk153 i k0_t12 v261), ∀ (k0_h5 : k0_cond5 i k0_t12 = 1#1), ∀ a x, ((![v261] : Fin 1 → IVec S16 32) a x).toNat < S40064.size a := fun i k0_t12 v261 k0_hw153 k0_h5 => k0_hw153 k0_h5

def k0_chk154 (i : grid0.Coords) (k0_t12 : Fin (k0_t12_loop i).trips) (v264 : IVec S16 32) : Prop :=
  (∀ (k0_h5 : k0_cond5 i k0_t12 = 1#1), ∀ a x, ((![v264] : Fin 1 → IVec S16 32) a x).toNat < S40960.size a)
theorem k0_idx154_inb : ∀ (i : grid0.Coords) (k0_t12 : Fin (k0_t12_loop i).trips) (v264 : IVec S16 32) (k0_hw154 : k0_chk154 i k0_t12 v264), ∀ (k0_h5 : k0_cond5 i k0_t12 = 1#1), ∀ a x, ((![v264] : Fin 1 → IVec S16 32) a x).toNat < S40960.size a := fun i k0_t12 v264 k0_hw154 k0_h5 => k0_hw154 k0_h5

def k0_chk155 (i : grid0.Coords) (k0_t12 : Fin (k0_t12_loop i).trips) (v268 : IVec S16 32) : Prop :=
  (∀ (k0_h5 : k0_cond5 i k0_t12 = 1#1), ∀ a x, ((![v268] : Fin 1 → IVec S16 32) a x).toNat < S40064.size a)
theorem k0_idx155_inb : ∀ (i : grid0.Coords) (k0_t12 : Fin (k0_t12_loop i).trips) (v268 : IVec S16 32) (k0_hw155 : k0_chk155 i k0_t12 v268), ∀ (k0_h5 : k0_cond5 i k0_t12 = 1#1), ∀ a x, ((![v268] : Fin 1 → IVec S16 32) a x).toNat < S40064.size a := fun i k0_t12 v268 k0_hw155 k0_h5 => k0_hw155 k0_h5

def k0_chk156 (i : grid0.Coords) (k0_t12 : Fin (k0_t12_loop i).trips) (v271 : IVec S16 32) : Prop :=
  (∀ (k0_h5 : k0_cond5 i k0_t12 = 1#1), ∀ a x, ((![v271] : Fin 1 → IVec S16 32) a x).toNat < S40960.size a)
theorem k0_idx156_inb : ∀ (i : grid0.Coords) (k0_t12 : Fin (k0_t12_loop i).trips) (v271 : IVec S16 32) (k0_hw156 : k0_chk156 i k0_t12 v271), ∀ (k0_h5 : k0_cond5 i k0_t12 = 1#1), ∀ a x, ((![v271] : Fin 1 → IVec S16 32) a x).toNat < S40960.size a := fun i k0_t12 v271 k0_hw156 k0_h5 => k0_hw156 k0_h5

def k0_chk157 (i : grid0.Coords) (k0_t12 : Fin (k0_t12_loop i).trips) (v275 : IVec S16 32) : Prop :=
  (∀ (k0_h5 : k0_cond5 i k0_t12 = 1#1), ∀ a x, ((![v275] : Fin 1 → IVec S16 32) a x).toNat < S40064.size a)
theorem k0_idx157_inb : ∀ (i : grid0.Coords) (k0_t12 : Fin (k0_t12_loop i).trips) (v275 : IVec S16 32) (k0_hw157 : k0_chk157 i k0_t12 v275), ∀ (k0_h5 : k0_cond5 i k0_t12 = 1#1), ∀ a x, ((![v275] : Fin 1 → IVec S16 32) a x).toNat < S40064.size a := fun i k0_t12 v275 k0_hw157 k0_h5 => k0_hw157 k0_h5

def k0_chk158 (i : grid0.Coords) (k0_t12 : Fin (k0_t12_loop i).trips) (v278 : IVec S16 32) : Prop :=
  (∀ (k0_h5 : k0_cond5 i k0_t12 = 1#1), ∀ a x, ((![v278] : Fin 1 → IVec S16 32) a x).toNat < S40960.size a)
theorem k0_idx158_inb : ∀ (i : grid0.Coords) (k0_t12 : Fin (k0_t12_loop i).trips) (v278 : IVec S16 32) (k0_hw158 : k0_chk158 i k0_t12 v278), ∀ (k0_h5 : k0_cond5 i k0_t12 = 1#1), ∀ a x, ((![v278] : Fin 1 → IVec S16 32) a x).toNat < S40960.size a := fun i k0_t12 v278 k0_hw158 k0_h5 => k0_hw158 k0_h5

def k0_chk159 (i : grid0.Coords) (k0_t12 : Fin (k0_t12_loop i).trips) (v282 : IVec S16 32) : Prop :=
  (∀ (k0_h5 : k0_cond5 i k0_t12 = 1#1), ∀ a x, ((![v282] : Fin 1 → IVec S16 32) a x).toNat < S40064.size a)
theorem k0_idx159_inb : ∀ (i : grid0.Coords) (k0_t12 : Fin (k0_t12_loop i).trips) (v282 : IVec S16 32) (k0_hw159 : k0_chk159 i k0_t12 v282), ∀ (k0_h5 : k0_cond5 i k0_t12 = 1#1), ∀ a x, ((![v282] : Fin 1 → IVec S16 32) a x).toNat < S40064.size a := fun i k0_t12 v282 k0_hw159 k0_h5 => k0_hw159 k0_h5

def k0_chk160 (i : grid0.Coords) (k0_t12 : Fin (k0_t12_loop i).trips) (v285 : IVec S16 32) : Prop :=
  (∀ (k0_h5 : k0_cond5 i k0_t12 = 1#1), ∀ a x, ((![v285] : Fin 1 → IVec S16 32) a x).toNat < S40960.size a)
theorem k0_idx160_inb : ∀ (i : grid0.Coords) (k0_t12 : Fin (k0_t12_loop i).trips) (v285 : IVec S16 32) (k0_hw160 : k0_chk160 i k0_t12 v285), ∀ (k0_h5 : k0_cond5 i k0_t12 = 1#1), ∀ a x, ((![v285] : Fin 1 → IVec S16 32) a x).toNat < S40960.size a := fun i k0_t12 v285 k0_hw160 k0_h5 => k0_hw160 k0_h5
def k0_off27 (k0_t13 : Fin k0_t13_loop.trips) : Fin 1 → Nat :=
  let c0_i32_89 : BitVec 32 := 0#32
  let c1_i32_90 : BitVec 32 := 1#32
  let arg18 : BitVec 32 := Scf.iv c0_i32_89 c1_i32_90 k0_t13
  let c4_i32_155 : BitVec 32 := 4#32
  let v288 : BitVec 32 := Scalar.muli arg18 c4_i32_155
  let c2_i32_156 : BitVec 32 := 2#32
  let v289 : BitVec 32 := Scalar.addi v288 c2_i32_156
  let c16_i32_157 : BitVec 32 := 16#32
  let v290 : BitVec 32 := Scalar.muli v289 c16_i32_157
  let v291 : Index := Scalar.indexCast v290
  ![v291.toNat]

def k0_chk161 (i : grid0.Coords) (k0_t12 : Fin (k0_t12_loop i).trips) (v313 : IVec S16 32) : Prop :=
  (∀ (k0_h5 : k0_cond5 i k0_t12 = 1#1), ∀ a x, ((![v313] : Fin 1 → IVec S16 32) a x).toNat < S40064.size a)
theorem k0_idx161_inb : ∀ (i : grid0.Coords) (k0_t12 : Fin (k0_t12_loop i).trips) (v313 : IVec S16 32) (k0_hw161 : k0_chk161 i k0_t12 v313), ∀ (k0_h5 : k0_cond5 i k0_t12 = 1#1), ∀ a x, ((![v313] : Fin 1 → IVec S16 32) a x).toNat < S40064.size a := fun i k0_t12 v313 k0_hw161 k0_h5 => k0_hw161 k0_h5

def k0_chk162 (i : grid0.Coords) (k0_t12 : Fin (k0_t12_loop i).trips) (v316 : IVec S16 32) : Prop :=
  (∀ (k0_h5 : k0_cond5 i k0_t12 = 1#1), ∀ a x, ((![v316] : Fin 1 → IVec S16 32) a x).toNat < S40960.size a)
theorem k0_idx162_inb : ∀ (i : grid0.Coords) (k0_t12 : Fin (k0_t12_loop i).trips) (v316 : IVec S16 32) (k0_hw162 : k0_chk162 i k0_t12 v316), ∀ (k0_h5 : k0_cond5 i k0_t12 = 1#1), ∀ a x, ((![v316] : Fin 1 → IVec S16 32) a x).toNat < S40960.size a := fun i k0_t12 v316 k0_hw162 k0_h5 => k0_hw162 k0_h5

def k0_chk163 (i : grid0.Coords) (k0_t12 : Fin (k0_t12_loop i).trips) (v320 : IVec S16 32) : Prop :=
  (∀ (k0_h5 : k0_cond5 i k0_t12 = 1#1), ∀ a x, ((![v320] : Fin 1 → IVec S16 32) a x).toNat < S40064.size a)
theorem k0_idx163_inb : ∀ (i : grid0.Coords) (k0_t12 : Fin (k0_t12_loop i).trips) (v320 : IVec S16 32) (k0_hw163 : k0_chk163 i k0_t12 v320), ∀ (k0_h5 : k0_cond5 i k0_t12 = 1#1), ∀ a x, ((![v320] : Fin 1 → IVec S16 32) a x).toNat < S40064.size a := fun i k0_t12 v320 k0_hw163 k0_h5 => k0_hw163 k0_h5

def k0_chk164 (i : grid0.Coords) (k0_t12 : Fin (k0_t12_loop i).trips) (v323 : IVec S16 32) : Prop :=
  (∀ (k0_h5 : k0_cond5 i k0_t12 = 1#1), ∀ a x, ((![v323] : Fin 1 → IVec S16 32) a x).toNat < S40960.size a)
theorem k0_idx164_inb : ∀ (i : grid0.Coords) (k0_t12 : Fin (k0_t12_loop i).trips) (v323 : IVec S16 32) (k0_hw164 : k0_chk164 i k0_t12 v323), ∀ (k0_h5 : k0_cond5 i k0_t12 = 1#1), ∀ a x, ((![v323] : Fin 1 → IVec S16 32) a x).toNat < S40960.size a := fun i k0_t12 v323 k0_hw164 k0_h5 => k0_hw164 k0_h5

def k0_chk165 (i : grid0.Coords) (k0_t12 : Fin (k0_t12_loop i).trips) (v327 : IVec S16 32) : Prop :=
  (∀ (k0_h5 : k0_cond5 i k0_t12 = 1#1), ∀ a x, ((![v327] : Fin 1 → IVec S16 32) a x).toNat < S40064.size a)
theorem k0_idx165_inb : ∀ (i : grid0.Coords) (k0_t12 : Fin (k0_t12_loop i).trips) (v327 : IVec S16 32) (k0_hw165 : k0_chk165 i k0_t12 v327), ∀ (k0_h5 : k0_cond5 i k0_t12 = 1#1), ∀ a x, ((![v327] : Fin 1 → IVec S16 32) a x).toNat < S40064.size a := fun i k0_t12 v327 k0_hw165 k0_h5 => k0_hw165 k0_h5

def k0_chk166 (i : grid0.Coords) (k0_t12 : Fin (k0_t12_loop i).trips) (v330 : IVec S16 32) : Prop :=
  (∀ (k0_h5 : k0_cond5 i k0_t12 = 1#1), ∀ a x, ((![v330] : Fin 1 → IVec S16 32) a x).toNat < S40960.size a)
theorem k0_idx166_inb : ∀ (i : grid0.Coords) (k0_t12 : Fin (k0_t12_loop i).trips) (v330 : IVec S16 32) (k0_hw166 : k0_chk166 i k0_t12 v330), ∀ (k0_h5 : k0_cond5 i k0_t12 = 1#1), ∀ a x, ((![v330] : Fin 1 → IVec S16 32) a x).toNat < S40960.size a := fun i k0_t12 v330 k0_hw166 k0_h5 => k0_hw166 k0_h5

def k0_chk167 (i : grid0.Coords) (k0_t12 : Fin (k0_t12_loop i).trips) (v334 : IVec S16 32) : Prop :=
  (∀ (k0_h5 : k0_cond5 i k0_t12 = 1#1), ∀ a x, ((![v334] : Fin 1 → IVec S16 32) a x).toNat < S40064.size a)
theorem k0_idx167_inb : ∀ (i : grid0.Coords) (k0_t12 : Fin (k0_t12_loop i).trips) (v334 : IVec S16 32) (k0_hw167 : k0_chk167 i k0_t12 v334), ∀ (k0_h5 : k0_cond5 i k0_t12 = 1#1), ∀ a x, ((![v334] : Fin 1 → IVec S16 32) a x).toNat < S40064.size a := fun i k0_t12 v334 k0_hw167 k0_h5 => k0_hw167 k0_h5

def k0_chk168 (i : grid0.Coords) (k0_t12 : Fin (k0_t12_loop i).trips) (v337 : IVec S16 32) : Prop :=
  (∀ (k0_h5 : k0_cond5 i k0_t12 = 1#1), ∀ a x, ((![v337] : Fin 1 → IVec S16 32) a x).toNat < S40960.size a)
theorem k0_idx168_inb : ∀ (i : grid0.Coords) (k0_t12 : Fin (k0_t12_loop i).trips) (v337 : IVec S16 32) (k0_hw168 : k0_chk168 i k0_t12 v337), ∀ (k0_h5 : k0_cond5 i k0_t12 = 1#1), ∀ a x, ((![v337] : Fin 1 → IVec S16 32) a x).toNat < S40960.size a := fun i k0_t12 v337 k0_hw168 k0_h5 => k0_hw168 k0_h5

def k0_chk169 (i : grid0.Coords) (k0_t12 : Fin (k0_t12_loop i).trips) (v341 : IVec S16 32) : Prop :=
  (∀ (k0_h5 : k0_cond5 i k0_t12 = 1#1), ∀ a x, ((![v341] : Fin 1 → IVec S16 32) a x).toNat < S40064.size a)
theorem k0_idx169_inb : ∀ (i : grid0.Coords) (k0_t12 : Fin (k0_t12_loop i).trips) (v341 : IVec S16 32) (k0_hw169 : k0_chk169 i k0_t12 v341), ∀ (k0_h5 : k0_cond5 i k0_t12 = 1#1), ∀ a x, ((![v341] : Fin 1 → IVec S16 32) a x).toNat < S40064.size a := fun i k0_t12 v341 k0_hw169 k0_h5 => k0_hw169 k0_h5

def k0_chk170 (i : grid0.Coords) (k0_t12 : Fin (k0_t12_loop i).trips) (v344 : IVec S16 32) : Prop :=
  (∀ (k0_h5 : k0_cond5 i k0_t12 = 1#1), ∀ a x, ((![v344] : Fin 1 → IVec S16 32) a x).toNat < S40960.size a)
theorem k0_idx170_inb : ∀ (i : grid0.Coords) (k0_t12 : Fin (k0_t12_loop i).trips) (v344 : IVec S16 32) (k0_hw170 : k0_chk170 i k0_t12 v344), ∀ (k0_h5 : k0_cond5 i k0_t12 = 1#1), ∀ a x, ((![v344] : Fin 1 → IVec S16 32) a x).toNat < S40960.size a := fun i k0_t12 v344 k0_hw170 k0_h5 => k0_hw170 k0_h5

def k0_chk171 (i : grid0.Coords) (k0_t12 : Fin (k0_t12_loop i).trips) (v348 : IVec S16 32) : Prop :=
  (∀ (k0_h5 : k0_cond5 i k0_t12 = 1#1), ∀ a x, ((![v348] : Fin 1 → IVec S16 32) a x).toNat < S40064.size a)
theorem k0_idx171_inb : ∀ (i : grid0.Coords) (k0_t12 : Fin (k0_t12_loop i).trips) (v348 : IVec S16 32) (k0_hw171 : k0_chk171 i k0_t12 v348), ∀ (k0_h5 : k0_cond5 i k0_t12 = 1#1), ∀ a x, ((![v348] : Fin 1 → IVec S16 32) a x).toNat < S40064.size a := fun i k0_t12 v348 k0_hw171 k0_h5 => k0_hw171 k0_h5

def k0_chk172 (i : grid0.Coords) (k0_t12 : Fin (k0_t12_loop i).trips) (v351 : IVec S16 32) : Prop :=
  (∀ (k0_h5 : k0_cond5 i k0_t12 = 1#1), ∀ a x, ((![v351] : Fin 1 → IVec S16 32) a x).toNat < S40960.size a)
theorem k0_idx172_inb : ∀ (i : grid0.Coords) (k0_t12 : Fin (k0_t12_loop i).trips) (v351 : IVec S16 32) (k0_hw172 : k0_chk172 i k0_t12 v351), ∀ (k0_h5 : k0_cond5 i k0_t12 = 1#1), ∀ a x, ((![v351] : Fin 1 → IVec S16 32) a x).toNat < S40960.size a := fun i k0_t12 v351 k0_hw172 k0_h5 => k0_hw172 k0_h5

def k0_chk173 (i : grid0.Coords) (k0_t12 : Fin (k0_t12_loop i).trips) (v355 : IVec S16 32) : Prop :=
  (∀ (k0_h5 : k0_cond5 i k0_t12 = 1#1), ∀ a x, ((![v355] : Fin 1 → IVec S16 32) a x).toNat < S40064.size a)
theorem k0_idx173_inb : ∀ (i : grid0.Coords) (k0_t12 : Fin (k0_t12_loop i).trips) (v355 : IVec S16 32) (k0_hw173 : k0_chk173 i k0_t12 v355), ∀ (k0_h5 : k0_cond5 i k0_t12 = 1#1), ∀ a x, ((![v355] : Fin 1 → IVec S16 32) a x).toNat < S40064.size a := fun i k0_t12 v355 k0_hw173 k0_h5 => k0_hw173 k0_h5

def k0_chk174 (i : grid0.Coords) (k0_t12 : Fin (k0_t12_loop i).trips) (v358 : IVec S16 32) : Prop :=
  (∀ (k0_h5 : k0_cond5 i k0_t12 = 1#1), ∀ a x, ((![v358] : Fin 1 → IVec S16 32) a x).toNat < S40960.size a)
theorem k0_idx174_inb : ∀ (i : grid0.Coords) (k0_t12 : Fin (k0_t12_loop i).trips) (v358 : IVec S16 32) (k0_hw174 : k0_chk174 i k0_t12 v358), ∀ (k0_h5 : k0_cond5 i k0_t12 = 1#1), ∀ a x, ((![v358] : Fin 1 → IVec S16 32) a x).toNat < S40960.size a := fun i k0_t12 v358 k0_hw174 k0_h5 => k0_hw174 k0_h5

def k0_chk175 (i : grid0.Coords) (k0_t12 : Fin (k0_t12_loop i).trips) (v362 : IVec S16 32) : Prop :=
  (∀ (k0_h5 : k0_cond5 i k0_t12 = 1#1), ∀ a x, ((![v362] : Fin 1 → IVec S16 32) a x).toNat < S40064.size a)
theorem k0_idx175_inb : ∀ (i : grid0.Coords) (k0_t12 : Fin (k0_t12_loop i).trips) (v362 : IVec S16 32) (k0_hw175 : k0_chk175 i k0_t12 v362), ∀ (k0_h5 : k0_cond5 i k0_t12 = 1#1), ∀ a x, ((![v362] : Fin 1 → IVec S16 32) a x).toNat < S40064.size a := fun i k0_t12 v362 k0_hw175 k0_h5 => k0_hw175 k0_h5

def k0_chk176 (i : grid0.Coords) (k0_t12 : Fin (k0_t12_loop i).trips) (v365 : IVec S16 32) : Prop :=
  (∀ (k0_h5 : k0_cond5 i k0_t12 = 1#1), ∀ a x, ((![v365] : Fin 1 → IVec S16 32) a x).toNat < S40960.size a)
theorem k0_idx176_inb : ∀ (i : grid0.Coords) (k0_t12 : Fin (k0_t12_loop i).trips) (v365 : IVec S16 32) (k0_hw176 : k0_chk176 i k0_t12 v365), ∀ (k0_h5 : k0_cond5 i k0_t12 = 1#1), ∀ a x, ((![v365] : Fin 1 → IVec S16 32) a x).toNat < S40960.size a := fun i k0_t12 v365 k0_hw176 k0_h5 => k0_hw176 k0_h5
def k0_off28 (k0_t13 : Fin k0_t13_loop.trips) : Fin 1 → Nat :=
  let c0_i32_89 : BitVec 32 := 0#32
  let c1_i32_90 : BitVec 32 := 1#32
  let arg18 : BitVec 32 := Scf.iv c0_i32_89 c1_i32_90 k0_t13
  let c4_i32_189 : BitVec 32 := 4#32
  let v368 : BitVec 32 := Scalar.muli arg18 c4_i32_189
  let c3_i32_190 : BitVec 32 := 3#32
  let v369 : BitVec 32 := Scalar.addi v368 c3_i32_190
  let c16_i32_191 : BitVec 32 := 16#32
  let v370 : BitVec 32 := Scalar.muli v369 c16_i32_191
  let v371 : Index := Scalar.indexCast v370
  ![v371.toNat]

def k0_chk177 (i : grid0.Coords) (k0_t12 : Fin (k0_t12_loop i).trips) (v393 : IVec S16 32) : Prop :=
  (∀ (k0_h5 : k0_cond5 i k0_t12 = 1#1), ∀ a x, ((![v393] : Fin 1 → IVec S16 32) a x).toNat < S40064.size a)
theorem k0_idx177_inb : ∀ (i : grid0.Coords) (k0_t12 : Fin (k0_t12_loop i).trips) (v393 : IVec S16 32) (k0_hw177 : k0_chk177 i k0_t12 v393), ∀ (k0_h5 : k0_cond5 i k0_t12 = 1#1), ∀ a x, ((![v393] : Fin 1 → IVec S16 32) a x).toNat < S40064.size a := fun i k0_t12 v393 k0_hw177 k0_h5 => k0_hw177 k0_h5

def k0_chk178 (i : grid0.Coords) (k0_t12 : Fin (k0_t12_loop i).trips) (v396 : IVec S16 32) : Prop :=
  (∀ (k0_h5 : k0_cond5 i k0_t12 = 1#1), ∀ a x, ((![v396] : Fin 1 → IVec S16 32) a x).toNat < S40960.size a)
theorem k0_idx178_inb : ∀ (i : grid0.Coords) (k0_t12 : Fin (k0_t12_loop i).trips) (v396 : IVec S16 32) (k0_hw178 : k0_chk178 i k0_t12 v396), ∀ (k0_h5 : k0_cond5 i k0_t12 = 1#1), ∀ a x, ((![v396] : Fin 1 → IVec S16 32) a x).toNat < S40960.size a := fun i k0_t12 v396 k0_hw178 k0_h5 => k0_hw178 k0_h5

def k0_chk179 (i : grid0.Coords) (k0_t12 : Fin (k0_t12_loop i).trips) (v400 : IVec S16 32) : Prop :=
  (∀ (k0_h5 : k0_cond5 i k0_t12 = 1#1), ∀ a x, ((![v400] : Fin 1 → IVec S16 32) a x).toNat < S40064.size a)
theorem k0_idx179_inb : ∀ (i : grid0.Coords) (k0_t12 : Fin (k0_t12_loop i).trips) (v400 : IVec S16 32) (k0_hw179 : k0_chk179 i k0_t12 v400), ∀ (k0_h5 : k0_cond5 i k0_t12 = 1#1), ∀ a x, ((![v400] : Fin 1 → IVec S16 32) a x).toNat < S40064.size a := fun i k0_t12 v400 k0_hw179 k0_h5 => k0_hw179 k0_h5

def k0_chk180 (i : grid0.Coords) (k0_t12 : Fin (k0_t12_loop i).trips) (v403 : IVec S16 32) : Prop :=
  (∀ (k0_h5 : k0_cond5 i k0_t12 = 1#1), ∀ a x, ((![v403] : Fin 1 → IVec S16 32) a x).toNat < S40960.size a)
theorem k0_idx180_inb : ∀ (i : grid0.Coords) (k0_t12 : Fin (k0_t12_loop i).trips) (v403 : IVec S16 32) (k0_hw180 : k0_chk180 i k0_t12 v403), ∀ (k0_h5 : k0_cond5 i k0_t12 = 1#1), ∀ a x, ((![v403] : Fin 1 → IVec S16 32) a x).toNat < S40960.size a := fun i k0_t12 v403 k0_hw180 k0_h5 => k0_hw180 k0_h5

def k0_chk181 (i : grid0.Coords) (k0_t12 : Fin (k0_t12_loop i).trips) (v407 : IVec S16 32) : Prop :=
  (∀ (k0_h5 : k0_cond5 i k0_t12 = 1#1), ∀ a x, ((![v407] : Fin 1 → IVec S16 32) a x).toNat < S40064.size a)
theorem k0_idx181_inb : ∀ (i : grid0.Coords) (k0_t12 : Fin (k0_t12_loop i).trips) (v407 : IVec S16 32) (k0_hw181 : k0_chk181 i k0_t12 v407), ∀ (k0_h5 : k0_cond5 i k0_t12 = 1#1), ∀ a x, ((![v407] : Fin 1 → IVec S16 32) a x).toNat < S40064.size a := fun i k0_t12 v407 k0_hw181 k0_h5 => k0_hw181 k0_h5

def k0_chk182 (i : grid0.Coords) (k0_t12 : Fin (k0_t12_loop i).trips) (v410 : IVec S16 32) : Prop :=
  (∀ (k0_h5 : k0_cond5 i k0_t12 = 1#1), ∀ a x, ((![v410] : Fin 1 → IVec S16 32) a x).toNat < S40960.size a)
theorem k0_idx182_inb : ∀ (i : grid0.Coords) (k0_t12 : Fin (k0_t12_loop i).trips) (v410 : IVec S16 32) (k0_hw182 : k0_chk182 i k0_t12 v410), ∀ (k0_h5 : k0_cond5 i k0_t12 = 1#1), ∀ a x, ((![v410] : Fin 1 → IVec S16 32) a x).toNat < S40960.size a := fun i k0_t12 v410 k0_hw182 k0_h5 => k0_hw182 k0_h5

def k0_chk183 (i : grid0.Coords) (k0_t12 : Fin (k0_t12_loop i).trips) (v414 : IVec S16 32) : Prop :=
  (∀ (k0_h5 : k0_cond5 i k0_t12 = 1#1), ∀ a x, ((![v414] : Fin 1 → IVec S16 32) a x).toNat < S40064.size a)
theorem k0_idx183_inb : ∀ (i : grid0.Coords) (k0_t12 : Fin (k0_t12_loop i).trips) (v414 : IVec S16 32) (k0_hw183 : k0_chk183 i k0_t12 v414), ∀ (k0_h5 : k0_cond5 i k0_t12 = 1#1), ∀ a x, ((![v414] : Fin 1 → IVec S16 32) a x).toNat < S40064.size a := fun i k0_t12 v414 k0_hw183 k0_h5 => k0_hw183 k0_h5

def k0_chk184 (i : grid0.Coords) (k0_t12 : Fin (k0_t12_loop i).trips) (v417 : IVec S16 32) : Prop :=
  (∀ (k0_h5 : k0_cond5 i k0_t12 = 1#1), ∀ a x, ((![v417] : Fin 1 → IVec S16 32) a x).toNat < S40960.size a)
theorem k0_idx184_inb : ∀ (i : grid0.Coords) (k0_t12 : Fin (k0_t12_loop i).trips) (v417 : IVec S16 32) (k0_hw184 : k0_chk184 i k0_t12 v417), ∀ (k0_h5 : k0_cond5 i k0_t12 = 1#1), ∀ a x, ((![v417] : Fin 1 → IVec S16 32) a x).toNat < S40960.size a := fun i k0_t12 v417 k0_hw184 k0_h5 => k0_hw184 k0_h5

def k0_chk185 (i : grid0.Coords) (k0_t12 : Fin (k0_t12_loop i).trips) (v421 : IVec S16 32) : Prop :=
  (∀ (k0_h5 : k0_cond5 i k0_t12 = 1#1), ∀ a x, ((![v421] : Fin 1 → IVec S16 32) a x).toNat < S40064.size a)
theorem k0_idx185_inb : ∀ (i : grid0.Coords) (k0_t12 : Fin (k0_t12_loop i).trips) (v421 : IVec S16 32) (k0_hw185 : k0_chk185 i k0_t12 v421), ∀ (k0_h5 : k0_cond5 i k0_t12 = 1#1), ∀ a x, ((![v421] : Fin 1 → IVec S16 32) a x).toNat < S40064.size a := fun i k0_t12 v421 k0_hw185 k0_h5 => k0_hw185 k0_h5

def k0_chk186 (i : grid0.Coords) (k0_t12 : Fin (k0_t12_loop i).trips) (v424 : IVec S16 32) : Prop :=
  (∀ (k0_h5 : k0_cond5 i k0_t12 = 1#1), ∀ a x, ((![v424] : Fin 1 → IVec S16 32) a x).toNat < S40960.size a)
theorem k0_idx186_inb : ∀ (i : grid0.Coords) (k0_t12 : Fin (k0_t12_loop i).trips) (v424 : IVec S16 32) (k0_hw186 : k0_chk186 i k0_t12 v424), ∀ (k0_h5 : k0_cond5 i k0_t12 = 1#1), ∀ a x, ((![v424] : Fin 1 → IVec S16 32) a x).toNat < S40960.size a := fun i k0_t12 v424 k0_hw186 k0_h5 => k0_hw186 k0_h5

def k0_chk187 (i : grid0.Coords) (k0_t12 : Fin (k0_t12_loop i).trips) (v428 : IVec S16 32) : Prop :=
  (∀ (k0_h5 : k0_cond5 i k0_t12 = 1#1), ∀ a x, ((![v428] : Fin 1 → IVec S16 32) a x).toNat < S40064.size a)
theorem k0_idx187_inb : ∀ (i : grid0.Coords) (k0_t12 : Fin (k0_t12_loop i).trips) (v428 : IVec S16 32) (k0_hw187 : k0_chk187 i k0_t12 v428), ∀ (k0_h5 : k0_cond5 i k0_t12 = 1#1), ∀ a x, ((![v428] : Fin 1 → IVec S16 32) a x).toNat < S40064.size a := fun i k0_t12 v428 k0_hw187 k0_h5 => k0_hw187 k0_h5

def k0_chk188 (i : grid0.Coords) (k0_t12 : Fin (k0_t12_loop i).trips) (v431 : IVec S16 32) : Prop :=
  (∀ (k0_h5 : k0_cond5 i k0_t12 = 1#1), ∀ a x, ((![v431] : Fin 1 → IVec S16 32) a x).toNat < S40960.size a)
theorem k0_idx188_inb : ∀ (i : grid0.Coords) (k0_t12 : Fin (k0_t12_loop i).trips) (v431 : IVec S16 32) (k0_hw188 : k0_chk188 i k0_t12 v431), ∀ (k0_h5 : k0_cond5 i k0_t12 = 1#1), ∀ a x, ((![v431] : Fin 1 → IVec S16 32) a x).toNat < S40960.size a := fun i k0_t12 v431 k0_hw188 k0_h5 => k0_hw188 k0_h5

def k0_chk189 (i : grid0.Coords) (k0_t12 : Fin (k0_t12_loop i).trips) (v435 : IVec S16 32) : Prop :=
  (∀ (k0_h5 : k0_cond5 i k0_t12 = 1#1), ∀ a x, ((![v435] : Fin 1 → IVec S16 32) a x).toNat < S40064.size a)
theorem k0_idx189_inb : ∀ (i : grid0.Coords) (k0_t12 : Fin (k0_t12_loop i).trips) (v435 : IVec S16 32) (k0_hw189 : k0_chk189 i k0_t12 v435), ∀ (k0_h5 : k0_cond5 i k0_t12 = 1#1), ∀ a x, ((![v435] : Fin 1 → IVec S16 32) a x).toNat < S40064.size a := fun i k0_t12 v435 k0_hw189 k0_h5 => k0_hw189 k0_h5

def k0_chk190 (i : grid0.Coords) (k0_t12 : Fin (k0_t12_loop i).trips) (v438 : IVec S16 32) : Prop :=
  (∀ (k0_h5 : k0_cond5 i k0_t12 = 1#1), ∀ a x, ((![v438] : Fin 1 → IVec S16 32) a x).toNat < S40960.size a)
theorem k0_idx190_inb : ∀ (i : grid0.Coords) (k0_t12 : Fin (k0_t12_loop i).trips) (v438 : IVec S16 32) (k0_hw190 : k0_chk190 i k0_t12 v438), ∀ (k0_h5 : k0_cond5 i k0_t12 = 1#1), ∀ a x, ((![v438] : Fin 1 → IVec S16 32) a x).toNat < S40960.size a := fun i k0_t12 v438 k0_hw190 k0_h5 => k0_hw190 k0_h5

def k0_chk191 (i : grid0.Coords) (k0_t12 : Fin (k0_t12_loop i).trips) (v442 : IVec S16 32) : Prop :=
  (∀ (k0_h5 : k0_cond5 i k0_t12 = 1#1), ∀ a x, ((![v442] : Fin 1 → IVec S16 32) a x).toNat < S40064.size a)
theorem k0_idx191_inb : ∀ (i : grid0.Coords) (k0_t12 : Fin (k0_t12_loop i).trips) (v442 : IVec S16 32) (k0_hw191 : k0_chk191 i k0_t12 v442), ∀ (k0_h5 : k0_cond5 i k0_t12 = 1#1), ∀ a x, ((![v442] : Fin 1 → IVec S16 32) a x).toNat < S40064.size a := fun i k0_t12 v442 k0_hw191 k0_h5 => k0_hw191 k0_h5

def k0_chk192 (i : grid0.Coords) (k0_t12 : Fin (k0_t12_loop i).trips) (v445 : IVec S16 32) : Prop :=
  (∀ (k0_h5 : k0_cond5 i k0_t12 = 1#1), ∀ a x, ((![v445] : Fin 1 → IVec S16 32) a x).toNat < S40960.size a)
theorem k0_idx192_inb : ∀ (i : grid0.Coords) (k0_t12 : Fin (k0_t12_loop i).trips) (v445 : IVec S16 32) (k0_hw192 : k0_chk192 i k0_t12 v445), ∀ (k0_h5 : k0_cond5 i k0_t12 = 1#1), ∀ a x, ((![v445] : Fin 1 → IVec S16 32) a x).toNat < S40960.size a := fun i k0_t12 v445 k0_hw192 k0_h5 => k0_hw192 k0_h5
def k0_off29 (i : grid0.Coords) (k0_t12 : Fin (k0_t12_loop i).trips) (c0_i32_92 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1250_i32 : BitVec 32 := 1250#32
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_76 : BitVec 32 := 2#32
  let v90 : BitVec 32 := Scalar.muli arg16 c2_i32_76
  let c0_i32_77 : BitVec 32 := 0#32
  let v91 : BitVec 32 := Scalar.addi v90 c0_i32_77
  let c32_i32_83 : BitVec 32 := 32#32
  let v100 : BitVec 32 := Scalar.muli v91 c32_i32_83
  let v101 : BitVec 32 := Scalar.addi v1 v100
  let c5120_i32 : BitVec 32 := 5120#32
  let v102 : BitVec 32 := Scalar.muli v101 c5120_i32
  let c8_i32 : BitVec 32 := 8#32
  let v108 : BitVec 32 := Scalar.muli v102 c8_i32
  let v109 : BitVec 32 := Scalar.addi v108 c0_i32_92
  ![v109.toNat]
def k0_cond7 (i : grid0.Coords) (k0_t12 : Fin (k0_t12_loop i).trips) : BitVec 1 :=
  let c0_i32_67 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_79 : BitVec 32 := 2#32
  let v95 : BitVec 32 := Scalar.muli arg16 c2_i32_79
  let c1_i32_80 : BitVec 32 := 1#32
  let v96 : BitVec 32 := Scalar.addi v95 c1_i32_80
  let v97 : BitVec 1 := Scalar.cmpi .slt v96 v58
  let v98 : BitVec 32 := Scalar.extui v97
  let c0_i32_81 : BitVec 32 := 0#32
  let v99 : BitVec 1 := Scalar.cmpi .ne v98 c0_i32_81
  v99

def k0_off30 (i : grid0.Coords) (k0_t12 : Fin (k0_t12_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1250_i32 : BitVec 32 := 1250#32
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_79 : BitVec 32 := 2#32
  let v95 : BitVec 32 := Scalar.muli arg16 c2_i32_79
  let c1_i32_80 : BitVec 32 := 1#32
  let v96 : BitVec 32 := Scalar.addi v95 c1_i32_80
  let c32_i32_83 : BitVec 32 := 32#32
  let v100 : BitVec 32 := Scalar.muli v96 c32_i32_83
  let v101 : BitVec 32 := Scalar.addi v1 v100
  let c5120_i32 : BitVec 32 := 5120#32
  let v102 : BitVec 32 := Scalar.muli v101 c5120_i32
  ![v102.toNat]
def k0_cond8 (i : grid0.Coords) (k0_t12 : Fin (k0_t12_loop i).trips) : BitVec 1 :=
  let c0_i32_67 : BitVec 32 := 0#32
  let c1250_i32 : BitVec 32 := 1250#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_79 : BitVec 32 := 2#32
  let v95 : BitVec 32 := Scalar.muli arg16 c2_i32_79
  let c1_i32_80 : BitVec 32 := 1#32
  let v96 : BitVec 32 := Scalar.addi v95 c1_i32_80
  let c2_i32_84 : BitVec 32 := 2#32
  let v103 : BitVec 1 := Scalar.cmpi .sge v96 c2_i32_84
  let v104 : BitVec 32 := Scalar.extui v103
  let c0_i32_86 : BitVec 32 := 0#32
  let v105 : BitVec 1 := Scalar.cmpi .ne v104 c0_i32_86
  v105

def k0_off31 (i : grid0.Coords) (k0_t12 : Fin (k0_t12_loop i).trips) (c0_i32_105 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1250_i32 : BitVec 32 := 1250#32
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_79 : BitVec 32 := 2#32
  let v95 : BitVec 32 := Scalar.muli arg16 c2_i32_79
  let c1_i32_80 : BitVec 32 := 1#32
  let v96 : BitVec 32 := Scalar.addi v95 c1_i32_80
  let c32_i32_83 : BitVec 32 := 32#32
  let v100 : BitVec 32 := Scalar.muli v96 c32_i32_83
  let v101 : BitVec 32 := Scalar.addi v1 v100
  let c5120_i32 : BitVec 32 := 5120#32
  let v102 : BitVec 32 := Scalar.muli v101 c5120_i32
  let c8_i32_104 : BitVec 32 := 8#32
  let v128 : BitVec 32 := Scalar.muli v102 c8_i32_104
  let v129 : BitVec 32 := Scalar.addi v128 c0_i32_105
  ![v129.toNat]
@[reducible] def k0_t14_loop : Scf.Loop 32 :=
  let c0_i32_89 : BitVec 32 := 0#32
  let c80_i32 : BitVec 32 := 80#32
  let v106 : BitVec 32 := Scalar.addi c0_i32_89 c80_i32
  let c1_i32_90 : BitVec 32 := 1#32
  ⟨c0_i32_89, v106, c1_i32_90⟩
def k0_off32 (k0_t14 : Fin k0_t14_loop.trips) : Fin 1 → Nat :=
  let c0_i32_89 : BitVec 32 := 0#32
  let c1_i32_90 : BitVec 32 := 1#32
  let arg18 : BitVec 32 := Scf.iv c0_i32_89 c1_i32_90 k0_t14
  let c4_i32_104 : BitVec 32 := 4#32
  let v128 : BitVec 32 := Scalar.muli arg18 c4_i32_104
  let c0_i32_105 : BitVec 32 := 0#32
  let v129 : BitVec 32 := Scalar.addi v128 c0_i32_105
  let c16_i32 : BitVec 32 := 16#32
  let v130 : BitVec 32 := Scalar.muli v129 c16_i32
  let v131 : Index := Scalar.indexCast v130
  ![v131.toNat]

def k0_chk193 (i : grid0.Coords) (k0_t12 : Fin (k0_t12_loop i).trips) (v153 : IVec S16 32) : Prop :=
  (∀ (k0_h7 : k0_cond7 i k0_t12 = 1#1), ∀ a x, ((![v153] : Fin 1 → IVec S16 32) a x).toNat < S40064.size a)
theorem k0_idx193_inb : ∀ (i : grid0.Coords) (k0_t12 : Fin (k0_t12_loop i).trips) (v153 : IVec S16 32) (k0_hw193 : k0_chk193 i k0_t12 v153), ∀ (k0_h7 : k0_cond7 i k0_t12 = 1#1), ∀ a x, ((![v153] : Fin 1 → IVec S16 32) a x).toNat < S40064.size a := fun i k0_t12 v153 k0_hw193 k0_h7 => k0_hw193 k0_h7

def k0_chk194 (i : grid0.Coords) (k0_t12 : Fin (k0_t12_loop i).trips) (v156 : IVec S16 32) : Prop :=
  (∀ (k0_h7 : k0_cond7 i k0_t12 = 1#1), ∀ a x, ((![v156] : Fin 1 → IVec S16 32) a x).toNat < S40960.size a)
theorem k0_idx194_inb : ∀ (i : grid0.Coords) (k0_t12 : Fin (k0_t12_loop i).trips) (v156 : IVec S16 32) (k0_hw194 : k0_chk194 i k0_t12 v156), ∀ (k0_h7 : k0_cond7 i k0_t12 = 1#1), ∀ a x, ((![v156] : Fin 1 → IVec S16 32) a x).toNat < S40960.size a := fun i k0_t12 v156 k0_hw194 k0_h7 => k0_hw194 k0_h7

def k0_chk195 (i : grid0.Coords) (k0_t12 : Fin (k0_t12_loop i).trips) (v160 : IVec S16 32) : Prop :=
  (∀ (k0_h7 : k0_cond7 i k0_t12 = 1#1), ∀ a x, ((![v160] : Fin 1 → IVec S16 32) a x).toNat < S40064.size a)
theorem k0_idx195_inb : ∀ (i : grid0.Coords) (k0_t12 : Fin (k0_t12_loop i).trips) (v160 : IVec S16 32) (k0_hw195 : k0_chk195 i k0_t12 v160), ∀ (k0_h7 : k0_cond7 i k0_t12 = 1#1), ∀ a x, ((![v160] : Fin 1 → IVec S16 32) a x).toNat < S40064.size a := fun i k0_t12 v160 k0_hw195 k0_h7 => k0_hw195 k0_h7

def k0_chk196 (i : grid0.Coords) (k0_t12 : Fin (k0_t12_loop i).trips) (v163 : IVec S16 32) : Prop :=
  (∀ (k0_h7 : k0_cond7 i k0_t12 = 1#1), ∀ a x, ((![v163] : Fin 1 → IVec S16 32) a x).toNat < S40960.size a)
theorem k0_idx196_inb : ∀ (i : grid0.Coords) (k0_t12 : Fin (k0_t12_loop i).trips) (v163 : IVec S16 32) (k0_hw196 : k0_chk196 i k0_t12 v163), ∀ (k0_h7 : k0_cond7 i k0_t12 = 1#1), ∀ a x, ((![v163] : Fin 1 → IVec S16 32) a x).toNat < S40960.size a := fun i k0_t12 v163 k0_hw196 k0_h7 => k0_hw196 k0_h7

def k0_chk197 (i : grid0.Coords) (k0_t12 : Fin (k0_t12_loop i).trips) (v167 : IVec S16 32) : Prop :=
  (∀ (k0_h7 : k0_cond7 i k0_t12 = 1#1), ∀ a x, ((![v167] : Fin 1 → IVec S16 32) a x).toNat < S40064.size a)
theorem k0_idx197_inb : ∀ (i : grid0.Coords) (k0_t12 : Fin (k0_t12_loop i).trips) (v167 : IVec S16 32) (k0_hw197 : k0_chk197 i k0_t12 v167), ∀ (k0_h7 : k0_cond7 i k0_t12 = 1#1), ∀ a x, ((![v167] : Fin 1 → IVec S16 32) a x).toNat < S40064.size a := fun i k0_t12 v167 k0_hw197 k0_h7 => k0_hw197 k0_h7

def k0_chk198 (i : grid0.Coords) (k0_t12 : Fin (k0_t12_loop i).trips) (v170 : IVec S16 32) : Prop :=
  (∀ (k0_h7 : k0_cond7 i k0_t12 = 1#1), ∀ a x, ((![v170] : Fin 1 → IVec S16 32) a x).toNat < S40960.size a)
theorem k0_idx198_inb : ∀ (i : grid0.Coords) (k0_t12 : Fin (k0_t12_loop i).trips) (v170 : IVec S16 32) (k0_hw198 : k0_chk198 i k0_t12 v170), ∀ (k0_h7 : k0_cond7 i k0_t12 = 1#1), ∀ a x, ((![v170] : Fin 1 → IVec S16 32) a x).toNat < S40960.size a := fun i k0_t12 v170 k0_hw198 k0_h7 => k0_hw198 k0_h7

def k0_chk199 (i : grid0.Coords) (k0_t12 : Fin (k0_t12_loop i).trips) (v174 : IVec S16 32) : Prop :=
  (∀ (k0_h7 : k0_cond7 i k0_t12 = 1#1), ∀ a x, ((![v174] : Fin 1 → IVec S16 32) a x).toNat < S40064.size a)
theorem k0_idx199_inb : ∀ (i : grid0.Coords) (k0_t12 : Fin (k0_t12_loop i).trips) (v174 : IVec S16 32) (k0_hw199 : k0_chk199 i k0_t12 v174), ∀ (k0_h7 : k0_cond7 i k0_t12 = 1#1), ∀ a x, ((![v174] : Fin 1 → IVec S16 32) a x).toNat < S40064.size a := fun i k0_t12 v174 k0_hw199 k0_h7 => k0_hw199 k0_h7

def k0_chk200 (i : grid0.Coords) (k0_t12 : Fin (k0_t12_loop i).trips) (v177 : IVec S16 32) : Prop :=
  (∀ (k0_h7 : k0_cond7 i k0_t12 = 1#1), ∀ a x, ((![v177] : Fin 1 → IVec S16 32) a x).toNat < S40960.size a)
theorem k0_idx200_inb : ∀ (i : grid0.Coords) (k0_t12 : Fin (k0_t12_loop i).trips) (v177 : IVec S16 32) (k0_hw200 : k0_chk200 i k0_t12 v177), ∀ (k0_h7 : k0_cond7 i k0_t12 = 1#1), ∀ a x, ((![v177] : Fin 1 → IVec S16 32) a x).toNat < S40960.size a := fun i k0_t12 v177 k0_hw200 k0_h7 => k0_hw200 k0_h7

def k0_chk201 (i : grid0.Coords) (k0_t12 : Fin (k0_t12_loop i).trips) (v181 : IVec S16 32) : Prop :=
  (∀ (k0_h7 : k0_cond7 i k0_t12 = 1#1), ∀ a x, ((![v181] : Fin 1 → IVec S16 32) a x).toNat < S40064.size a)
theorem k0_idx201_inb : ∀ (i : grid0.Coords) (k0_t12 : Fin (k0_t12_loop i).trips) (v181 : IVec S16 32) (k0_hw201 : k0_chk201 i k0_t12 v181), ∀ (k0_h7 : k0_cond7 i k0_t12 = 1#1), ∀ a x, ((![v181] : Fin 1 → IVec S16 32) a x).toNat < S40064.size a := fun i k0_t12 v181 k0_hw201 k0_h7 => k0_hw201 k0_h7

def k0_chk202 (i : grid0.Coords) (k0_t12 : Fin (k0_t12_loop i).trips) (v184 : IVec S16 32) : Prop :=
  (∀ (k0_h7 : k0_cond7 i k0_t12 = 1#1), ∀ a x, ((![v184] : Fin 1 → IVec S16 32) a x).toNat < S40960.size a)
theorem k0_idx202_inb : ∀ (i : grid0.Coords) (k0_t12 : Fin (k0_t12_loop i).trips) (v184 : IVec S16 32) (k0_hw202 : k0_chk202 i k0_t12 v184), ∀ (k0_h7 : k0_cond7 i k0_t12 = 1#1), ∀ a x, ((![v184] : Fin 1 → IVec S16 32) a x).toNat < S40960.size a := fun i k0_t12 v184 k0_hw202 k0_h7 => k0_hw202 k0_h7

def k0_chk203 (i : grid0.Coords) (k0_t12 : Fin (k0_t12_loop i).trips) (v188 : IVec S16 32) : Prop :=
  (∀ (k0_h7 : k0_cond7 i k0_t12 = 1#1), ∀ a x, ((![v188] : Fin 1 → IVec S16 32) a x).toNat < S40064.size a)
theorem k0_idx203_inb : ∀ (i : grid0.Coords) (k0_t12 : Fin (k0_t12_loop i).trips) (v188 : IVec S16 32) (k0_hw203 : k0_chk203 i k0_t12 v188), ∀ (k0_h7 : k0_cond7 i k0_t12 = 1#1), ∀ a x, ((![v188] : Fin 1 → IVec S16 32) a x).toNat < S40064.size a := fun i k0_t12 v188 k0_hw203 k0_h7 => k0_hw203 k0_h7

def k0_chk204 (i : grid0.Coords) (k0_t12 : Fin (k0_t12_loop i).trips) (v191 : IVec S16 32) : Prop :=
  (∀ (k0_h7 : k0_cond7 i k0_t12 = 1#1), ∀ a x, ((![v191] : Fin 1 → IVec S16 32) a x).toNat < S40960.size a)
theorem k0_idx204_inb : ∀ (i : grid0.Coords) (k0_t12 : Fin (k0_t12_loop i).trips) (v191 : IVec S16 32) (k0_hw204 : k0_chk204 i k0_t12 v191), ∀ (k0_h7 : k0_cond7 i k0_t12 = 1#1), ∀ a x, ((![v191] : Fin 1 → IVec S16 32) a x).toNat < S40960.size a := fun i k0_t12 v191 k0_hw204 k0_h7 => k0_hw204 k0_h7

def k0_chk205 (i : grid0.Coords) (k0_t12 : Fin (k0_t12_loop i).trips) (v195 : IVec S16 32) : Prop :=
  (∀ (k0_h7 : k0_cond7 i k0_t12 = 1#1), ∀ a x, ((![v195] : Fin 1 → IVec S16 32) a x).toNat < S40064.size a)
theorem k0_idx205_inb : ∀ (i : grid0.Coords) (k0_t12 : Fin (k0_t12_loop i).trips) (v195 : IVec S16 32) (k0_hw205 : k0_chk205 i k0_t12 v195), ∀ (k0_h7 : k0_cond7 i k0_t12 = 1#1), ∀ a x, ((![v195] : Fin 1 → IVec S16 32) a x).toNat < S40064.size a := fun i k0_t12 v195 k0_hw205 k0_h7 => k0_hw205 k0_h7

def k0_chk206 (i : grid0.Coords) (k0_t12 : Fin (k0_t12_loop i).trips) (v198 : IVec S16 32) : Prop :=
  (∀ (k0_h7 : k0_cond7 i k0_t12 = 1#1), ∀ a x, ((![v198] : Fin 1 → IVec S16 32) a x).toNat < S40960.size a)
theorem k0_idx206_inb : ∀ (i : grid0.Coords) (k0_t12 : Fin (k0_t12_loop i).trips) (v198 : IVec S16 32) (k0_hw206 : k0_chk206 i k0_t12 v198), ∀ (k0_h7 : k0_cond7 i k0_t12 = 1#1), ∀ a x, ((![v198] : Fin 1 → IVec S16 32) a x).toNat < S40960.size a := fun i k0_t12 v198 k0_hw206 k0_h7 => k0_hw206 k0_h7

def k0_chk207 (i : grid0.Coords) (k0_t12 : Fin (k0_t12_loop i).trips) (v202 : IVec S16 32) : Prop :=
  (∀ (k0_h7 : k0_cond7 i k0_t12 = 1#1), ∀ a x, ((![v202] : Fin 1 → IVec S16 32) a x).toNat < S40064.size a)
theorem k0_idx207_inb : ∀ (i : grid0.Coords) (k0_t12 : Fin (k0_t12_loop i).trips) (v202 : IVec S16 32) (k0_hw207 : k0_chk207 i k0_t12 v202), ∀ (k0_h7 : k0_cond7 i k0_t12 = 1#1), ∀ a x, ((![v202] : Fin 1 → IVec S16 32) a x).toNat < S40064.size a := fun i k0_t12 v202 k0_hw207 k0_h7 => k0_hw207 k0_h7

def k0_chk208 (i : grid0.Coords) (k0_t12 : Fin (k0_t12_loop i).trips) (v205 : IVec S16 32) : Prop :=
  (∀ (k0_h7 : k0_cond7 i k0_t12 = 1#1), ∀ a x, ((![v205] : Fin 1 → IVec S16 32) a x).toNat < S40960.size a)
theorem k0_idx208_inb : ∀ (i : grid0.Coords) (k0_t12 : Fin (k0_t12_loop i).trips) (v205 : IVec S16 32) (k0_hw208 : k0_chk208 i k0_t12 v205), ∀ (k0_h7 : k0_cond7 i k0_t12 = 1#1), ∀ a x, ((![v205] : Fin 1 → IVec S16 32) a x).toNat < S40960.size a := fun i k0_t12 v205 k0_hw208 k0_h7 => k0_hw208 k0_h7
def k0_off33 (k0_t14 : Fin k0_t14_loop.trips) : Fin 1 → Nat :=
  let c0_i32_89 : BitVec 32 := 0#32
  let c1_i32_90 : BitVec 32 := 1#32
  let arg18 : BitVec 32 := Scf.iv c0_i32_89 c1_i32_90 k0_t14
  let c4_i32_121 : BitVec 32 := 4#32
  let v208 : BitVec 32 := Scalar.muli arg18 c4_i32_121
  let c1_i32_122 : BitVec 32 := 1#32
  let v209 : BitVec 32 := Scalar.addi v208 c1_i32_122
  let c16_i32_123 : BitVec 32 := 16#32
  let v210 : BitVec 32 := Scalar.muli v209 c16_i32_123
  let v211 : Index := Scalar.indexCast v210
  ![v211.toNat]

def k0_chk209 (i : grid0.Coords) (k0_t12 : Fin (k0_t12_loop i).trips) (v233 : IVec S16 32) : Prop :=
  (∀ (k0_h7 : k0_cond7 i k0_t12 = 1#1), ∀ a x, ((![v233] : Fin 1 → IVec S16 32) a x).toNat < S40064.size a)
theorem k0_idx209_inb : ∀ (i : grid0.Coords) (k0_t12 : Fin (k0_t12_loop i).trips) (v233 : IVec S16 32) (k0_hw209 : k0_chk209 i k0_t12 v233), ∀ (k0_h7 : k0_cond7 i k0_t12 = 1#1), ∀ a x, ((![v233] : Fin 1 → IVec S16 32) a x).toNat < S40064.size a := fun i k0_t12 v233 k0_hw209 k0_h7 => k0_hw209 k0_h7

def k0_chk210 (i : grid0.Coords) (k0_t12 : Fin (k0_t12_loop i).trips) (v236 : IVec S16 32) : Prop :=
  (∀ (k0_h7 : k0_cond7 i k0_t12 = 1#1), ∀ a x, ((![v236] : Fin 1 → IVec S16 32) a x).toNat < S40960.size a)
theorem k0_idx210_inb : ∀ (i : grid0.Coords) (k0_t12 : Fin (k0_t12_loop i).trips) (v236 : IVec S16 32) (k0_hw210 : k0_chk210 i k0_t12 v236), ∀ (k0_h7 : k0_cond7 i k0_t12 = 1#1), ∀ a x, ((![v236] : Fin 1 → IVec S16 32) a x).toNat < S40960.size a := fun i k0_t12 v236 k0_hw210 k0_h7 => k0_hw210 k0_h7

def k0_chk211 (i : grid0.Coords) (k0_t12 : Fin (k0_t12_loop i).trips) (v240 : IVec S16 32) : Prop :=
  (∀ (k0_h7 : k0_cond7 i k0_t12 = 1#1), ∀ a x, ((![v240] : Fin 1 → IVec S16 32) a x).toNat < S40064.size a)
theorem k0_idx211_inb : ∀ (i : grid0.Coords) (k0_t12 : Fin (k0_t12_loop i).trips) (v240 : IVec S16 32) (k0_hw211 : k0_chk211 i k0_t12 v240), ∀ (k0_h7 : k0_cond7 i k0_t12 = 1#1), ∀ a x, ((![v240] : Fin 1 → IVec S16 32) a x).toNat < S40064.size a := fun i k0_t12 v240 k0_hw211 k0_h7 => k0_hw211 k0_h7

def k0_chk212 (i : grid0.Coords) (k0_t12 : Fin (k0_t12_loop i).trips) (v243 : IVec S16 32) : Prop :=
  (∀ (k0_h7 : k0_cond7 i k0_t12 = 1#1), ∀ a x, ((![v243] : Fin 1 → IVec S16 32) a x).toNat < S40960.size a)
theorem k0_idx212_inb : ∀ (i : grid0.Coords) (k0_t12 : Fin (k0_t12_loop i).trips) (v243 : IVec S16 32) (k0_hw212 : k0_chk212 i k0_t12 v243), ∀ (k0_h7 : k0_cond7 i k0_t12 = 1#1), ∀ a x, ((![v243] : Fin 1 → IVec S16 32) a x).toNat < S40960.size a := fun i k0_t12 v243 k0_hw212 k0_h7 => k0_hw212 k0_h7

def k0_chk213 (i : grid0.Coords) (k0_t12 : Fin (k0_t12_loop i).trips) (v247 : IVec S16 32) : Prop :=
  (∀ (k0_h7 : k0_cond7 i k0_t12 = 1#1), ∀ a x, ((![v247] : Fin 1 → IVec S16 32) a x).toNat < S40064.size a)
theorem k0_idx213_inb : ∀ (i : grid0.Coords) (k0_t12 : Fin (k0_t12_loop i).trips) (v247 : IVec S16 32) (k0_hw213 : k0_chk213 i k0_t12 v247), ∀ (k0_h7 : k0_cond7 i k0_t12 = 1#1), ∀ a x, ((![v247] : Fin 1 → IVec S16 32) a x).toNat < S40064.size a := fun i k0_t12 v247 k0_hw213 k0_h7 => k0_hw213 k0_h7

def k0_chk214 (i : grid0.Coords) (k0_t12 : Fin (k0_t12_loop i).trips) (v250 : IVec S16 32) : Prop :=
  (∀ (k0_h7 : k0_cond7 i k0_t12 = 1#1), ∀ a x, ((![v250] : Fin 1 → IVec S16 32) a x).toNat < S40960.size a)
theorem k0_idx214_inb : ∀ (i : grid0.Coords) (k0_t12 : Fin (k0_t12_loop i).trips) (v250 : IVec S16 32) (k0_hw214 : k0_chk214 i k0_t12 v250), ∀ (k0_h7 : k0_cond7 i k0_t12 = 1#1), ∀ a x, ((![v250] : Fin 1 → IVec S16 32) a x).toNat < S40960.size a := fun i k0_t12 v250 k0_hw214 k0_h7 => k0_hw214 k0_h7

def k0_chk215 (i : grid0.Coords) (k0_t12 : Fin (k0_t12_loop i).trips) (v254 : IVec S16 32) : Prop :=
  (∀ (k0_h7 : k0_cond7 i k0_t12 = 1#1), ∀ a x, ((![v254] : Fin 1 → IVec S16 32) a x).toNat < S40064.size a)
theorem k0_idx215_inb : ∀ (i : grid0.Coords) (k0_t12 : Fin (k0_t12_loop i).trips) (v254 : IVec S16 32) (k0_hw215 : k0_chk215 i k0_t12 v254), ∀ (k0_h7 : k0_cond7 i k0_t12 = 1#1), ∀ a x, ((![v254] : Fin 1 → IVec S16 32) a x).toNat < S40064.size a := fun i k0_t12 v254 k0_hw215 k0_h7 => k0_hw215 k0_h7

def k0_chk216 (i : grid0.Coords) (k0_t12 : Fin (k0_t12_loop i).trips) (v257 : IVec S16 32) : Prop :=
  (∀ (k0_h7 : k0_cond7 i k0_t12 = 1#1), ∀ a x, ((![v257] : Fin 1 → IVec S16 32) a x).toNat < S40960.size a)
theorem k0_idx216_inb : ∀ (i : grid0.Coords) (k0_t12 : Fin (k0_t12_loop i).trips) (v257 : IVec S16 32) (k0_hw216 : k0_chk216 i k0_t12 v257), ∀ (k0_h7 : k0_cond7 i k0_t12 = 1#1), ∀ a x, ((![v257] : Fin 1 → IVec S16 32) a x).toNat < S40960.size a := fun i k0_t12 v257 k0_hw216 k0_h7 => k0_hw216 k0_h7

def k0_chk217 (i : grid0.Coords) (k0_t12 : Fin (k0_t12_loop i).trips) (v261 : IVec S16 32) : Prop :=
  (∀ (k0_h7 : k0_cond7 i k0_t12 = 1#1), ∀ a x, ((![v261] : Fin 1 → IVec S16 32) a x).toNat < S40064.size a)
theorem k0_idx217_inb : ∀ (i : grid0.Coords) (k0_t12 : Fin (k0_t12_loop i).trips) (v261 : IVec S16 32) (k0_hw217 : k0_chk217 i k0_t12 v261), ∀ (k0_h7 : k0_cond7 i k0_t12 = 1#1), ∀ a x, ((![v261] : Fin 1 → IVec S16 32) a x).toNat < S40064.size a := fun i k0_t12 v261 k0_hw217 k0_h7 => k0_hw217 k0_h7

def k0_chk218 (i : grid0.Coords) (k0_t12 : Fin (k0_t12_loop i).trips) (v264 : IVec S16 32) : Prop :=
  (∀ (k0_h7 : k0_cond7 i k0_t12 = 1#1), ∀ a x, ((![v264] : Fin 1 → IVec S16 32) a x).toNat < S40960.size a)
theorem k0_idx218_inb : ∀ (i : grid0.Coords) (k0_t12 : Fin (k0_t12_loop i).trips) (v264 : IVec S16 32) (k0_hw218 : k0_chk218 i k0_t12 v264), ∀ (k0_h7 : k0_cond7 i k0_t12 = 1#1), ∀ a x, ((![v264] : Fin 1 → IVec S16 32) a x).toNat < S40960.size a := fun i k0_t12 v264 k0_hw218 k0_h7 => k0_hw218 k0_h7

def k0_chk219 (i : grid0.Coords) (k0_t12 : Fin (k0_t12_loop i).trips) (v268 : IVec S16 32) : Prop :=
  (∀ (k0_h7 : k0_cond7 i k0_t12 = 1#1), ∀ a x, ((![v268] : Fin 1 → IVec S16 32) a x).toNat < S40064.size a)
theorem k0_idx219_inb : ∀ (i : grid0.Coords) (k0_t12 : Fin (k0_t12_loop i).trips) (v268 : IVec S16 32) (k0_hw219 : k0_chk219 i k0_t12 v268), ∀ (k0_h7 : k0_cond7 i k0_t12 = 1#1), ∀ a x, ((![v268] : Fin 1 → IVec S16 32) a x).toNat < S40064.size a := fun i k0_t12 v268 k0_hw219 k0_h7 => k0_hw219 k0_h7

def k0_chk220 (i : grid0.Coords) (k0_t12 : Fin (k0_t12_loop i).trips) (v271 : IVec S16 32) : Prop :=
  (∀ (k0_h7 : k0_cond7 i k0_t12 = 1#1), ∀ a x, ((![v271] : Fin 1 → IVec S16 32) a x).toNat < S40960.size a)
theorem k0_idx220_inb : ∀ (i : grid0.Coords) (k0_t12 : Fin (k0_t12_loop i).trips) (v271 : IVec S16 32) (k0_hw220 : k0_chk220 i k0_t12 v271), ∀ (k0_h7 : k0_cond7 i k0_t12 = 1#1), ∀ a x, ((![v271] : Fin 1 → IVec S16 32) a x).toNat < S40960.size a := fun i k0_t12 v271 k0_hw220 k0_h7 => k0_hw220 k0_h7

def k0_chk221 (i : grid0.Coords) (k0_t12 : Fin (k0_t12_loop i).trips) (v275 : IVec S16 32) : Prop :=
  (∀ (k0_h7 : k0_cond7 i k0_t12 = 1#1), ∀ a x, ((![v275] : Fin 1 → IVec S16 32) a x).toNat < S40064.size a)
theorem k0_idx221_inb : ∀ (i : grid0.Coords) (k0_t12 : Fin (k0_t12_loop i).trips) (v275 : IVec S16 32) (k0_hw221 : k0_chk221 i k0_t12 v275), ∀ (k0_h7 : k0_cond7 i k0_t12 = 1#1), ∀ a x, ((![v275] : Fin 1 → IVec S16 32) a x).toNat < S40064.size a := fun i k0_t12 v275 k0_hw221 k0_h7 => k0_hw221 k0_h7

def k0_chk222 (i : grid0.Coords) (k0_t12 : Fin (k0_t12_loop i).trips) (v278 : IVec S16 32) : Prop :=
  (∀ (k0_h7 : k0_cond7 i k0_t12 = 1#1), ∀ a x, ((![v278] : Fin 1 → IVec S16 32) a x).toNat < S40960.size a)
theorem k0_idx222_inb : ∀ (i : grid0.Coords) (k0_t12 : Fin (k0_t12_loop i).trips) (v278 : IVec S16 32) (k0_hw222 : k0_chk222 i k0_t12 v278), ∀ (k0_h7 : k0_cond7 i k0_t12 = 1#1), ∀ a x, ((![v278] : Fin 1 → IVec S16 32) a x).toNat < S40960.size a := fun i k0_t12 v278 k0_hw222 k0_h7 => k0_hw222 k0_h7

def k0_chk223 (i : grid0.Coords) (k0_t12 : Fin (k0_t12_loop i).trips) (v282 : IVec S16 32) : Prop :=
  (∀ (k0_h7 : k0_cond7 i k0_t12 = 1#1), ∀ a x, ((![v282] : Fin 1 → IVec S16 32) a x).toNat < S40064.size a)
theorem k0_idx223_inb : ∀ (i : grid0.Coords) (k0_t12 : Fin (k0_t12_loop i).trips) (v282 : IVec S16 32) (k0_hw223 : k0_chk223 i k0_t12 v282), ∀ (k0_h7 : k0_cond7 i k0_t12 = 1#1), ∀ a x, ((![v282] : Fin 1 → IVec S16 32) a x).toNat < S40064.size a := fun i k0_t12 v282 k0_hw223 k0_h7 => k0_hw223 k0_h7

def k0_chk224 (i : grid0.Coords) (k0_t12 : Fin (k0_t12_loop i).trips) (v285 : IVec S16 32) : Prop :=
  (∀ (k0_h7 : k0_cond7 i k0_t12 = 1#1), ∀ a x, ((![v285] : Fin 1 → IVec S16 32) a x).toNat < S40960.size a)
theorem k0_idx224_inb : ∀ (i : grid0.Coords) (k0_t12 : Fin (k0_t12_loop i).trips) (v285 : IVec S16 32) (k0_hw224 : k0_chk224 i k0_t12 v285), ∀ (k0_h7 : k0_cond7 i k0_t12 = 1#1), ∀ a x, ((![v285] : Fin 1 → IVec S16 32) a x).toNat < S40960.size a := fun i k0_t12 v285 k0_hw224 k0_h7 => k0_hw224 k0_h7
def k0_off34 (k0_t14 : Fin k0_t14_loop.trips) : Fin 1 → Nat :=
  let c0_i32_89 : BitVec 32 := 0#32
  let c1_i32_90 : BitVec 32 := 1#32
  let arg18 : BitVec 32 := Scf.iv c0_i32_89 c1_i32_90 k0_t14
  let c4_i32_155 : BitVec 32 := 4#32
  let v288 : BitVec 32 := Scalar.muli arg18 c4_i32_155
  let c2_i32_156 : BitVec 32 := 2#32
  let v289 : BitVec 32 := Scalar.addi v288 c2_i32_156
  let c16_i32_157 : BitVec 32 := 16#32
  let v290 : BitVec 32 := Scalar.muli v289 c16_i32_157
  let v291 : Index := Scalar.indexCast v290
  ![v291.toNat]

def k0_chk225 (i : grid0.Coords) (k0_t12 : Fin (k0_t12_loop i).trips) (v313 : IVec S16 32) : Prop :=
  (∀ (k0_h7 : k0_cond7 i k0_t12 = 1#1), ∀ a x, ((![v313] : Fin 1 → IVec S16 32) a x).toNat < S40064.size a)
theorem k0_idx225_inb : ∀ (i : grid0.Coords) (k0_t12 : Fin (k0_t12_loop i).trips) (v313 : IVec S16 32) (k0_hw225 : k0_chk225 i k0_t12 v313), ∀ (k0_h7 : k0_cond7 i k0_t12 = 1#1), ∀ a x, ((![v313] : Fin 1 → IVec S16 32) a x).toNat < S40064.size a := fun i k0_t12 v313 k0_hw225 k0_h7 => k0_hw225 k0_h7

def k0_chk226 (i : grid0.Coords) (k0_t12 : Fin (k0_t12_loop i).trips) (v316 : IVec S16 32) : Prop :=
  (∀ (k0_h7 : k0_cond7 i k0_t12 = 1#1), ∀ a x, ((![v316] : Fin 1 → IVec S16 32) a x).toNat < S40960.size a)
theorem k0_idx226_inb : ∀ (i : grid0.Coords) (k0_t12 : Fin (k0_t12_loop i).trips) (v316 : IVec S16 32) (k0_hw226 : k0_chk226 i k0_t12 v316), ∀ (k0_h7 : k0_cond7 i k0_t12 = 1#1), ∀ a x, ((![v316] : Fin 1 → IVec S16 32) a x).toNat < S40960.size a := fun i k0_t12 v316 k0_hw226 k0_h7 => k0_hw226 k0_h7

def k0_chk227 (i : grid0.Coords) (k0_t12 : Fin (k0_t12_loop i).trips) (v320 : IVec S16 32) : Prop :=
  (∀ (k0_h7 : k0_cond7 i k0_t12 = 1#1), ∀ a x, ((![v320] : Fin 1 → IVec S16 32) a x).toNat < S40064.size a)
theorem k0_idx227_inb : ∀ (i : grid0.Coords) (k0_t12 : Fin (k0_t12_loop i).trips) (v320 : IVec S16 32) (k0_hw227 : k0_chk227 i k0_t12 v320), ∀ (k0_h7 : k0_cond7 i k0_t12 = 1#1), ∀ a x, ((![v320] : Fin 1 → IVec S16 32) a x).toNat < S40064.size a := fun i k0_t12 v320 k0_hw227 k0_h7 => k0_hw227 k0_h7

def k0_chk228 (i : grid0.Coords) (k0_t12 : Fin (k0_t12_loop i).trips) (v323 : IVec S16 32) : Prop :=
  (∀ (k0_h7 : k0_cond7 i k0_t12 = 1#1), ∀ a x, ((![v323] : Fin 1 → IVec S16 32) a x).toNat < S40960.size a)
theorem k0_idx228_inb : ∀ (i : grid0.Coords) (k0_t12 : Fin (k0_t12_loop i).trips) (v323 : IVec S16 32) (k0_hw228 : k0_chk228 i k0_t12 v323), ∀ (k0_h7 : k0_cond7 i k0_t12 = 1#1), ∀ a x, ((![v323] : Fin 1 → IVec S16 32) a x).toNat < S40960.size a := fun i k0_t12 v323 k0_hw228 k0_h7 => k0_hw228 k0_h7

def k0_chk229 (i : grid0.Coords) (k0_t12 : Fin (k0_t12_loop i).trips) (v327 : IVec S16 32) : Prop :=
  (∀ (k0_h7 : k0_cond7 i k0_t12 = 1#1), ∀ a x, ((![v327] : Fin 1 → IVec S16 32) a x).toNat < S40064.size a)
theorem k0_idx229_inb : ∀ (i : grid0.Coords) (k0_t12 : Fin (k0_t12_loop i).trips) (v327 : IVec S16 32) (k0_hw229 : k0_chk229 i k0_t12 v327), ∀ (k0_h7 : k0_cond7 i k0_t12 = 1#1), ∀ a x, ((![v327] : Fin 1 → IVec S16 32) a x).toNat < S40064.size a := fun i k0_t12 v327 k0_hw229 k0_h7 => k0_hw229 k0_h7

def k0_chk230 (i : grid0.Coords) (k0_t12 : Fin (k0_t12_loop i).trips) (v330 : IVec S16 32) : Prop :=
  (∀ (k0_h7 : k0_cond7 i k0_t12 = 1#1), ∀ a x, ((![v330] : Fin 1 → IVec S16 32) a x).toNat < S40960.size a)
theorem k0_idx230_inb : ∀ (i : grid0.Coords) (k0_t12 : Fin (k0_t12_loop i).trips) (v330 : IVec S16 32) (k0_hw230 : k0_chk230 i k0_t12 v330), ∀ (k0_h7 : k0_cond7 i k0_t12 = 1#1), ∀ a x, ((![v330] : Fin 1 → IVec S16 32) a x).toNat < S40960.size a := fun i k0_t12 v330 k0_hw230 k0_h7 => k0_hw230 k0_h7

def k0_chk231 (i : grid0.Coords) (k0_t12 : Fin (k0_t12_loop i).trips) (v334 : IVec S16 32) : Prop :=
  (∀ (k0_h7 : k0_cond7 i k0_t12 = 1#1), ∀ a x, ((![v334] : Fin 1 → IVec S16 32) a x).toNat < S40064.size a)
theorem k0_idx231_inb : ∀ (i : grid0.Coords) (k0_t12 : Fin (k0_t12_loop i).trips) (v334 : IVec S16 32) (k0_hw231 : k0_chk231 i k0_t12 v334), ∀ (k0_h7 : k0_cond7 i k0_t12 = 1#1), ∀ a x, ((![v334] : Fin 1 → IVec S16 32) a x).toNat < S40064.size a := fun i k0_t12 v334 k0_hw231 k0_h7 => k0_hw231 k0_h7

def k0_chk232 (i : grid0.Coords) (k0_t12 : Fin (k0_t12_loop i).trips) (v337 : IVec S16 32) : Prop :=
  (∀ (k0_h7 : k0_cond7 i k0_t12 = 1#1), ∀ a x, ((![v337] : Fin 1 → IVec S16 32) a x).toNat < S40960.size a)
theorem k0_idx232_inb : ∀ (i : grid0.Coords) (k0_t12 : Fin (k0_t12_loop i).trips) (v337 : IVec S16 32) (k0_hw232 : k0_chk232 i k0_t12 v337), ∀ (k0_h7 : k0_cond7 i k0_t12 = 1#1), ∀ a x, ((![v337] : Fin 1 → IVec S16 32) a x).toNat < S40960.size a := fun i k0_t12 v337 k0_hw232 k0_h7 => k0_hw232 k0_h7

def k0_chk233 (i : grid0.Coords) (k0_t12 : Fin (k0_t12_loop i).trips) (v341 : IVec S16 32) : Prop :=
  (∀ (k0_h7 : k0_cond7 i k0_t12 = 1#1), ∀ a x, ((![v341] : Fin 1 → IVec S16 32) a x).toNat < S40064.size a)
theorem k0_idx233_inb : ∀ (i : grid0.Coords) (k0_t12 : Fin (k0_t12_loop i).trips) (v341 : IVec S16 32) (k0_hw233 : k0_chk233 i k0_t12 v341), ∀ (k0_h7 : k0_cond7 i k0_t12 = 1#1), ∀ a x, ((![v341] : Fin 1 → IVec S16 32) a x).toNat < S40064.size a := fun i k0_t12 v341 k0_hw233 k0_h7 => k0_hw233 k0_h7

def k0_chk234 (i : grid0.Coords) (k0_t12 : Fin (k0_t12_loop i).trips) (v344 : IVec S16 32) : Prop :=
  (∀ (k0_h7 : k0_cond7 i k0_t12 = 1#1), ∀ a x, ((![v344] : Fin 1 → IVec S16 32) a x).toNat < S40960.size a)
theorem k0_idx234_inb : ∀ (i : grid0.Coords) (k0_t12 : Fin (k0_t12_loop i).trips) (v344 : IVec S16 32) (k0_hw234 : k0_chk234 i k0_t12 v344), ∀ (k0_h7 : k0_cond7 i k0_t12 = 1#1), ∀ a x, ((![v344] : Fin 1 → IVec S16 32) a x).toNat < S40960.size a := fun i k0_t12 v344 k0_hw234 k0_h7 => k0_hw234 k0_h7

def k0_chk235 (i : grid0.Coords) (k0_t12 : Fin (k0_t12_loop i).trips) (v348 : IVec S16 32) : Prop :=
  (∀ (k0_h7 : k0_cond7 i k0_t12 = 1#1), ∀ a x, ((![v348] : Fin 1 → IVec S16 32) a x).toNat < S40064.size a)
theorem k0_idx235_inb : ∀ (i : grid0.Coords) (k0_t12 : Fin (k0_t12_loop i).trips) (v348 : IVec S16 32) (k0_hw235 : k0_chk235 i k0_t12 v348), ∀ (k0_h7 : k0_cond7 i k0_t12 = 1#1), ∀ a x, ((![v348] : Fin 1 → IVec S16 32) a x).toNat < S40064.size a := fun i k0_t12 v348 k0_hw235 k0_h7 => k0_hw235 k0_h7

def k0_chk236 (i : grid0.Coords) (k0_t12 : Fin (k0_t12_loop i).trips) (v351 : IVec S16 32) : Prop :=
  (∀ (k0_h7 : k0_cond7 i k0_t12 = 1#1), ∀ a x, ((![v351] : Fin 1 → IVec S16 32) a x).toNat < S40960.size a)
theorem k0_idx236_inb : ∀ (i : grid0.Coords) (k0_t12 : Fin (k0_t12_loop i).trips) (v351 : IVec S16 32) (k0_hw236 : k0_chk236 i k0_t12 v351), ∀ (k0_h7 : k0_cond7 i k0_t12 = 1#1), ∀ a x, ((![v351] : Fin 1 → IVec S16 32) a x).toNat < S40960.size a := fun i k0_t12 v351 k0_hw236 k0_h7 => k0_hw236 k0_h7

def k0_chk237 (i : grid0.Coords) (k0_t12 : Fin (k0_t12_loop i).trips) (v355 : IVec S16 32) : Prop :=
  (∀ (k0_h7 : k0_cond7 i k0_t12 = 1#1), ∀ a x, ((![v355] : Fin 1 → IVec S16 32) a x).toNat < S40064.size a)
theorem k0_idx237_inb : ∀ (i : grid0.Coords) (k0_t12 : Fin (k0_t12_loop i).trips) (v355 : IVec S16 32) (k0_hw237 : k0_chk237 i k0_t12 v355), ∀ (k0_h7 : k0_cond7 i k0_t12 = 1#1), ∀ a x, ((![v355] : Fin 1 → IVec S16 32) a x).toNat < S40064.size a := fun i k0_t12 v355 k0_hw237 k0_h7 => k0_hw237 k0_h7

def k0_chk238 (i : grid0.Coords) (k0_t12 : Fin (k0_t12_loop i).trips) (v358 : IVec S16 32) : Prop :=
  (∀ (k0_h7 : k0_cond7 i k0_t12 = 1#1), ∀ a x, ((![v358] : Fin 1 → IVec S16 32) a x).toNat < S40960.size a)
theorem k0_idx238_inb : ∀ (i : grid0.Coords) (k0_t12 : Fin (k0_t12_loop i).trips) (v358 : IVec S16 32) (k0_hw238 : k0_chk238 i k0_t12 v358), ∀ (k0_h7 : k0_cond7 i k0_t12 = 1#1), ∀ a x, ((![v358] : Fin 1 → IVec S16 32) a x).toNat < S40960.size a := fun i k0_t12 v358 k0_hw238 k0_h7 => k0_hw238 k0_h7

def k0_chk239 (i : grid0.Coords) (k0_t12 : Fin (k0_t12_loop i).trips) (v362 : IVec S16 32) : Prop :=
  (∀ (k0_h7 : k0_cond7 i k0_t12 = 1#1), ∀ a x, ((![v362] : Fin 1 → IVec S16 32) a x).toNat < S40064.size a)
theorem k0_idx239_inb : ∀ (i : grid0.Coords) (k0_t12 : Fin (k0_t12_loop i).trips) (v362 : IVec S16 32) (k0_hw239 : k0_chk239 i k0_t12 v362), ∀ (k0_h7 : k0_cond7 i k0_t12 = 1#1), ∀ a x, ((![v362] : Fin 1 → IVec S16 32) a x).toNat < S40064.size a := fun i k0_t12 v362 k0_hw239 k0_h7 => k0_hw239 k0_h7

def k0_chk240 (i : grid0.Coords) (k0_t12 : Fin (k0_t12_loop i).trips) (v365 : IVec S16 32) : Prop :=
  (∀ (k0_h7 : k0_cond7 i k0_t12 = 1#1), ∀ a x, ((![v365] : Fin 1 → IVec S16 32) a x).toNat < S40960.size a)
theorem k0_idx240_inb : ∀ (i : grid0.Coords) (k0_t12 : Fin (k0_t12_loop i).trips) (v365 : IVec S16 32) (k0_hw240 : k0_chk240 i k0_t12 v365), ∀ (k0_h7 : k0_cond7 i k0_t12 = 1#1), ∀ a x, ((![v365] : Fin 1 → IVec S16 32) a x).toNat < S40960.size a := fun i k0_t12 v365 k0_hw240 k0_h7 => k0_hw240 k0_h7
def k0_off35 (k0_t14 : Fin k0_t14_loop.trips) : Fin 1 → Nat :=
  let c0_i32_89 : BitVec 32 := 0#32
  let c1_i32_90 : BitVec 32 := 1#32
  let arg18 : BitVec 32 := Scf.iv c0_i32_89 c1_i32_90 k0_t14
  let c4_i32_189 : BitVec 32 := 4#32
  let v368 : BitVec 32 := Scalar.muli arg18 c4_i32_189
  let c3_i32_190 : BitVec 32 := 3#32
  let v369 : BitVec 32 := Scalar.addi v368 c3_i32_190
  let c16_i32_191 : BitVec 32 := 16#32
  let v370 : BitVec 32 := Scalar.muli v369 c16_i32_191
  let v371 : Index := Scalar.indexCast v370
  ![v371.toNat]

def k0_chk241 (i : grid0.Coords) (k0_t12 : Fin (k0_t12_loop i).trips) (v393 : IVec S16 32) : Prop :=
  (∀ (k0_h7 : k0_cond7 i k0_t12 = 1#1), ∀ a x, ((![v393] : Fin 1 → IVec S16 32) a x).toNat < S40064.size a)
theorem k0_idx241_inb : ∀ (i : grid0.Coords) (k0_t12 : Fin (k0_t12_loop i).trips) (v393 : IVec S16 32) (k0_hw241 : k0_chk241 i k0_t12 v393), ∀ (k0_h7 : k0_cond7 i k0_t12 = 1#1), ∀ a x, ((![v393] : Fin 1 → IVec S16 32) a x).toNat < S40064.size a := fun i k0_t12 v393 k0_hw241 k0_h7 => k0_hw241 k0_h7

def k0_chk242 (i : grid0.Coords) (k0_t12 : Fin (k0_t12_loop i).trips) (v396 : IVec S16 32) : Prop :=
  (∀ (k0_h7 : k0_cond7 i k0_t12 = 1#1), ∀ a x, ((![v396] : Fin 1 → IVec S16 32) a x).toNat < S40960.size a)
theorem k0_idx242_inb : ∀ (i : grid0.Coords) (k0_t12 : Fin (k0_t12_loop i).trips) (v396 : IVec S16 32) (k0_hw242 : k0_chk242 i k0_t12 v396), ∀ (k0_h7 : k0_cond7 i k0_t12 = 1#1), ∀ a x, ((![v396] : Fin 1 → IVec S16 32) a x).toNat < S40960.size a := fun i k0_t12 v396 k0_hw242 k0_h7 => k0_hw242 k0_h7

def k0_chk243 (i : grid0.Coords) (k0_t12 : Fin (k0_t12_loop i).trips) (v400 : IVec S16 32) : Prop :=
  (∀ (k0_h7 : k0_cond7 i k0_t12 = 1#1), ∀ a x, ((![v400] : Fin 1 → IVec S16 32) a x).toNat < S40064.size a)
theorem k0_idx243_inb : ∀ (i : grid0.Coords) (k0_t12 : Fin (k0_t12_loop i).trips) (v400 : IVec S16 32) (k0_hw243 : k0_chk243 i k0_t12 v400), ∀ (k0_h7 : k0_cond7 i k0_t12 = 1#1), ∀ a x, ((![v400] : Fin 1 → IVec S16 32) a x).toNat < S40064.size a := fun i k0_t12 v400 k0_hw243 k0_h7 => k0_hw243 k0_h7

def k0_chk244 (i : grid0.Coords) (k0_t12 : Fin (k0_t12_loop i).trips) (v403 : IVec S16 32) : Prop :=
  (∀ (k0_h7 : k0_cond7 i k0_t12 = 1#1), ∀ a x, ((![v403] : Fin 1 → IVec S16 32) a x).toNat < S40960.size a)
theorem k0_idx244_inb : ∀ (i : grid0.Coords) (k0_t12 : Fin (k0_t12_loop i).trips) (v403 : IVec S16 32) (k0_hw244 : k0_chk244 i k0_t12 v403), ∀ (k0_h7 : k0_cond7 i k0_t12 = 1#1), ∀ a x, ((![v403] : Fin 1 → IVec S16 32) a x).toNat < S40960.size a := fun i k0_t12 v403 k0_hw244 k0_h7 => k0_hw244 k0_h7

def k0_chk245 (i : grid0.Coords) (k0_t12 : Fin (k0_t12_loop i).trips) (v407 : IVec S16 32) : Prop :=
  (∀ (k0_h7 : k0_cond7 i k0_t12 = 1#1), ∀ a x, ((![v407] : Fin 1 → IVec S16 32) a x).toNat < S40064.size a)
theorem k0_idx245_inb : ∀ (i : grid0.Coords) (k0_t12 : Fin (k0_t12_loop i).trips) (v407 : IVec S16 32) (k0_hw245 : k0_chk245 i k0_t12 v407), ∀ (k0_h7 : k0_cond7 i k0_t12 = 1#1), ∀ a x, ((![v407] : Fin 1 → IVec S16 32) a x).toNat < S40064.size a := fun i k0_t12 v407 k0_hw245 k0_h7 => k0_hw245 k0_h7

def k0_chk246 (i : grid0.Coords) (k0_t12 : Fin (k0_t12_loop i).trips) (v410 : IVec S16 32) : Prop :=
  (∀ (k0_h7 : k0_cond7 i k0_t12 = 1#1), ∀ a x, ((![v410] : Fin 1 → IVec S16 32) a x).toNat < S40960.size a)
theorem k0_idx246_inb : ∀ (i : grid0.Coords) (k0_t12 : Fin (k0_t12_loop i).trips) (v410 : IVec S16 32) (k0_hw246 : k0_chk246 i k0_t12 v410), ∀ (k0_h7 : k0_cond7 i k0_t12 = 1#1), ∀ a x, ((![v410] : Fin 1 → IVec S16 32) a x).toNat < S40960.size a := fun i k0_t12 v410 k0_hw246 k0_h7 => k0_hw246 k0_h7

def k0_chk247 (i : grid0.Coords) (k0_t12 : Fin (k0_t12_loop i).trips) (v414 : IVec S16 32) : Prop :=
  (∀ (k0_h7 : k0_cond7 i k0_t12 = 1#1), ∀ a x, ((![v414] : Fin 1 → IVec S16 32) a x).toNat < S40064.size a)
theorem k0_idx247_inb : ∀ (i : grid0.Coords) (k0_t12 : Fin (k0_t12_loop i).trips) (v414 : IVec S16 32) (k0_hw247 : k0_chk247 i k0_t12 v414), ∀ (k0_h7 : k0_cond7 i k0_t12 = 1#1), ∀ a x, ((![v414] : Fin 1 → IVec S16 32) a x).toNat < S40064.size a := fun i k0_t12 v414 k0_hw247 k0_h7 => k0_hw247 k0_h7

def k0_chk248 (i : grid0.Coords) (k0_t12 : Fin (k0_t12_loop i).trips) (v417 : IVec S16 32) : Prop :=
  (∀ (k0_h7 : k0_cond7 i k0_t12 = 1#1), ∀ a x, ((![v417] : Fin 1 → IVec S16 32) a x).toNat < S40960.size a)
theorem k0_idx248_inb : ∀ (i : grid0.Coords) (k0_t12 : Fin (k0_t12_loop i).trips) (v417 : IVec S16 32) (k0_hw248 : k0_chk248 i k0_t12 v417), ∀ (k0_h7 : k0_cond7 i k0_t12 = 1#1), ∀ a x, ((![v417] : Fin 1 → IVec S16 32) a x).toNat < S40960.size a := fun i k0_t12 v417 k0_hw248 k0_h7 => k0_hw248 k0_h7

def k0_chk249 (i : grid0.Coords) (k0_t12 : Fin (k0_t12_loop i).trips) (v421 : IVec S16 32) : Prop :=
  (∀ (k0_h7 : k0_cond7 i k0_t12 = 1#1), ∀ a x, ((![v421] : Fin 1 → IVec S16 32) a x).toNat < S40064.size a)
theorem k0_idx249_inb : ∀ (i : grid0.Coords) (k0_t12 : Fin (k0_t12_loop i).trips) (v421 : IVec S16 32) (k0_hw249 : k0_chk249 i k0_t12 v421), ∀ (k0_h7 : k0_cond7 i k0_t12 = 1#1), ∀ a x, ((![v421] : Fin 1 → IVec S16 32) a x).toNat < S40064.size a := fun i k0_t12 v421 k0_hw249 k0_h7 => k0_hw249 k0_h7

def k0_chk250 (i : grid0.Coords) (k0_t12 : Fin (k0_t12_loop i).trips) (v424 : IVec S16 32) : Prop :=
  (∀ (k0_h7 : k0_cond7 i k0_t12 = 1#1), ∀ a x, ((![v424] : Fin 1 → IVec S16 32) a x).toNat < S40960.size a)
theorem k0_idx250_inb : ∀ (i : grid0.Coords) (k0_t12 : Fin (k0_t12_loop i).trips) (v424 : IVec S16 32) (k0_hw250 : k0_chk250 i k0_t12 v424), ∀ (k0_h7 : k0_cond7 i k0_t12 = 1#1), ∀ a x, ((![v424] : Fin 1 → IVec S16 32) a x).toNat < S40960.size a := fun i k0_t12 v424 k0_hw250 k0_h7 => k0_hw250 k0_h7

def k0_chk251 (i : grid0.Coords) (k0_t12 : Fin (k0_t12_loop i).trips) (v428 : IVec S16 32) : Prop :=
  (∀ (k0_h7 : k0_cond7 i k0_t12 = 1#1), ∀ a x, ((![v428] : Fin 1 → IVec S16 32) a x).toNat < S40064.size a)
theorem k0_idx251_inb : ∀ (i : grid0.Coords) (k0_t12 : Fin (k0_t12_loop i).trips) (v428 : IVec S16 32) (k0_hw251 : k0_chk251 i k0_t12 v428), ∀ (k0_h7 : k0_cond7 i k0_t12 = 1#1), ∀ a x, ((![v428] : Fin 1 → IVec S16 32) a x).toNat < S40064.size a := fun i k0_t12 v428 k0_hw251 k0_h7 => k0_hw251 k0_h7

def k0_chk252 (i : grid0.Coords) (k0_t12 : Fin (k0_t12_loop i).trips) (v431 : IVec S16 32) : Prop :=
  (∀ (k0_h7 : k0_cond7 i k0_t12 = 1#1), ∀ a x, ((![v431] : Fin 1 → IVec S16 32) a x).toNat < S40960.size a)
theorem k0_idx252_inb : ∀ (i : grid0.Coords) (k0_t12 : Fin (k0_t12_loop i).trips) (v431 : IVec S16 32) (k0_hw252 : k0_chk252 i k0_t12 v431), ∀ (k0_h7 : k0_cond7 i k0_t12 = 1#1), ∀ a x, ((![v431] : Fin 1 → IVec S16 32) a x).toNat < S40960.size a := fun i k0_t12 v431 k0_hw252 k0_h7 => k0_hw252 k0_h7

def k0_chk253 (i : grid0.Coords) (k0_t12 : Fin (k0_t12_loop i).trips) (v435 : IVec S16 32) : Prop :=
  (∀ (k0_h7 : k0_cond7 i k0_t12 = 1#1), ∀ a x, ((![v435] : Fin 1 → IVec S16 32) a x).toNat < S40064.size a)
theorem k0_idx253_inb : ∀ (i : grid0.Coords) (k0_t12 : Fin (k0_t12_loop i).trips) (v435 : IVec S16 32) (k0_hw253 : k0_chk253 i k0_t12 v435), ∀ (k0_h7 : k0_cond7 i k0_t12 = 1#1), ∀ a x, ((![v435] : Fin 1 → IVec S16 32) a x).toNat < S40064.size a := fun i k0_t12 v435 k0_hw253 k0_h7 => k0_hw253 k0_h7

def k0_chk254 (i : grid0.Coords) (k0_t12 : Fin (k0_t12_loop i).trips) (v438 : IVec S16 32) : Prop :=
  (∀ (k0_h7 : k0_cond7 i k0_t12 = 1#1), ∀ a x, ((![v438] : Fin 1 → IVec S16 32) a x).toNat < S40960.size a)
theorem k0_idx254_inb : ∀ (i : grid0.Coords) (k0_t12 : Fin (k0_t12_loop i).trips) (v438 : IVec S16 32) (k0_hw254 : k0_chk254 i k0_t12 v438), ∀ (k0_h7 : k0_cond7 i k0_t12 = 1#1), ∀ a x, ((![v438] : Fin 1 → IVec S16 32) a x).toNat < S40960.size a := fun i k0_t12 v438 k0_hw254 k0_h7 => k0_hw254 k0_h7

def k0_chk255 (i : grid0.Coords) (k0_t12 : Fin (k0_t12_loop i).trips) (v442 : IVec S16 32) : Prop :=
  (∀ (k0_h7 : k0_cond7 i k0_t12 = 1#1), ∀ a x, ((![v442] : Fin 1 → IVec S16 32) a x).toNat < S40064.size a)
theorem k0_idx255_inb : ∀ (i : grid0.Coords) (k0_t12 : Fin (k0_t12_loop i).trips) (v442 : IVec S16 32) (k0_hw255 : k0_chk255 i k0_t12 v442), ∀ (k0_h7 : k0_cond7 i k0_t12 = 1#1), ∀ a x, ((![v442] : Fin 1 → IVec S16 32) a x).toNat < S40064.size a := fun i k0_t12 v442 k0_hw255 k0_h7 => k0_hw255 k0_h7

def k0_chk256 (i : grid0.Coords) (k0_t12 : Fin (k0_t12_loop i).trips) (v445 : IVec S16 32) : Prop :=
  (∀ (k0_h7 : k0_cond7 i k0_t12 = 1#1), ∀ a x, ((![v445] : Fin 1 → IVec S16 32) a x).toNat < S40960.size a)
theorem k0_idx256_inb : ∀ (i : grid0.Coords) (k0_t12 : Fin (k0_t12_loop i).trips) (v445 : IVec S16 32) (k0_hw256 : k0_chk256 i k0_t12 v445), ∀ (k0_h7 : k0_cond7 i k0_t12 = 1#1), ∀ a x, ((![v445] : Fin 1 → IVec S16 32) a x).toNat < S40960.size a := fun i k0_t12 v445 k0_hw256 k0_h7 => k0_hw256 k0_h7
def k0_off36 (i : grid0.Coords) (k0_t12 : Fin (k0_t12_loop i).trips) (c0_i32_92 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67 : BitVec 32 := 0#32
  let c1250_i32 : BitVec 32 := 1250#32
  let v39 : BitVec 32 := Scalar.subi c1250_i32 v1
  let c32_i32 : BitVec 32 := 32#32
  let v40 : BitVec 32 := Scalar.addi v39 c32_i32
  let c1_i32_51 : BitVec 32 := 1#32
  let v41 : BitVec 32 := Scalar.subi v40 c1_i32_51
  let c0_i32_53 : BitVec 32 := 0#32
  let v43 : BitVec 1 := Scalar.cmpi .sgt v41 c0_i32_53
  let v44 : BitVec 32 := Scalar.extui v43
  let c0_i32_54 : BitVec 32 := 0#32
  let v45 : BitVec 1 := Scalar.cmpi .slt v41 c0_i32_54
  let v46 : BitVec 32 := Scalar.extui v45
  let v47 : BitVec 32 := Scalar.subi v44 v46
  let c32_i32_52 : BitVec 32 := 32#32
  let c0_i32_55 : BitVec 32 := 0#32
  let v48 : BitVec 1 := Scalar.cmpi .sgt c32_i32_52 c0_i32_55
  let v49 : BitVec 32 := Scalar.extui v48
  let c0_i32_56 : BitVec 32 := 0#32
  let v50 : BitVec 1 := Scalar.cmpi .slt c32_i32_52 c0_i32_56
  let v51 : BitVec 32 := Scalar.extui v50
  let v52 : BitVec 32 := Scalar.subi v49 v51
  let v53 : BitVec 1 := Scalar.cmpi .ne v47 v52
  let v54 : BitVec 32 := Scalar.remsi v41 c32_i32_52
  let c0_i32_57 : BitVec 32 := 0#32
  let v55 : BitVec 1 := Scalar.cmpi .ne v54 c0_i32_57
  let v56 : BitVec 1 := Scalar.andi v53 v55
  let v42 : BitVec 32 := Scalar.divsi v41 c32_i32_52
  let c1_i32_58 : BitVec 32 := 1#32
  let v57 : BitVec 32 := Scalar.subi v42 c1_i32_58
  let v58 : BitVec 32 := Scalar.select v56 v57 v42
  let c1_i32_59 : BitVec 32 := 1#32
  let v59 : BitVec 32 := Scalar.addi v58 c1_i32_59
  let c0_i32_61 : BitVec 32 := 0#32
  let v61 : BitVec 1 := Scalar.cmpi .sgt v59 c0_i32_61
  let v62 : BitVec 32 := Scalar.extui v61
  let c0_i32_62 : BitVec 32 := 0#32
  let v63 : BitVec 1 := Scalar.cmpi .slt v59 c0_i32_62
  let v64 : BitVec 32 := Scalar.extui v63
  let v65 : BitVec 32 := Scalar.subi v62 v64
  let c2_i32_60 : BitVec 32 := 2#32
  let c0_i32_63 : BitVec 32 := 0#32
  let v66 : BitVec 1 := Scalar.cmpi .sgt c2_i32_60 c0_i32_63
  let v67 : BitVec 32 := Scalar.extui v66
  let c0_i32_64 : BitVec 32 := 0#32
  let v68 : BitVec 1 := Scalar.cmpi .slt c2_i32_60 c0_i32_64
  let v69 : BitVec 32 := Scalar.extui v68
  let v70 : BitVec 32 := Scalar.subi v67 v69
  let v71 : BitVec 1 := Scalar.cmpi .ne v65 v70
  let v72 : BitVec 32 := Scalar.remsi v59 c2_i32_60
  let c0_i32_65 : BitVec 32 := 0#32
  let v73 : BitVec 1 := Scalar.cmpi .ne v72 c0_i32_65
  let v74 : BitVec 1 := Scalar.andi v71 v73
  let v60 : BitVec 32 := Scalar.divsi v59 c2_i32_60
  let c1_i32_66 : BitVec 32 := 1#32
  let v75 : BitVec 32 := Scalar.subi v60 c1_i32_66
  let v76 : BitVec 32 := Scalar.select v74 v75 v60
  let v77 : BitVec 32 := Scalar.subi v76 c0_i32_67
  let c1_i32_69 : BitVec 32 := 1#32
  let v79 : BitVec 32 := Scalar.divsi v77 c1_i32_69
  let v80 : BitVec 32 := Scalar.muli v79 c1_i32_69
  let v81 : BitVec 32 := Scalar.addi c0_i32_67 v80
  let c1_i32_71 : BitVec 32 := 1#32
  let arg16 : BitVec 32 := Scf.iv v81 c1_i32_71 k0_t12
  let c2_i32_79 : BitVec 32 := 2#32
  let v95 : BitVec 32 := Scalar.muli arg16 c2_i32_79
  let c1_i32_80 : BitVec 32 := 1#32
  let v96 : BitVec 32 := Scalar.addi v95 c1_i32_80
  let c32_i32_83 : BitVec 32 := 32#32
  let v100 : BitVec 32 := Scalar.muli v96 c32_i32_83
  let v101 : BitVec 32 := Scalar.addi v1 v100
  let c5120_i32 : BitVec 32 := 5120#32
  let v102 : BitVec 32 := Scalar.muli v101 c5120_i32
  let c8_i32 : BitVec 32 := 8#32
  let v108 : BitVec 32 := Scalar.muli v102 c8_i32
  let v109 : BitVec 32 := Scalar.addi v108 c0_i32_92
  ![v109.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6400000 : Shape := ⟨1, ![6400000]⟩
abbrev S8 : Shape := ⟨1, ![8]⟩
abbrev S5000x8 : Shape := ⟨2, ![5000, 8]⟩
abbrev S5000 : Shape := ⟨1, ![5000]⟩
abbrev S_ : Shape := ⟨0, ![]⟩
abbrev S5000x1 : Shape := ⟨2, ![5000, 1]⟩
abbrev S1x6400000 : Shape := ⟨2, ![1, 6400000]⟩
abbrev S5000x6400000 : Shape := ⟨2, ![5000, 6400000]⟩
abbrev S6400000x1 : Shape := ⟨2, ![6400000, 1]⟩
abbrev S6400000x8 : Shape := ⟨2, ![6400000, 8]⟩
abbrev S1x8 : Shape := ⟨2, ![1, 8]⟩

abbrev nBuf : Space → Nat
  | .hbm => 28
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S8, .f32⟩
  | .hbm, ⟨2, _⟩ => ⟨S5000x8, .f32⟩
  | .hbm, ⟨3, _⟩ => ⟨S5000, .f32⟩
  | .hbm, ⟨4, _⟩ => ⟨S_, .f32⟩
  | .hbm, ⟨5, _⟩ => ⟨S_, .f32⟩
  | .hbm, ⟨6, _⟩ => ⟨S6400000, .f32⟩
  | .hbm, ⟨7, _⟩ => ⟨S6400000, .f32⟩
  | .hbm, ⟨8, _⟩ => ⟨S5000x1, .f32⟩
  | .hbm, ⟨9, _⟩ => ⟨S1x6400000, .f32⟩
  | .hbm, ⟨10, _⟩ => ⟨S5000x6400000, .f32⟩
  | .hbm, ⟨11, _⟩ => ⟨S5000x6400000, .f32⟩
  | .hbm, ⟨12, _⟩ => ⟨S5000x6400000, .i1⟩
  | .hbm, ⟨13, _⟩ => ⟨S5000x6400000, .i32⟩
  | .hbm, ⟨14, _⟩ => ⟨S_, .i32⟩
  | .hbm, ⟨15, _⟩ => ⟨S6400000, .i32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000x8, .f32⟩
  | .hbm, ⟨25, _⟩ => ⟨S1x8, .f32⟩
  | .hbm, ⟨26, _⟩ => ⟨S6400000x8, .f32⟩
  | .hbm, ⟨27, _⟩ => ⟨S6400000x8, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Args.lean ====
/-
  The operands the body table passes to a tile, applied to a generated function of them.
-/
module

public import proofs.«01_k».proof.Proof.Base

@[expose] public section

noncomputable section

namespace Cert.Proof.Kernel

open Cert.Kernel Cert.Kernel.Gen
open Idealize.ShloMosaic

/-- The body's memrefs and semaphores, applied to a generated function of them. -/
abbrev args {β : Sort*} (f : (arg2 : Memref sig .scVector .hbm S6400000 .f32) → arg2.IsWhole →
    (arg3 : Memref sig .scVector .hbm S40064 .f32) → arg3.IsWhole → (arg4 : Memref sig .scVector .hbm S8x16 .f32) → arg4.IsWhole →
    (arg5 : Memref sig .scVector .hbm S2x16 .f32) → arg5.IsWhole → (arg6 : Memref sig .scVector .hbm S51200000 .f32) → arg6.IsWhole →
    (arg7 : Memref sig .scVector .vmem S40064 .f32) → arg7.IsWhole → (arg8 : Memref sig .scVector .vmem S5120 .f32) → arg8.IsWhole →
    (arg9 : Memref sig .scVector .vmem S2x40960 .f32) → arg9.IsWhole → (arg10 : Memref sig .scVector .vmem S8x16 .f32) → arg10.IsWhole →
    (arg11 : Memref sig .scVector .vmem S2x16 .f32) → arg11.IsWhole → (arg12 arg13 arg14 arg15 v90_r0 v90_r1 v90_r2 v128_r3 v128_r4 v128_r5 v128_r6 : DmaSems sig S_) → β) : β :=
  f (Memref.whole main_arg0_scv) (Memref.isWhole_whole _) (Memref.whole main_v2_scv) (Memref.isWhole_whole _)
    (Memref.whole main_v12_scv) (Memref.isWhole_whole _) (Memref.whole main_v10_scv) (Memref.isWhole_whole _)
    (Memref.whole main_v13_scv) (Memref.isWhole_whole _) mT (Memref.isWhole_whole _) mX (Memref.isWhole_whole _)
    mO (Memref.isWhole_whole _) mW (Memref.isWhole_whole _) mP (Memref.isWhole_whole _)
    cc0_scratch5 cc0_scratch6 cc0_scratch7 cc0_scratch8 cc0_scoped0 cc0_scoped1 cc0_scoped2 cc0_scoped3 cc0_scoped4 cc0_scoped5 cc0_scoped6

end Cert.Proof.Kernel
-- ==== Proof.Frame.lean ====
/-
  What a reader of the program's arrays finds at its end: the arguments as they were, every semaphore down, and the
  result holding the call's output in the order of the input words.
-/
module

public import proofs.«01_k».proof.Proof.Main
public import proofs.«01_k».proof.Proof.Tile
public import proofs.«01_k».proof.Proof.Order
public import Idealize.ShloMosaic.Lib.Pipeline.FrameTail

@[expose] public section

noncomputable section

namespace Cert.Proof.Kernel

open Cert.Kernel Cert.Kernel.Gen
open Idealize.ShloMosaic Idealize.ShloMosaic.TcCoe
open Idealize.SL.Sem
open Idealize.ShloMosaic.StableHlo (after)
open Idealize.ShloMosaic.Pipeline (ucRefs)

variable {F : FTy → Type} [FloatOps F] (m : (ℓ : Loc nD τ sig) → Buf (Elt F) ℓ) (ρ : Dev nD → PrngReg)

/-- An argument of the program. -/
abbrev argRef (i : Fin 4) : Ref sig .tc := ![main_arg0, main_arg1, main_arg2, main_arg3] i

/-- No operation before the call, nor the call, nor an operation after it writes an argument. -/
theorem atEnd_arg (d : Dev nD) (i : Fin 4) : atEnd m d (Proc.devRef .tc (argRef i)) = m (d, Proc.devRef .tc (argRef i)) := by
  fin_cases i <;> (unfold atEnd afterCall atCall opsPost opsPre; after_results; rfl)

/-- The result holds the call's output, put in order. -/
theorem atEnd_res (d : Dev nD) : atEnd m d (Proc.devRef .tc main_v16) = ordered (outN m d) := by
  unfold atEnd afterCall opsPost; after_results; rfl

/-- The program terminates, its arguments end unchanged, its result is the call's output in order, and every
    semaphore ends down. -/
theorem run_value [∀ e, Nonempty (Elt F e)] :
    θ_run (Cert.Kernel.defs (F := F)) (Cert.Kernel.threads (F := F)) ⟨m, fun _ => 0, ρ⟩ fun r =>
      (∀ c : Dev nD, r.2.mem ((c.tc : Thread nD τ).loc main_v16) = ordered (outN m c)
        ∧ ∀ i, r.2.mem ((c.tc : Thread nD τ).loc (argRef i)) = m ((c.tc : Thread nD τ).loc (argRef i)))
      ∧ r.2.sem = fun _ => 0 :=
  (θ_run _ _ _).mono (fun r h => ⟨fun c => ⟨(h.1 c _ (Pipeline.devRef_mem_ucRefs rfl)).trans (atEnd_res m c),
      fun i => (h.1 c _ (Pipeline.devRef_mem_ucRefs (by revert i; decide))).trans (atEnd_arg m c i)⟩, h.2⟩)
    (run_main m ρ (tileObl m facts))

end Cert.Proof.Kernel
-- ==== Proof.Ideal.Vals.lean ====
/-
  What one tile computes, as plain functions of the words it reads: the grid index of an input word, the entry of
  the scaled table it selects, and where in a block of 40960 output words that entry goes. The kernel writes a block
  in 2560 steps of sixteen words; `Good n g` says of a block's contents `g` that every word belonging to one of the
  first `n` steps already holds its final value.
-/
module

public import proofs.«01_k».proof.KernelIdeal
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic

/-! ## Where a word of a block comes from -/

/-- The index of word `n` of a one-axis array of `N` words (taken modulo `N`, so that it is total). -/
def pt (N : ℕ) [NeZero N] (n : ℕ) : (⟨1, ![N]⟩ : Shape).Idx := fun a =>
  ⟨n % N, by rw [Fin.eq_zero a]; exact Nat.mod_lt _ (NeZero.pos N)⟩

theorem pt_val (N : ℕ) [NeZero N] (n : ℕ) (a : Fin 1) : (pt N n a).val = n % N := rfl

theorem pt_congr {N : ℕ} [NeZero N] {n n' : ℕ} (h : n % N = n' % N) : pt N n = pt N n' :=
  funext fun _ => Fin.ext h

/-- An index is the one of its only coordinate. -/
theorem pt_eq (N : ℕ) [NeZero N] (j : (⟨1, ![N]⟩ : Shape).Idx) : pt N (j 0).val = j := by
  funext a
  have h : (j 0).val < N := (j 0).isLt
  obtain rfl := Fin.eq_zero a
  exact Fin.ext (Nat.mod_eq_of_lt h)

/-- The input word that output word `p` of a block depends on. -/
def wordOf (p : ℕ) : ℕ := p / 1024 * 128 + p % 128
/-- The table column that output word `p` takes. -/
def colOf (p : ℕ) : ℕ := p / 128 % 8
/-- The step that writes output word `p`: eight to a group of sixteen input words, one for each column. -/
def stepOf (p : ℕ) : ℕ := (p / 1024 * 8 + p % 128 / 16) * 8 + colOf p

/-- The output word that lane `l` of step `c` of group `g` writes. -/
def posOf (g c l : ℕ) : ℕ := g / 8 * 1024 + g % 8 * 16 + l + c * 128

theorem stepOf_lt {p : ℕ} (h : p < 40960) : stepOf p < 2560 := by unfold stepOf colOf; omega

theorem posOf_lt {g c l : ℕ} (hg : g < 320) (hc : c < 8) (hl : l < 16) : posOf g c l < 40960 := by
  unfold posOf; omega

theorem wordOf_posOf {g c l : ℕ} (hc : c < 8) (hl : l < 16) : wordOf (posOf g c l) = g * 16 + l := by
  unfold wordOf posOf; omega

theorem colOf_posOf {g c l : ℕ} (hc : c < 8) (hl : l < 16) : colOf (posOf g c l) = c := by
  unfold colOf posOf; omega

theorem posOf_mod {g c l : ℕ} (hl : l < 16) : posOf g c l % 16 = l := by unfold posOf; omega

/-- A word of step `g * 8 + c` is the one some lane of that step writes. -/
theorem eq_posOf {g c p : ℕ} (hc : c < 8) (h : stepOf p = g * 8 + c) : p = posOf g c (p % 16) := by
  have h1 : p / 1024 * 8 + p % 128 / 16 = g := by unfold stepOf colOf at h; omega
  have h2 : p / 128 % 8 = c := by unfold stepOf colOf at h; omega
  have h3 : g / 8 = p / 1024 := by omega
  have h4 : g % 8 = p % 128 / 16 := by omega
  have h5 : p % 128 % 16 = p % 16 := by omega
  unfold posOf; rw [h3, h4]; omega

section Values

variable {F : FTy → Type} [FloatOps F]

/-- The grid index of an input word `x`, given the last grid point `r` and the reciprocal spacing `k`:
    `min x r` scaled, rounded up to a whole number, and held between 0 and 4999. -/
def ixS (r k x : Elt F .f32) : BitVec 32 :=
  k0_pay1 (F := F) (fun _ => r) (fun _ => k) (fun _ => x) (pt 16 0)

theorem pay1_apply (v3 v5 v : Vec F S16 .f32) (x : S16.Idx) :
    k0_pay1 v3 v5 v x = ixS (F := F) (v3 x) (v5 x) (v x) := rfl

theorem minsi_maxsi_le (a : BitVec 32) :
    (IntOp.minsi (IntOp.maxsi a 0#32) 4999#32).toNat ≤ 4999 := by
  unfold IntOp.minsi IntOp.maxsi
  split <;> split <;> simp_all [BitVec.sle, BitVec.slt, BitVec.toInt_eq_toNat_cond] <;> split_ifs at * <;> omega

/-- A grid index names a row of the table. -/
theorem ixS_le (r k x : Elt F .f32) : (ixS (F := F) r k x).toNat ≤ 4999 := minsi_maxsi_le _

/-- Output word `p` of a block: the table entry its input word's grid index selects in its column. -/
def tgt (tab : Vec F S40064 .f32) (v3 v5 : Vec F S16 .f32) (xs : Vec F S5120 .f32) (p : ℕ) : Elt F .f32 :=
  tab (pt 40064 ((ixS (F := F) (v3 (pt 16 p)) (v5 (pt 16 p)) (xs (pt 5120 (wordOf p)))).toNat + colOf p * 5008))

/-- Every word of the first `n` steps of the block holds its final value. -/
def Good (tab : Vec F S40064 .f32) (v3 v5 : Vec F S16 .f32) (xs : Vec F S5120 .f32) (n : ℕ)
    (g : Vec F S40960 .f32) : Prop :=
  ∀ j : S40960.Idx, stepOf (j 0).val < n → g j = tgt tab v3 v5 xs (j 0).val

theorem Good.zero (tab : Vec F S40064 .f32) (v3 v5 : Vec F S16 .f32) (xs : Vec F S5120 .f32)
    (g : Vec F S40960 .f32) : Good tab v3 v5 xs 0 g := fun _ h => absurd h (Nat.not_lt_zero _)

/-- After all 2560 steps every word of the block holds its final value. -/
theorem Good.all {tab : Vec F S40064 .f32} {v3 v5 : Vec F S16 .f32} {xs : Vec F S5120 .f32} {g : Vec F S40960 .f32}
    (h : Good tab v3 v5 xs 2560 g) (j : S40960.Idx) : g j = tgt tab v3 v5 xs (j 0).val :=
  h j (stepOf_lt (j 0).isLt)

/-! ## A step: sixteen entries gathered, sixteen words scattered -/

/-- The sixteen input words of group `g`. -/
def xgrp (xs : Vec F S5120 .f32) (g : ℕ) : Vec F S16 .f32 := fun x => xs (pt 5120 (g * 16 + (x 0).val))

/-- The table positions step `c` gathers from, for sixteen input words. -/
def gvec (v3 v5 xv : Vec F S16 .f32) (c : ℕ) : IVec S16 32 :=
  addi (k0_pay1 v3 v5 xv) (broadcast S16 (BitVec.ofNat 32 (c * 5008)))

/-- The word of a block the first lane of group `4 t + u` writes for column 0, as the kernel computes it. -/
def baseW (t u : ℕ) : BitVec 32 :=
  let v : BitVec 32 := Scalar.addi (Scalar.muli (Scf.iv 0#32 1#32 t) 4#32) (BitVec.ofNat 32 u)
  Scalar.addi (Scalar.muli (Scalar.shrsi v 3#32) 1024#32) (Scalar.muli (Scalar.andi v 7#32) 16#32)

/-- The words of a block step `c` of group `4 t + u` scatters to. -/
def svec (v38 : IVec S16 32) (t u c : ℕ) : IVec S16 32 :=
  addi (addi (broadcast S16 (baseW t u)) v38) (broadcast S16 (BitVec.ofNat 32 (c * 128)))

/-- The sixteen table entries step `c` of group `g` gathers. -/
def gval (tab : Vec F S40064 .f32) (v3 v5 : Vec F S16 .f32) (xs : Vec F S5120 .f32) (g c : ℕ) : Vec F S16 .f32 :=
  fun x => tgt tab v3 v5 xs (posOf g c (x 0).val)

theorem gvec_toNat (v3 v5 xv : Vec F S16 .f32) {c : ℕ} (hc : c < 8) (x : S16.Idx) :
    (gvec v3 v5 xv c x).toNat = (ixS (F := F) (v3 x) (v5 x) (xv x)).toNat + c * 5008 := by
  have h := ixS_le (F := F) (v3 x) (v5 x) (xv x)
  show (ixS (F := F) (v3 x) (v5 x) (xv x) + BitVec.ofNat 32 (c * 5008)).toNat = _
  rw [BitVec.toNat_add, BitVec.toNat_ofNat]
  omega

/-- Every position a step gathers from lies in the table. -/
theorem gvec_inb (v3 v5 xv : Vec F S16 .f32) {c : ℕ} (hc : c < 8) :
    ∀ (a : Fin 1) (x : S16.Idx), ((![gvec v3 v5 xv c] : Fin 1 → IVec S16 32) a x).toNat < S40064.size a := by
  intro a x
  obtain rfl := Fin.eq_zero a
  have h := ixS_le (F := F) (v3 x) (v5 x) (xv x)
  show (gvec v3 v5 xv c x).toNat < 40064
  rw [gvec_toNat v3 v5 xv hc]; omega

/-- What a step gathers is the table entry each of its sixteen output words wants. -/
theorem loadIdx_gvec (tab : Vec F S40064 .f32) (v3 v5 : Vec F S16 .f32) (xs : Vec F S5120 .f32) (g : ℕ) {c : ℕ}
    (hc : c < 8) (h : ∀ (a : Fin 1) (x : S16.Idx),
      ((![gvec v3 v5 (xgrp xs g) c] : Fin 1 → IVec S16 32) a x).toNat < S40064.size a) :
    loadIdx (F := F) (e := .f32) tab ![gvec v3 v5 (xgrp xs g) c] h = gval tab v3 v5 xs g c := by
  funext x
  have hl : (x 0).val < 16 := (x 0).isLt
  have hx : pt 16 (posOf g c (x 0).val) = x := by
    conv_rhs => rw [← pt_eq 16 x]
    exact pt_congr (by rw [posOf_mod hl]; exact (Nat.mod_eq_of_lt hl).symm)
  show tab _ = tab _
  congr 1
  funext a
  obtain rfl := Fin.eq_zero a
  apply Fin.ext
  show (gvec v3 v5 (xgrp xs g) c x).toNat = _
  rw [gvec_toNat v3 v5 _ hc, pt_val, colOf_posOf hc hl, wordOf_posOf hc hl, hx]
  have hle := ixS_le (F := F) (v3 x) (v5 x) (xgrp xs g x)
  refine (Nat.mod_eq_of_lt ?_).symm
  omega

end Values

theorem baseW_toNat : ∀ t : Fin 80, ∀ u : Fin 4,
    (baseW t.val u.val).toNat = (4 * t.val + u.val) / 8 * 1024 + (4 * t.val + u.val) % 8 * 16 := by
  decide +kernel

/-- The lane numbers 0 to 15. -/
def Lanes (v38 : IVec S16 32) : Prop := ∀ x : S16.Idx, v38 x = BitVec.ofNat 32 (x 0).val

theorem svec_toNat {v38 : IVec S16 32} (h38 : Lanes v38) {t u c : ℕ} (ht : t < 80) (hu : u < 4) (hc : c < 8)
    (x : S16.Idx) : (svec v38 t u c x).toNat = posOf (4 * t + u) c (x 0).val := by
  have hb := baseW_toNat ⟨t, ht⟩ ⟨u, hu⟩
  have hl : (x 0).val < 16 := (x 0).isLt
  show ((baseW t u + v38 x) + BitVec.ofNat 32 (c * 128)).toNat = _
  rw [h38 x, BitVec.toNat_add, BitVec.toNat_add, BitVec.toNat_ofNat, BitVec.toNat_ofNat]
  simp only at hb
  rw [hb]; unfold posOf; omega

/-- Every word a step scatters to lies in the block. -/
theorem svec_inb {v38 : IVec S16 32} (h38 : Lanes v38) {t u c : ℕ} (ht : t < 80) (hu : u < 4) (hc : c < 8) :
    ∀ (a : Fin 1) (x : S16.Idx), ((![svec v38 t u c] : Fin 1 → IVec S16 32) a x).toNat < S40960.size a := by
  intro a x
  obtain rfl := Fin.eq_zero a
  show (svec v38 t u c x).toNat < 40960
  rw [svec_toNat h38 ht hu hc]
  exact posOf_lt (by omega) hc (x 0).isLt

/-- A scatter of values that are each right for the word they go to: a word that was right before, or that some lane
    writes, is right after. -/
theorem storeIdx_right {F : FTy → Type} [FloatOps F] (T : S40960.Idx → Elt F .f32) (f : Vec F S40960 .f32)
    (idxs : Fin 1 → IVec S16 32) (v : Vec F S16 .f32) (h : ∀ a x, (idxs a x).toNat < S40960.size a)
    (hv : ∀ x, v x = T (idxAt idxs h x)) (j : S40960.Idx)
    (hj : f j = T j ∨ ∃ x : S16.Idx, idxAt idxs h x = j) :
    storeIdx (F := F) (e := .f32) f idxs v (fun _ => 1#1) false h j = T j := by
  unfold storeIdx
  have key : ∀ (l : List (Fin ((![16] : Fin 1 → ℕ) 0))) (g : Vec F S40960 .f32),
      (g j = T j ∨ ∃ k ∈ l, idxAt idxs h (Shape.ofLane (d := ![16]) k) = j) →
      l.foldl (fun g k => fun j => if (∀ a, (j a).val = (idxAt idxs h (Shape.ofLane (d := ![16]) k) a).val)
        then v (Shape.ofLane (d := ![16]) k) else g j) g j = T j := by
    intro l
    induction l with
    | nil => intro g hg; rcases hg with hg | ⟨k, hk, _⟩
             · exact hg
             · cases hk
    | cons k l ih =>
      intro g hg
      rw [List.foldl_cons]
      apply ih
      by_cases hk : ∀ a, (j a).val = (idxAt idxs h (Shape.ofLane (d := ![16]) k) a).val
      · left
        rw [if_pos hk, hv]
        congr 1
        funext a; exact Fin.ext (hk a).symm
      · rw [if_neg hk]
        rcases hg with hg | ⟨k', hk', he⟩
        · exact Or.inl hg
        · rcases List.mem_cons.1 hk' with rfl | hm
          · exact absurd (fun a => by rw [he]) hk
          · exact Or.inr ⟨k', hm, he⟩
  have := key (List.finRange 16) f (by
    rcases hj with hj | ⟨x, hx⟩
    · exact Or.inl hj
    · refine Or.inr ⟨x 0, List.mem_finRange _, ?_⟩
      rw [← hx]; congr 1; funext a; obtain rfl := Fin.eq_zero a; rfl)
  simp only [show ((1#1 : BitVec 1) = 1) = True from eq_true rfl, if_true, Bool.false_eq_true, if_false]
  exact this

section Step

variable {F : FTy → Type} [FloatOps F]

/-- One step: from a block right up to step `g * 8 + c`, the scatter leaves it right through that step. -/
theorem Good.step {tab : Vec F S40064 .f32} {v3 v5 : Vec F S16 .f32} {xs : Vec F S5120 .f32} {g : Vec F S40960 .f32}
    {v38 : IVec S16 32} (h38 : Lanes v38) {t u c : ℕ} (ht : t < 80) (hu : u < 4) (hc : c < 8)
    (hg : Good tab v3 v5 xs ((4 * t + u) * 8 + c) g) (h) :
    Good tab v3 v5 xs ((4 * t + u) * 8 + (c + 1))
      (storeIdx (F := F) (e := .f32) g ![svec v38 t u c] (gval tab v3 v5 xs (4 * t + u) c) (fun _ => 1#1) false h) := by
  have hix : ∀ x : S16.Idx, (idxAt (s := S40960) ![svec v38 t u c] h x 0).val = posOf (4 * t + u) c (x 0).val :=
    fun x => svec_toNat h38 ht hu hc x
  intro j hj
  refine storeIdx_right (fun j => tgt tab v3 v5 xs (j 0).val) g _ _ h (fun x => ?_) j ?_
  · show tgt tab v3 v5 xs _ = tgt tab v3 v5 xs _
    rw [hix]
  · by_cases hlt : stepOf (j 0).val < (4 * t + u) * 8 + c
    · exact Or.inl (hg j hlt)
    · have he := eq_posOf hc (show stepOf (j 0).val = (4 * t + u) * 8 + c by omega)
      refine Or.inr ⟨pt 16 (j 0).val, ?_⟩
      funext a
      obtain rfl := Fin.eq_zero a
      exact Fin.ext (by rw [hix, pt_val, ← he])

end Step

end Cert.Proof.KernelIdeal
-- ==== Proof.Ideal.Base.lean ====
/-
  The kernel as the launch theorem sees it: its configuration, the resource algebra the proofs use, the memrefs the
  body table passes to a tile, and the thread of the tile at given coordinates.
-/
module

public import proofs.«01_k».proof.Proof.Ideal.Vals
public import Idealize.ShloMosaic.Lib.SparseCore.Quiescent
public import Idealize.ShloMosaic.Lib.StableHlo.Run
public import Idealize.ShloMosaic.Lib.Pipeline.Kit

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-- The assertions the proofs are about. -/
abbrev Asrt (F : FTy → Type) : Type := sProp (MT nD τ sig (HIx 1) (Elt F) ℕ UU ℕ)

/-! ## The tile at coordinates `L` and the memrefs it is passed -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The table scratch, the input block, the two output blocks, the broadcast weights and the broadcast parameters. -/
abbrev mT : Memref sig .scVector .vmem S40064 .f32 := Memref.whole cc0_scratch0
abbrev mX : Memref sig .scVector .vmem S5120 .f32 := Memref.whole cc0_scratch1
abbrev mO : Memref sig .scVector .vmem S2x40960 .f32 := Memref.whole cc0_scratch2
abbrev mW : Memref sig .scVector .vmem S8x16 .f32 := Memref.whole cc0_scratch3
abbrev mP : Memref sig .scVector .vmem S2x16 .f32 := Memref.whole cc0_scratch4

/-- The two output blocks of a tile. -/
abbrev slot0 : Memref sig .scVector .vmem S40960 .f32 :=
  (mO.slice (Rect.unit (s := S2x40960) ![0, 0] S1x40960.size inb_S2x40960_S1x40960_0_0) (fun _ => rfl)).squeeze S40960 squeezes_S1x40960_S40960
abbrev slot1 : Memref sig .scVector .vmem S40960 .f32 :=
  (mO.slice (Rect.unit (s := S2x40960) ![1, 0] S1x40960.size inb_S2x40960_S1x40960_1_0) (fun _ => rfl)).squeeze S40960 squeezes_S1x40960_S40960

end Cert.Proof.KernelIdeal
-- ==== Proof.Ideal.Steps.lean ====
/-
  The four kinds of step of the kernel's inner loop, each over the same state `mid`: the table and the input block
  held, and an output block right through its first `n` steps. A checked index vector passes its check; a gather
  reads the table entries its step wants; a scatter moves the block on by one step; a load reads a group of sixteen
  input words.
-/
module

public import proofs.«01_k».proof.Proof.Ideal.Base

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- Contents `f` of an output block, read word by word. -/
abbrev blk (slot : Memref sig .scVector .vmem S40960 .f32) (f : Buf (Elt F) ((slot.access (.whole S40960)).loc (thr d L))) :
    Vec F S40960 .f32 := (slot.access (.whole S40960)).read (Elt F) f

/-- An output block held outright with contents `f`. -/
abbrev blkPts (slot : Memref sig .scVector .vmem S40960 .f32) (f : Buf (Elt F) ((slot.access (.whole S40960)).loc (thr d L))) :
    Asrt F :=
  (slot.access (.whole S40960)).loc (thr d L) ↦[(slot.access (.whole S40960)).set]{fullShare} f

/-- The state between two steps of a block: the table `tab` and the input block `xs` held, and the output block
    right through its first `n` steps. `ph` says which of a step's four instructions comes next: 0 the gather's check,
    1 the gather, 2 the scatter's check, 3 the scatter; it only keeps the walk through the program in order. -/
def mid (_ph : ℕ) (slot : Memref sig .scVector .vmem S40960 .f32) (tab : Vec F S40064 .f32) (v3 v5 : Vec F S16 .f32)
    (xs : Vec F S5120 .f32) (n : ℕ) : Asrt F :=
  iprop((mT.view.loc (thr d L) ↦{fullShare} (tab : Buf (Elt F) (mT.view.loc (thr d L))))
    ∗ (mX.view.loc (thr d L) ↦{fullShare} (xs : Buf (Elt F) (mX.view.loc (thr d L))))
    ∗ ∃ f, ⌜Good tab v3 v5 xs n (blk d L slot f)⌝ ∗ blkPts d L slot f)

variable {slot : Memref sig .scVector .vmem S40960 .f32} {tab : Vec F S40064 .f32} {v3 v5 : Vec F S16 .f32}
  {xs : Vec F S5120 .f32} {v38 : IVec S16 32} {α : Type} {Q : α → Asrt F}

/-- A check that holds is passed. -/
theorem step_assume {Γ : Asrt F} {P : Prop} {dec : Decidable P}
    {k : PLift P → Prog (TpuEff nD τ sig (Elt F) Λ₀ (thr d L).2) α} (h : P)
    (H : Γ ⊢ wp frame (wpE (defs₀ (F := F)) 𝒱₀ (thr d L) none) Set.univ (k ⟨h⟩) Q) :
    Γ ⊢ wp frame (wpE (defs₀ (F := F)) 𝒱₀ (thr d L) none) Set.univ (Prog.lift (.assume P dec) >>= k) Q := by
  change _ ⊢ wp _ _ _ (.op (.assume P dec) k) _
  rw [wp_assume_of _ _ _ _ h]
  exact H

theorem read_mT (f : Vec F S40064 .f32) :
    (mT.access (.whole S40064)).read (Elt F) (f : Buf (Elt F) (mT.view.loc (thr d L))) = f :=
  Memref.read_access_whole (Elt F) cc0_scratch0 f

/-- The check ahead of a gather of step `c` of group `4 t + u` is passed: what it asks is that the positions gathered
    from lie in the table. -/
theorem step_assume_gather {t u c : ℕ} (hc : c < 8) {P : Prop} {dec : Decidable P}
    {k : PLift P → Prog (TpuEff nD τ sig (Elt F) Λ₀ (thr d L).2) α}
    (hP : (∀ (a : Fin 1) (x : S16.Idx),
      ((![gvec v3 v5 (xgrp xs (4 * t + u)) c] : Fin 1 → IVec S16 32) a x).toNat < S40064.size a) → P)
    (H : mid d L 1 slot tab v3 v5 xs ((4 * t + u) * 8 + c) ⊢ wp frame (wpE (defs₀ (F := F)) 𝒱₀ (thr d L) none) Set.univ
      (k ⟨hP (gvec_inb v3 v5 _ hc)⟩) Q) :
    mid d L 0 slot tab v3 v5 xs ((4 * t + u) * 8 + c) ⊢ wp frame (wpE (defs₀ (F := F)) 𝒱₀ (thr d L) none) Set.univ
      (Prog.lift (.assume P dec) >>= k) Q :=
  step_assume d L (hP (gvec_inb v3 v5 _ hc)) H

/-- The check ahead of a scatter of step `c` of group `4 t + u` is passed: what it asks is that the words scattered to
    lie in the block. -/
theorem step_assume_scatter (h38 : Lanes v38) {t u c : ℕ} (ht : t < 80) (hu : u < 4) (hc : c < 8) {P : Prop} {dec : Decidable P}
    {k : PLift P → Prog (TpuEff nD τ sig (Elt F) Λ₀ (thr d L).2) α}
    (hP : (∀ (a : Fin 1) (x : S16.Idx), ((![svec v38 t u c] : Fin 1 → IVec S16 32) a x).toNat < S40960.size a) → P)
    (H : mid d L 3 slot tab v3 v5 xs ((4 * t + u) * 8 + c) ⊢ wp frame (wpE (defs₀ (F := F)) 𝒱₀ (thr d L) none) Set.univ
      (k ⟨hP (svec_inb h38 ht hu hc)⟩) Q) :
    mid d L 2 slot tab v3 v5 xs ((4 * t + u) * 8 + c) ⊢ wp frame (wpE (defs₀ (F := F)) 𝒱₀ (thr d L) none) Set.univ
      (Prog.lift (.assume P dec) >>= k) Q :=
  step_assume d L (hP (svec_inb h38 ht hu hc)) H

/-- A gather of step `c` of group `4 t + u` reads the entries that step wants. -/
theorem step_gather {t u c : ℕ} (hc : c < 8) {h hl} {k : Vec F S16 .f32 → Prog (TpuEff nD τ sig (Elt F) Λ₀ (thr d L).2) α}
    (H : mid d L 2 slot tab v3 v5 xs ((4 * t + u) * 8 + c) ⊢ wp frame (wpE (defs₀ (F := F)) 𝒱₀ (thr d L) none) Set.univ
      (k (gval tab v3 v5 xs (4 * t + u) c)) Q) :
    mid d L 1 slot tab v3 v5 xs ((4 * t + u) * 8 + c) ⊢ wp frame (wpE (defs₀ (F := F)) 𝒱₀ (thr d L) none) Set.univ
      (SparseCore.vectorLoadIdx mT ![gvec v3 v5 (xgrp xs (4 * t + u)) c] h hl >>= k) Q := by
  unfold mid at H ⊢
  iintro ⟨Ht, HR⟩
  iapply (SparseCore.wp_vectorLoadIdx 𝒱₀ (thr d L) none Set.univ (base := mT) (S := Finset.univ) (q := fullShare)
    (f := (tab : Buf (Elt F) (mT.view.loc (thr d L)))) (Finset.subset_univ _)) $$ Ht
  iintro Ht
  rw [read_mT, loadIdx_gvec tab v3 v5 xs _ hc]
  iapply H
  isplitl [Ht]
  · iexact Ht
  · iexact HR

/-- The scatter of step `c` of group `4 t + u` moves the block on by one step. -/
theorem step_scatter (h38 : Lanes v38) {t u c : ℕ} (ht : t < 80) (hu : u < 4) (hc : c < 8) {h hs}
    {k : PUnit → Prog (TpuEff nD τ sig (Elt F) Λ₀ (thr d L).2) α}
    (H : mid d L 0 slot tab v3 v5 xs ((4 * t + u) * 8 + (c + 1)) ⊢ wp frame (wpE (defs₀ (F := F)) 𝒱₀ (thr d L) none) Set.univ (k ⟨⟩) Q) :
    mid d L 3 slot tab v3 v5 xs ((4 * t + u) * 8 + c) ⊢ wp frame (wpE (defs₀ (F := F)) 𝒱₀ (thr d L) none) Set.univ
      (SparseCore.vectorStoreIdx slot ![svec v38 t u c] (gval tab v3 v5 xs (4 * t + u) c) (fun _ => 1#1) false h hs >>= k) Q := by
  unfold mid at H ⊢
  iintro ⟨Ht, Hx, %f, %hf, Hb⟩
  iapply (SparseCore.wp_vectorStoreIdx 𝒱₀ (thr d L) none Set.univ) $$ Hb
  iintro Hb
  iapply H
  isplitl [Ht]; · iexact Ht
  isplitl [Hx]; · iexact Hx
  iexists _
  isplitr; rotate_left
  · iexact Hb
  · ipureintro
    unfold blk
    rw [View.read_write_univ]
    exact hf.step h38 ht hu hc h

theorem readAt_xgrp {off : Fin 1 → ℕ} {g : ℕ} (hg : g < 320) (hoff : off = ![g * 16]) (inb) :
    mX.view.readAt (Elt F) (Rect.unit (s := S5120) off S16.size inb).toLoadRect xs = xgrp xs g := by
  subst hoff
  funext x
  have hl : (x 0).val < 16 := (x 0).isLt
  show xs _ = xs _
  congr 1
  funext a
  obtain rfl := Fin.eq_zero a
  apply Fin.ext
  show g * 16 + 1 * (x 0).val = (g * 16 + (x 0).val) % 5120
  omega

/-- A load at word `16 (4 t + u)` reads the input words of group `4 t + u`. -/
theorem step_load {t u : ℕ} (ht : t < 80) (hu : u < 4) {off : Fin 1 → ℕ} (hoff : off = ![(4 * t + u) * 16]) {inb hl}
    {k : Vec F S16 .f32 → Prog (TpuEff nD τ sig (Elt F) Λ₀ (thr d L).2) α}
    (H : mid d L 0 slot tab v3 v5 xs ((4 * t + u) * 8 + 0) ⊢ wp frame (wpE (defs₀ (F := F)) 𝒱₀ (thr d L) none) Set.univ
      (k (xgrp xs (4 * t + u))) Q) :
    mid d L 0 slot tab v3 v5 xs ((4 * t + u) * 8 + 0) ⊢ wp frame (wpE (defs₀ (F := F)) 𝒱₀ (thr d L) none) Set.univ
      (Prog.lift (.load mX (Rect.unit (s := S5120) off S16.size inb).toLoadRect hl) >>= k) Q := by
  change _ ⊢ wp _ _ _ (.op (.load mX (Rect.unit (s := S5120) off S16.size inb).toLoadRect hl) k) _
  rw [← readAt_xgrp (F := F) (xs := xs) (by omega) hoff inb] at H
  unfold mid at H ⊢
  iintro ⟨Ht, Hx, HR⟩
  iapply (wp_load 𝒱₀ (thr d L) none Set.univ (S := Finset.univ) (q := fullShare) (m := mX)
    (f := (xs : Buf (Elt F) (mX.view.loc (thr d L)))) (Finset.subset_univ _)) $$ Hx
  iintro Hx
  iapply H
  isplitl [Ht]; · iexact Ht
  isplitl [Hx]; · iexact Hx
  iexact HR

/-- The same from the end of the group before. -/
theorem step_load_next {t u : ℕ} (ht : t < 80) (hu : u + 1 < 4) {off : Fin 1 → ℕ} (hoff : off = ![(4 * t + (u + 1)) * 16]) {inb hl}
    {k : Vec F S16 .f32 → Prog (TpuEff nD τ sig (Elt F) Λ₀ (thr d L).2) α}
    (H : mid d L 0 slot tab v3 v5 xs ((4 * t + (u + 1)) * 8 + 0) ⊢ wp frame (wpE (defs₀ (F := F)) 𝒱₀ (thr d L) none) Set.univ
      (k (xgrp xs (4 * t + (u + 1)))) Q) :
    mid d L 0 slot tab v3 v5 xs ((4 * t + u) * 8 + 8) ⊢ wp frame (wpE (defs₀ (F := F)) 𝒱₀ (thr d L) none) Set.univ
      (Prog.lift (.load mX (Rect.unit (s := S5120) off S16.size inb).toLoadRect hl) >>= k) Q := by
  rw [show (4 * t + u) * 8 + 8 = (4 * t + (u + 1)) * 8 + 0 by omega]
  exact step_load d L ht hu hoff H

/-- A program that returns is done. -/
theorem step_pure {Γ : Asrt F} {a : α} (H : Γ ⊢ Q a) :
    Γ ⊢ wp frame (wpE (defs₀ (F := F)) 𝒱₀ (thr d L) none) Set.univ (pure a) Q := by
  rw [wp_pure]; exact H.trans BI.fupd_intro

/-- A program in two parts is walked part by part. -/
theorem step_bind {β : Type} {Γ : Asrt F} {p : Prog (TpuEff nD τ sig (Elt F) Λ₀ (thr d L).2) β}
    {k : β → Prog (TpuEff nD τ sig (Elt F) Λ₀ (thr d L).2) α}
    (H : Γ ⊢ wp frame (wpE (defs₀ (F := F)) 𝒱₀ (thr d L) none) Set.univ p
      fun a => wp frame (wpE (defs₀ (F := F)) 𝒱₀ (thr d L) none) Set.univ (k a) Q) :
    Γ ⊢ wp frame (wpE (defs₀ (F := F)) 𝒱₀ (thr d L) none) Set.univ (p >>= k) Q := by
  rw [wp_bind]; exact H

end Cert.Proof.KernelIdeal
-- ==== Proof.Ideal.Args.lean ====
/-
  The operands the body table passes to a tile, applied to a generated function of them.
-/
module

public import proofs.«01_k».proof.Proof.Ideal.Base

@[expose] public section

noncomputable section

namespace Cert.Proof.KernelIdeal

open Cert.KernelIdeal Cert.KernelIdeal.Gen
open Idealize.ShloMosaic

/-- The body's memrefs and semaphores, applied to a generated function of them. -/
abbrev args {β : Sort*} (f : (arg2 : Memref sig .scVector .hbm S6400000 .f32) → arg2.IsWhole →
    (arg3 : Memref sig .scVector .hbm S40064 .f32) → arg3.IsWhole → (arg4 : Memref sig .scVector .hbm S8x16 .f32) → arg4.IsWhole →
    (arg5 : Memref sig .scVector .hbm S2x16 .f32) → arg5.IsWhole → (arg6 : Memref sig .scVector .hbm S51200000 .f32) → arg6.IsWhole →
    (arg7 : Memref sig .scVector .vmem S40064 .f32) → arg7.IsWhole → (arg8 : Memref sig .scVector .vmem S5120 .f32) → arg8.IsWhole →
    (arg9 : Memref sig .scVector .vmem S2x40960 .f32) → arg9.IsWhole → (arg10 : Memref sig .scVector .vmem S8x16 .f32) → arg10.IsWhole →
    (arg11 : Memref sig .scVector .vmem S2x16 .f32) → arg11.IsWhole → (arg12 arg13 arg14 arg15 v90_r0 v90_r1 v90_r2 v128_r3 v128_r4 v128_r5 v128_r6 : DmaSems sig S_) → β) : β :=
  f (Memref.whole main_arg0_scv) (Memref.isWhole_whole _) (Memref.whole main_v2_scv) (Memref.isWhole_whole _)
    (Memref.whole main_v12_scv) (Memref.isWhole_whole _) (Memref.whole main_v10_scv) (Memref.isWhole_whole _)
    (Memref.whole main_v13_scv) (Memref.isWhole_whole _) mT (Memref.isWhole_whole _) mX (Memref.isWhole_whole _)
    mO (Memref.isWhole_whole _) mW (Memref.isWhole_whole _) mP (Memref.isWhole_whole _)
    cc0_scratch5 cc0_scratch6 cc0_scratch7 cc0_scratch8 cc0_scoped0 cc0_scoped1 cc0_scoped2 cc0_scoped3 cc0_scoped4 cc0_scoped5 cc0_scoped6

end Cert.Proof.KernelIdeal
-- ==== Proof.Ideal.Control.lean ====
/-
  Which blocks a tile takes and in what order: the trip counts, branch conditions and copy offsets of the outer loop,
  as plain numbers.
-/
module

public import proofs.«01_k».proof.Proof.Ideal.Args

@[expose] public section

noncomputable section

namespace Cert.Proof.KernelIdeal

open Cert.KernelIdeal Cert.KernelIdeal.Gen
open Idealize.ShloMosaic

/-- The tile's number, 0 to 31. -/
def widN (L : grid0.Coords) : ℕ := (L 1).val * 2 + (L 0).val

theorem widN_lt (L : grid0.Coords) : widN L < 32 := by
  have h1 : (L 1).val < 16 := (L 1).isLt
  have h0 : (L 0).val < 2 := (L 0).isLt
  unfold widN; omega

/-- How many blocks of the parity `ρ` the tile takes: 20, or 19 of the odd ones for the tiles from the third on. -/
def cnt (L : grid0.Coords) (ρ : ℕ) : ℕ := if ρ = 0 then 20 else if widN L < 2 then 20 else 19

/-- The `k`-th block of parity `ρ` the tile takes, among all 1250. -/
def gb (L : grid0.Coords) (ρ k : ℕ) : ℕ := widN L + (2 * k + ρ) * 32

theorem gb_lt (L : grid0.Coords) {ρ k : ℕ} (hρ : ρ < 2) (hk : k < cnt L ρ) : gb L ρ k < 1250 := by
  have := widN_lt L
  unfold cnt at hk; unfold gb
  split at hk
  · omega
  · split at hk <;> omega

theorem trips9 : ∀ L : grid0.Coords, (k0_t9_loop L).trips = 20 := by decide +kernel
theorem trips12 : ∀ L : grid0.Coords, (k0_t12_loop L).trips = 0 := by decide +kernel

theorem cond1 : ∀ (L : grid0.Coords) (t : Fin (k0_t9_loop L).trips), k0_cond1 L t = 1#1 := by decide +kernel
theorem cond2 : ∀ (L : grid0.Coords) (t : Fin (k0_t9_loop L).trips), k0_cond2 L t = 1#1 ↔ 1 ≤ t.val := by decide +kernel
theorem cond3 : ∀ (L : grid0.Coords) (t : Fin (k0_t9_loop L).trips), k0_cond3 L t = 1#1 ↔ t.val < cnt L 1 := by decide +kernel
theorem cond4 : ∀ (L : grid0.Coords) (t : Fin (k0_t9_loop L).trips), k0_cond4 L t = 1#1 ↔ 1 ≤ t.val := by decide +kernel

theorem off9 : ∀ (L : grid0.Coords) (t : Fin (k0_t9_loop L).trips), k0_off9 L t = ![gb L 0 t.val * 5120] := by decide +kernel
theorem off16 : ∀ (L : grid0.Coords) (t : Fin (k0_t9_loop L).trips), k0_off16 L t = ![gb L 1 t.val * 5120] := by decide +kernel
theorem off15a : ∀ (L : grid0.Coords) (t : Fin (k0_t9_loop L).trips), k0_off15 L t 0#32 = ![(2 * gb L 0 t.val + 0) * 20480] := by decide +kernel
theorem off15b : ∀ (L : grid0.Coords) (t : Fin (k0_t9_loop L).trips), k0_off15 L t 20480#32 = ![(2 * gb L 0 t.val + 1) * 20480] := by decide +kernel
theorem off22a : ∀ (L : grid0.Coords) (t : Fin (k0_t9_loop L).trips), k0_off22 L t 0#32 = ![(2 * gb L 1 t.val + 0) * 20480] := by decide +kernel
theorem off22b : ∀ (L : grid0.Coords) (t : Fin (k0_t9_loop L).trips), k0_off22 L t 20480#32 = ![(2 * gb L 1 t.val + 1) * 20480] := by decide +kernel

end Cert.Proof.KernelIdeal
-- ==== Proof.Ideal.Out.lean ====
/-
  What a tile writes: the result array's value, and the pieces it goes out in. A block of 40960 words goes out as two
  chunks of 20480, one from each half of an output block.
-/
module

public import proofs.«01_k».proof.Proof.Ideal.Steps
public import proofs.«01_k».proof.Proof.Ideal.Control

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

/-- The input and the result as a tile reads and writes them. -/
abbrev sX : Memref sig .scVector .hbm S6400000 .f32 := Memref.whole main_arg0_scv
abbrev sO : Memref sig .scVector .hbm S51200000 .f32 := Memref.whole main_v13_scv

/-- Members of a one-axis rectangle. -/
theorem mem_unit {N n : ℕ} {off : Fin 1 → ℕ} {o : ℕ} (hoff : off = ![o]) (inb) (p : (⟨1, ![N]⟩ : Shape).Idx) :
    p ∈ (Rect.unit (s := ⟨1, ![N]⟩) off ![n] inb).set ↔ o ≤ (p 0).val ∧ (p 0).val < o + n := by
  subst hoff
  rw [← Rect.map_emb_univ]
  constructor
  · intro h
    obtain ⟨x, -, rfl⟩ := Finset.mem_map.mp h
    have hx : (x 0).val < n := (x 0).isLt
    show o ≤ o + 1 * (x 0).val ∧ o + 1 * (x 0).val < o + n
    omega
  · intro ⟨h1, h2⟩
    refine Finset.mem_map.mpr ⟨fun a => ⟨(p 0).val - o, ?_⟩, Finset.mem_univ _, ?_⟩
    · obtain rfl := Fin.eq_zero a
      show (p 0).val - o < n
      omega
    · funext a
      obtain rfl := Fin.eq_zero a
      apply Fin.ext
      show o + 1 * ((p 0).val - o) = (p 0).val
      omega

/-- Words `20480 j` to `20480 (j + 1)` of the result. -/
def chunk (j : ℕ) : Finset S51200000.Idx := Finset.univ.filter fun p => j * 20480 ≤ (p 0).val ∧ (p 0).val < j * 20480 + 20480

/-- Words `40960 b` to `40960 (b + 1)` of the result. -/
def blkSet (b : ℕ) : Finset S51200000.Idx := Finset.univ.filter fun p => b * 40960 ≤ (p 0).val ∧ (p 0).val < b * 40960 + 40960

theorem mem_chunk {j : ℕ} {p : S51200000.Idx} : p ∈ chunk j ↔ j * 20480 ≤ (p 0).val ∧ (p 0).val < j * 20480 + 20480 := by
  unfold chunk; rw [Finset.mem_filter]; exact ⟨fun h => h.2, fun h => ⟨Finset.mem_univ _, h⟩⟩

theorem mem_blkSet {b : ℕ} {p : S51200000.Idx} : p ∈ blkSet b ↔ b * 40960 ≤ (p 0).val ∧ (p 0).val < b * 40960 + 40960 := by
  unfold blkSet; rw [Finset.mem_filter]; exact ⟨fun h => h.2, fun h => ⟨Finset.mem_univ _, h⟩⟩

/-- A block is its two chunks. -/
theorem blkSet_eq (b : ℕ) : blkSet b = chunk (2 * b + 0) ∪ chunk (2 * b + 1) := by
  ext p; rw [Finset.mem_union, mem_blkSet, mem_chunk, mem_chunk]; omega

theorem chunk_disjoint (b : ℕ) : Disjoint (chunk (2 * b + 0)) (chunk (2 * b + 1)) := by
  rw [Finset.disjoint_left]; intro p h h'; rw [mem_chunk] at h h'; omega

/-- Different blocks have no word in common. -/
theorem blkSet_disjoint {b b' : ℕ} (h : b ≠ b') : Disjoint (blkSet b) (blkSet b') := by
  rw [Finset.disjoint_left]; intro p hp hp'; rw [mem_blkSet] at hp hp'; omega

/-- The words a slice of the result covers. -/
theorem set_out {off : Fin 1 → ℕ} {j : ℕ} (hoff : off = ![j * 20480]) {inb h} :
    (sO.slice (Rect.unit (s := S51200000) off S20480.size inb) h).view.set = chunk j := by
  refine (View.set_slice_whole _ _).trans ?_
  ext p; rw [mem_chunk]; exact mem_unit hoff inb p

section Halves

/-- The two halves of an output block. -/
abbrev half0 (slot : Memref sig .scVector .vmem S40960 .f32) : Memref sig .scVector .vmem S20480 .f32 :=
  slot.slice (Rect.unit (s := S40960) ![0] S20480.size inb_S40960_S20480_0) (fun _ => rfl)
abbrev half1 (slot : Memref sig .scVector .vmem S40960 .f32) : Memref sig .scVector .vmem S20480 .f32 :=
  slot.slice (Rect.unit (s := S40960) ![20480] S20480.size inb_S40960_S20480_20480) (fun _ => rfl)

/-- An output block is its two halves. -/
theorem slot_set (slot : Memref sig .scVector .vmem S40960 .f32) :
    (slot.access (.whole S40960)).set = (half0 slot).view.set ∪ (half1 slot).view.set := by
  have h : ((Rect.whole S40960).set : Finset S40960.Idx) = (Rect.unit (s := S40960) ![0] S20480.size inb_S40960_S20480_0).set
      ∪ (Rect.unit (s := S40960) ![20480] S20480.size inb_S40960_S20480_20480).set := by
    rw [Rect.set_whole]
    ext p
    have hp : (p 0).val < 40960 := (p 0).isLt
    rw [Finset.mem_union]
    refine ⟨fun _ => ?_, fun _ => Finset.mem_univ _⟩
    by_cases hlt : (p 0).val < 20480
    · exact Or.inl ((mem_unit (o := 0) rfl _ p).mpr ⟨Nat.zero_le _, by omega⟩)
    · exact Or.inr ((mem_unit (o := 20480) rfl _ p).mpr ⟨by omega, by omega⟩)
  refine (View.set_slice _ _).trans ?_
  refine (congrArg (fun X => X.map slot.view.emb) h).trans ?_
  rw [Finset.map_union]
  exact congrArg₂ _ (View.set_slice _ _).symm (View.set_slice _ _).symm

theorem half_disjoint (slot : Memref sig .scVector .vmem S40960 .f32) : Disjoint (half0 slot).view.set (half1 slot).view.set := by
  have h : Disjoint (Rect.unit (s := S40960) ![0] S20480.size inb_S40960_S20480_0).set
      (Rect.unit (s := S40960) ![20480] S20480.size inb_S40960_S20480_20480).set := by
    rw [Finset.disjoint_left]
    intro p h h'
    have h1 := (mem_unit (o := 0) rfl _ p).mp h
    have h2 := (mem_unit (o := 20480) rfl _ p).mp h'
    omega
  have h' := (Finset.disjoint_map slot.view.emb).mpr h
  rw [← View.set_slice, ← View.set_slice] at h'
  exact h'

end Halves

variable {F : FTy → Type} [FloatOps F]

/-- The input words of block `b`. -/
def xblk (x : Vec F S6400000 .f32) (b : ℕ) : Vec F S5120 .f32 := fun p => x (pt 6400000 (b * 5120 + (p 0).val))

/-- The result: word `P` lies in block `P / 40960` and is that block's word `P % 40960`. -/
def outv (tab : Vec F S40064 .f32) (v3 v5 : Vec F S16 .f32) (x : Vec F S6400000 .f32) : Vec F S51200000 .f32 := fun P =>
  tgt tab v3 v5 (xblk x ((P 0).val / 40960)) ((P 0).val % 40960)

theorem read_xblk (x : Vec F S6400000 .f32) {off : Fin 1 → ℕ} {b : ℕ} (hb : b < 1250) (hoff : off = ![b * 5120]) {inb h} :
    (sX.slice (Rect.unit (s := S6400000) off S5120.size inb) h).view.read (Elt F) x = xblk x b := by
  subst hoff
  funext p
  have hp : (p 0).val < 5120 := (p 0).isLt
  show x _ = x _
  congr 1
  funext a
  obtain rfl := Fin.eq_zero a
  apply Fin.ext
  show b * 5120 + 1 * (p 0).val = (b * 5120 + (p 0).val) % 6400000
  omega

variable (d : Dev nD) (L : grid0.Coords) {slot : Memref sig .scVector .vmem S40960 .f32} {tab : Vec F S40064 .f32}
  {v3 v5 : Vec F S16 .f32} {x : Vec F S6400000 .f32}

/-- A chunk written from the half of a finished block holds the result there. -/
theorem write_chunk {f : Buf (Elt F) ((slot.access (.whole S40960)).loc (thr d L))} {b h : ℕ} (hb : b < 1250) (hh : h < 2)
    (hf : Good tab v3 v5 (xblk x b) 2560 (blk d L slot f)) {off : Fin 1 → ℕ} (hoff : off = ![(2 * b + h) * 20480]) {inb hs}
    {offs : Fin 1 → ℕ} (hoffs : offs = ![h * 20480]) {inb' hs'} (g : Vec F S51200000 .f32) :
    ∀ p ∈ chunk (2 * b + h), (sO.slice (Rect.unit (s := S51200000) off S20480.size inb) hs).view.write (Elt F) g
      ((slot.slice (Rect.unit (s := S40960) offs S20480.size inb') hs').view.read (Elt F) f) Finset.univ p = outv tab v3 v5 x p := by
  subst hoff hoffs
  intro p hp
  rw [mem_chunk] at hp
  have hp51 : (p 0).val < 51200000 := (p 0).isLt
  have hx : (sO.slice (Rect.unit (s := S51200000) ![(2 * b + h) * 20480] S20480.size inb) hs).view.emb (pt 20480 ((p 0).val - (2 * b + h) * 20480)) = p := by
    funext a
    obtain rfl := Fin.eq_zero a
    apply Fin.ext
    show (2 * b + h) * 20480 + 1 * (((p 0).val - (2 * b + h) * 20480) % 20480) = (p 0).val
    omega
  have hw := View.write_emb_of_mem (v := (sO.slice (Rect.unit (s := S51200000) ![(2 * b + h) * 20480] S20480.size inb) hs).view) (Val := Elt F)
    g ((slot.slice (Rect.unit (s := S40960) ![h * 20480] S20480.size inb') hs').view.read (Elt F) f)
    (M := Finset.univ) (x := pt 20480 ((p 0).val - (2 * b + h) * 20480)) (Finset.mem_univ _)
  rw [hx] at hw
  refine hw.trans ?_
  have hr : (slot.slice (Rect.unit (s := S40960) ![h * 20480] S20480.size inb') hs').view.read (Elt F) f
      (pt 20480 ((p 0).val - (2 * b + h) * 20480)) = blk d L slot f (pt 40960 ((p 0).val - b * 40960)) := by
    have he : (Rect.unit (s := S40960) ![h * 20480] S20480.size inb').emb (pt 20480 ((p 0).val - (2 * b + h) * 20480))
        = (Rect.whole S40960).emb (pt 40960 ((p 0).val - b * 40960)) := by
      funext a
      obtain rfl := Fin.eq_zero a
      apply Fin.ext
      show h * 20480 + 1 * (((p 0).val - (2 * b + h) * 20480) % 20480) = 0 + 1 * (((p 0).val - b * 40960) % 40960)
      omega
    exact (congrArg (slot.view.read (Elt F) f) he)
  refine (congrArg _ hr).trans ?_
  rw [hf.all]
  show tgt tab v3 v5 (xblk x b) (((p 0).val - b * 40960) % 40960) = tgt tab v3 v5 (xblk x ((p 0).val / 40960)) ((p 0).val % 40960)
  rw [show ((p 0).val - b * 40960) % 40960 = (p 0).val % 40960 by omega, show (p 0).val / 40960 = b by omega]

end Cert.Proof.KernelIdeal
-- ==== Proof.Ideal.Copy.lean ====
/-
  The kernel's local copies: issuing one, waiting for one, and a copy waited for at once. `Wts` is what a tile needs
  to be allowed to wait, and what it has waited for.
-/
module

public import proofs.«01_k».proof.Proof.Ideal.Steps
public import Idealize.ShloMosaic.Lib.Transfers

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- The tile may wait whatever it owes, and has waited for what it had at the start and for copies of its own. -/
def Wts (O : CellTallies nD τ sig (HIx 1)) (W : Waits sig (HIx 1)) : Asrt F :=
  iprop(Transfers.MayWaits (thr d L) none O ∗ ∃ W', ⌜∀ p ∈ W', p ∈ W ∨ p.2 = none⌝ ∗ owes (thr d L) O W')

/-- A copy in flight on a semaphore of the tile, which will deliver `X`. -/
abbrev Fly (sm : DmaSem sig) (N : ℕ) (X : Asrt F) : Asrt F := Transfers.Flight countersEmb (thr d L) (.dma sm) (none : HIx 1) N X

/-- A semaphore of the tile at zero. -/
abbrev sem0 (sm : DmaSem sig) : Asrt F := semVal (thr d L, SemLoc.dma sm) 0

variable {O : CellTallies nD τ sig (HIx 1)} {W : Waits sig (HIx 1)} {α : Type} {Q : α → Asrt F}
  {sp sp' : Space} {s : Shape} {e : EltTy}

/-- Issuing a copy: the source and the destination are given up until its wait. -/
theorem step_issue {src : Memref sig .scVector sp s e} {dst : Memref sig .scVector sp' s e} {sm : DmaSem sig}
    {hsrc hdst hsem} {k : PUnit → Prog (TpuEff nD τ sig (Elt F) Λ₀ (thr d L).2) α} {q : PosShare TreeShare}
    {fs : Buf (Elt F) (src.view.loc (thr d L))} {Sd : Finset (Idx (dst.view.loc (thr d L)))} {fd : Buf (Elt F) (dst.view.loc (thr d L))}
    (hs : 0 < s.numel) (hSd : dst.view.set ⊆ Sd) :
    iprop((src.view.loc (thr d L) ↦[src.view.set]{q} fs) ∗ (dst.view.loc (thr d L) ↦[Sd]{fullShare} fd) ∗ sem0 d L sm)
      ⊢ iprop((Fly d L sm dst.view.dmaCredit
          iprop((dst.view.loc (thr d L) ↦[Sd]{fullShare} (dst.view.write (Elt F) fd (src.view.read (Elt F) fs) Finset.univ))
            ∗ (src.view.loc (thr d L) ↦[src.view.set]{q} fs))
          -∗ wp frame (wpE (defs₀ (F := F)) 𝒱₀ (thr d L) none) Set.univ (k ⟨⟩) Q)
        -∗ wp frame (wpE (defs₀ (F := F)) 𝒱₀ (thr d L) none) Set.univ
          (Prog.lift (.enqueueDma src (.here dst) (.dma sm) hsrc hdst hsem) >>= k) Q) := by
  iintro ⟨Hs, Hd, Hv⟩ Hk
  iapply (Transfers.wp_dmaLocal countersEmb 𝒱₀ (thr d L) none (none : HIx 1) dst.view.dmaCredit rfl (dst.view.dmaCredit_pos hs) hSd) $$ [Hs Hd Hv]
  · iframe
  iintro Hf
  iapply Hk
  iexact Hf

/-- Waiting for a copy: what it delivers is held. -/
theorem step_wait {srcw : Memref sig .scVector sp s e} {dstw : Memref sig .scVector sp' s e} {sm : DmaSem sig} {hsrc hdst}
    {k : PUnit → Prog (TpuEff nD τ sig (Elt F) Λ₀ (thr d L).2) α} {N : ℕ} (hN : dstw.view.dmaCredit = N) {X : Asrt F} :
    iprop(Wts d L O W ∗ Fly d L sm N X)
      ⊢ iprop((iprop(Wts d L O W ∗ X ∗ sem0 d L sm) -∗ wp frame (wpE (defs₀ (F := F)) 𝒱₀ (thr d L) none) Set.univ (k ⟨⟩) Q)
        -∗ wp frame (wpE (defs₀ (F := F)) 𝒱₀ (thr d L) none) Set.univ (Prog.lift (.waitDma2 sm srcw dstw hsrc hdst) >>= k) Q) := by
  unfold Wts
  iintro ⟨⟨#Hmw, %W', %hW', HO⟩, Hf⟩ Hk
  iapply (Transfers.wp_waitLocalO countersEmb 𝒱₀ (thr d L) none (none : HIx 1) hN) $$ [Hf HO]
  · isplitl [Hf]; · iexact Hf
    isplitl [HO]; · iexact HO
    iapply (Transfers.MayWaits.elim (SemLoc.dma sm)) $$ Hmw
  iintro ⟨HX, Hv, HO⟩
  iapply Hk
  isplitl [HO]
  · isplitr; · iexact Hmw
    iexists _
    isplitr; rotate_left
    · iexact HO
    · ipureintro
      intro p hp
      rcases Finset.mem_insert.mp hp with rfl | hp
      · exact Or.inr rfl
      · exact hW' p hp
  iframe

/-- A copy issued and waited for at once. -/
theorem step_copy {src : Memref sig .scVector sp s e} {dst : Memref sig .scVector sp' s e} {sm : DmaSem sig}
    {hsrc hdst hsem hsrc' hdst'} {k : PUnit → Prog (TpuEff nD τ sig (Elt F) Λ₀ (thr d L).2) α} {q : PosShare TreeShare}
    {fs : Buf (Elt F) (src.view.loc (thr d L))} {Sd : Finset (Idx (dst.view.loc (thr d L)))} {fd : Buf (Elt F) (dst.view.loc (thr d L))}
    (hs : 0 < s.numel) (hSd : dst.view.set ⊆ Sd) :
    iprop(Wts d L O W ∗ (src.view.loc (thr d L) ↦[src.view.set]{q} fs) ∗ (dst.view.loc (thr d L) ↦[Sd]{fullShare} fd) ∗ sem0 d L sm)
      ⊢ iprop((iprop(Wts d L O W
            ∗ (dst.view.loc (thr d L) ↦[Sd]{fullShare} (dst.view.write (Elt F) fd (src.view.read (Elt F) fs) Finset.univ))
            ∗ (src.view.loc (thr d L) ↦[src.view.set]{q} fs) ∗ sem0 d L sm)
          -∗ wp frame (wpE (defs₀ (F := F)) 𝒱₀ (thr d L) none) Set.univ (k ⟨⟩) Q)
        -∗ wp frame (wpE (defs₀ (F := F)) 𝒱₀ (thr d L) none) Set.univ
          (Prog.lift (.enqueueDma src (.here dst) (.dma sm) hsrc hdst hsem) >>= fun _ =>
            Prog.lift (.waitDma2 sm src dst hsrc' hdst') >>= k) Q) := by
  iintro ⟨Hw, Hs, Hd, Hv⟩ Hk
  iapply (step_issue d L hs hSd) $$ [Hs Hd Hv]
  · iframe
  iintro Hf
  iapply (step_wait d L rfl) $$ [Hw Hf]
  · iframe
  iintro ⟨Hw, ⟨Hd, Hs⟩, Hv⟩
  iapply Hk
  iframe

/-- A copy of one whole array to another, waited for at once: the second then holds what the first does. -/
theorem step_copy_whole (src : Memref sig .scVector sp s e)
    (dst : Memref sig .scVector sp' s e) (hsrcU : src.view.set = Finset.univ) (hdstU : dst.view.set = Finset.univ)
    {sm : DmaSem sig} {hsrc hdst hsem hsrc' hdst'} {k : PUnit → Prog (TpuEff nD τ sig (Elt F) Λ₀ (thr d L).2) α} {q : PosShare TreeShare}
    {fs : Buf (Elt F) (src.view.loc (thr d L))} {g : Buf (Elt F) (dst.view.loc (thr d L))}
    (hg : ∀ fd : Buf (Elt F) (dst.view.loc (thr d L)), dst.view.write (Elt F) fd (src.view.read (Elt F) fs) Finset.univ = g)
    (hs : 0 < s.numel) :
    iprop(Wts d L O W ∗ (src.view.loc (thr d L) ↦{q} fs) ∗ (∃ fd, dst.view.loc (thr d L) ↦{fullShare} fd) ∗ sem0 d L sm)
      ⊢ iprop((iprop(Wts d L O W ∗ (src.view.loc (thr d L) ↦{q} fs) ∗ (dst.view.loc (thr d L) ↦{fullShare} g) ∗ sem0 d L sm)
          -∗ wp frame (wpE (defs₀ (F := F)) 𝒱₀ (thr d L) none) Set.univ (k ⟨⟩) Q)
        -∗ wp frame (wpE (defs₀ (F := F)) 𝒱₀ (thr d L) none) Set.univ
          (Prog.lift (.enqueueDma src (.here dst) (.dma sm) hsrc hdst hsem) >>= fun _ =>
            Prog.lift (.waitDma2 sm src dst hsrc' hdst') >>= k) Q) := by
  iintro ⟨Hw, Hs, ⟨%fd, Hd⟩, Hv⟩ Hk
  ihave Hs' := (Entails.of_eq (show (src.view.loc (thr d L) ↦{q} fs : Asrt F) = src.view.loc (thr d L) ↦[src.view.set]{q} fs by rw [hsrcU])) $$ Hs
  iapply (step_copy d L (Sd := Finset.univ) hs (Finset.subset_univ _)) $$ [Hw Hs' Hd Hv]
  · iframe
  iintro ⟨Hw, Hd, Hs, Hv⟩
  iapply Hk
  rw [hg fd, hsrcU]
  iframe

end Cert.Proof.KernelIdeal
-- ==== Proof.Ideal.Block.lean ====
/-
  What a tile does with one block: the input words fetched, the output block's previous copies waited for, the block
  filled, its two halves sent off. Each step is stated once, for either output block (`slot`), with its two semaphores
  (`sa`, `sb`) and for the `k`-th block of its parity `ρ`.
-/
module

public import proofs.«01_k».proof.Proof.Ideal.Out
public import proofs.«01_k».proof.Proof.Ideal.Copy
public import Idealize.SL.BI.BigOpNat

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- The words `S` of the result held with values `v`. -/
abbrev oPts (S : Finset S51200000.Idx) (v : Vec F S51200000 .f32) : Asrt F :=
  sO.view.loc (thr d L) ↦[(S : Finset (Idx (sO.view.loc (thr d L))))]{fullShare} (v : Buf (Elt F) (sO.view.loc (thr d L)))

/-- What a half block's copy counts on its semaphore. -/
abbrev credit : ℕ := (sO.slice (Rect.unit (s := S51200000) ![0] S20480.size inb_S51200000_S20480_0) (fun _ => rfl)).view.dmaCredit

section Parity

variable (slot : Memref sig .scVector .vmem S40960 .f32) (sa sb : DmaSem sig) (ρ J : ℕ) (vN vI : Vec F S51200000 .f32)

/-- Either half of an output block held with contents `f`. -/
abbrev h0Pts (f : Buf (Elt F) (slot.view.loc (thr d L))) : Asrt F :=
  (half0 slot).view.loc (thr d L) ↦[(half0 slot).view.set]{fullShare} f
abbrev h1Pts (f : Buf (Elt F) (slot.view.loc (thr d L))) : Asrt F :=
  (half1 slot).view.loc (thr d L) ↦[(half1 slot).view.set]{fullShare} f

/-- Both copies of the finished block `b` under way: each will deliver its chunk of the result and its half back. -/
def busy (b : ℕ) : Asrt F :=
  iprop(∃ f, Fly d L sa credit iprop(oPts d L (chunk (2 * b + 0)) vN ∗ h0Pts d L slot f)
    ∗ Fly d L sb credit iprop(oPts d L (chunk (2 * b + 1)) vN ∗ h1Pts d L slot f))

/-- The output block and its semaphores at rest. -/
def free : Asrt F := iprop((∃ f, blkPts d L slot f) ∗ sem0 d L sa ∗ sem0 d L sb)

/-- The first `k` blocks of the parity written, those from `k` on untouched. -/
def outs (k k' : ℕ) : Asrt F :=
  iprop(bigSep (Finset.range k) (fun j => oPts d L (blkSet (gb L ρ j)) vN)
    ∗ bigSep (Finset.Ico k' J) (fun j => oPts d L (blkSet (gb L ρ j)) vI))

/-- The output block after `k` blocks of its parity: at rest if there were none, else sending off the last one. -/
def par : ℕ → Asrt F
  | 0 => iprop(free d L slot sa sb ∗ outs d L ρ J vN vI 0 0)
  | k + 1 => iprop(busy d L slot sa sb vN (gb L ρ k) ∗ outs d L ρ J vN vI k (k + 1))

variable {slot} {O : CellTallies nD τ sig (HIx 1)} {W : Waits sig (HIx 1)} {α : Type} {Q : α → Asrt F}

/-- Two halves with the same contents are an output block. -/
theorem halves (f : Buf (Elt F) (slot.view.loc (thr d L))) :
    (blkPts d L slot f : Asrt F) ⊣⊢ iprop(h0Pts d L slot f ∗ h1Pts d L slot f) := by
  have h := pointsTo_union (Name := ℕ) (U := UU) (Lvl := ℕ) (Ix := HIx 1) (Val := Elt F) (ℓ := slot.view.loc (thr d L)) (q := fullShare) (f := f) (half_disjoint slot)
  rw [← slot_set slot] at h
  exact h

/-- Two chunks with the same contents are a block of the result. -/
theorem chunks (b : ℕ) (v : Vec F S51200000 .f32) :
    (oPts d L (blkSet b) v : Asrt F) ⊣⊢ iprop(oPts d L (chunk (2 * b + 0)) v ∗ oPts d L (chunk (2 * b + 1)) v) := by
  have h := pointsTo_union (Name := ℕ) (U := UU) (Lvl := ℕ) (Ix := HIx 1) (Val := Elt F) (ℓ := sO.view.loc (thr d L)) (q := fullShare)
    (f := (v : Buf (Elt F) (sO.view.loc (thr d L)))) (chunk_disjoint b)
  rw [← blkSet_eq b] at h
  exact h

/-- Waiting for both copies of the last block leaves the output block at rest and that block of the result written. -/
theorem step_drain (k : ℕ) {s0 s1 : Memref sig .scVector .vmem S20480 .f32} {o0 o1 : Fin 1 → ℕ} {i0 i1 g0 g1 p0 p1 q0 q1}
    {kk : PUnit → Prog (TpuEff nD τ sig (Elt F) Λ₀ (thr d L).2) α} :
    iprop(Wts d L O W ∗ par d L slot sa sb ρ J vN vI (k + 1))
      ⊢ iprop((iprop(Wts d L O W ∗ free d L slot sa sb ∗ outs d L ρ J vN vI (k + 1) (k + 1))
          -∗ wp frame (wpE (defs₀ (F := F)) 𝒱₀ (thr d L) none) Set.univ (kk ⟨⟩) Q)
        -∗ wp frame (wpE (defs₀ (F := F)) 𝒱₀ (thr d L) none) Set.univ
          (Prog.lift (.waitDma2 sa s0 (sO.slice (Rect.unit (s := S51200000) o0 S20480.size i0) g0) p0 q0) >>= fun _ =>
            Prog.lift (.waitDma2 sb s1 (sO.slice (Rect.unit (s := S51200000) o1 S20480.size i1) g1) p1 q1) >>= kk) Q) := by
  unfold par busy
  iintro ⟨Hw, ⟨%f, Ha, Hb⟩, Ho⟩ Hk
  iapply (step_wait d L (dstw := sO.slice (Rect.unit (s := S51200000) o0 S20480.size i0) g0) (N := credit) rfl) $$ [Hw Ha]
  · iframe
  iintro ⟨Hw, ⟨Hc0, Hh0⟩, Hsa⟩
  iapply (step_wait d L (dstw := sO.slice (Rect.unit (s := S51200000) o1 S20480.size i1) g1) (N := credit) rfl) $$ [Hw Hb]
  · iframe
  iintro ⟨Hw, ⟨Hc1, Hh1⟩, Hsb⟩
  iapply Hk
  ihave Hblk := (halves d L f).2 $$ [Hh0 Hh1]
  · iframe
  ihave Hc := (chunks d L (gb L ρ k) vN).2 $$ [Hc0 Hc1]
  · iframe
  unfold outs free
  rw [bigSep_range_succ]
  icases Ho with ⟨Hd, Ht⟩
  iframe
  iexists f
  iexact Hblk

/-- A finished block and its share of the result, taken apart for the two copies. -/
theorem issue_split {k : ℕ} (hk : k < J) (f : Buf (Elt F) (slot.view.loc (thr d L))) :
    iprop(blkPts d L slot f ∗ outs d L ρ J vN vI k k)
      ⊢ iprop(h0Pts d L slot f ∗ h1Pts d L slot f ∗ oPts d L (chunk (2 * gb L ρ k + 0)) vI ∗ oPts d L (chunk (2 * gb L ρ k + 1)) vI
          ∗ outs d L ρ J vN vI k (k + 1)) := by
  unfold outs
  rw [bigSep_Ico_succ_bot hk]
  iintro ⟨Hb, Hd, Hc, Ht⟩
  ihave Hb' := (halves d L f).1 $$ Hb
  icases Hb' with ⟨Hh0, Hh1⟩
  ihave Hc' := (chunks d L (gb L ρ k) vI).1 $$ Hc
  icases Hc' with ⟨Hc0, Hc1⟩
  iframe

/-- Sending off a half of a finished block. -/
theorem step_send {tab : Vec F S40064 .f32} {v3 v5 : Vec F S16 .f32} {x : Vec F S6400000 .f32} {b h : ℕ} (hb : b < 1250) (hh : h < 2)
    {f : Buf (Elt F) ((slot.access (.whole S40960)).loc (thr d L))} (hf : Good tab v3 v5 (xblk x b) 2560 (blk d L slot f))
    {off : Fin 1 → ℕ} (hoff : off = ![(2 * b + h) * 20480]) {inb hs} {offs : Fin 1 → ℕ} (hoffs : offs = ![h * 20480]) {inb' hs'}
    {sm : DmaSem sig} {hsrc hdst hsem} {kk : PUnit → Prog (TpuEff nD τ sig (Elt F) Λ₀ (thr d L).2) α} :
    iprop(((slot.slice (Rect.unit (s := S40960) offs S20480.size inb') hs').view.loc (thr d L)
          ↦[(slot.slice (Rect.unit (s := S40960) offs S20480.size inb') hs').view.set]{fullShare} f)
        ∗ oPts d L (chunk (2 * b + h)) vI ∗ sem0 d L sm)
      ⊢ iprop((Fly d L sm credit iprop(oPts d L (chunk (2 * b + h)) (outv tab v3 v5 x)
            ∗ ((slot.slice (Rect.unit (s := S40960) offs S20480.size inb') hs').view.loc (thr d L)
              ↦[(slot.slice (Rect.unit (s := S40960) offs S20480.size inb') hs').view.set]{fullShare} f))
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma (slot.slice (Rect.unit (s := S40960) offs S20480.size inb') hs')
            (.here (sO.slice (Rect.unit (s := S51200000) off S20480.size inb) hs)) (.dma sm) hsrc hdst hsem) >>= kk) Q) := by
  iintro ⟨Hh, Hc, Hs⟩ Hk
  iapply (step_issue d L (dst := sO.slice (Rect.unit (s := S51200000) off S20480.size inb) hs) (Sd := chunk (2 * b + h)) (show 0 < S20480.numel by decide)
    (set_out hoff).subset) $$ [Hh Hc Hs]
  · iframe
  iintro Hf
  iapply Hk
  iapply (Transfers.Flight_mono countersEmb (thr d L) (sep_mono_left (Entails.of_eq (pointsTo_congr
    (write_chunk d L hb hh hf hoff (hs := hs) (inb := inb) hoffs (inb' := inb') (hs' := hs') vI))))) $$ Hf

end Parity

/-- The input block held with some contents. -/
abbrev xAny : Asrt F := iprop(∃ f, mX.view.loc (thr d L) ↦{fullShare} f)

/-- Fetching the input words of block `b`, out of a read share of the whole input. -/
theorem step_fetch {O : CellTallies nD τ sig (HIx 1)} {W : Waits sig (HIx 1)} {α : Type} {Q : α → Asrt F}
    {q : PosShare TreeShare} {x : Vec F S6400000 .f32} {off : Fin 1 → ℕ} {b : ℕ} (hb : b < 1250) (hoff : off = ![b * 5120])
    {inb hs inb' hs'} {sm : DmaSem sig} {hsrc hdst hsem hsrc' hdst'} {kk : PUnit → Prog (TpuEff nD τ sig (Elt F) Λ₀ (thr d L).2) α} :
    iprop(Wts d L O W ∗ (sX.view.loc (thr d L) ↦{q} (x : Buf (Elt F) (sX.view.loc (thr d L)))) ∗ xAny d L ∗ sem0 d L sm)
      ⊢ iprop((iprop(Wts d L O W ∗ (sX.view.loc (thr d L) ↦{q} (x : Buf (Elt F) (sX.view.loc (thr d L))))
            ∗ (mX.view.loc (thr d L) ↦{fullShare} (xblk x b : Buf (Elt F) (mX.view.loc (thr d L)))) ∗ sem0 d L sm)
          -∗ wp frame (wpE (defs₀ (F := F)) 𝒱₀ (thr d L) none) Set.univ (kk ⟨⟩) Q)
        -∗ wp frame (wpE (defs₀ (F := F)) 𝒱₀ (thr d L) none) Set.univ
          (Prog.lift (.enqueueDma (sX.slice (Rect.unit (s := S6400000) off S5120.size inb) hs) (.here mX) (.dma sm) hsrc hdst hsem) >>= fun _ =>
            Prog.lift (.waitDma2 sm (sX.slice (Rect.unit (s := S6400000) off S5120.size inb') hs') mX hsrc' hdst') >>= kk) Q) := by
  iintro ⟨Hw, Hx, ⟨%fd, Hm⟩, Hs⟩ Hk
  have hx := pointsTo_split_subset (Name := ℕ) (U := UU) (Lvl := ℕ) (Ix := HIx 1) (Val := Elt F) (ℓ := sX.view.loc (thr d L)) (q := q)
    (f := (x : Buf (Elt F) (sX.view.loc (thr d L)))) (S := Finset.univ) (I := (sX.slice (Rect.unit (s := S6400000) off S5120.size inb) hs).view.set)
    (Finset.subset_univ _)
  ihave Hx' := hx.1 $$ Hx
  icases Hx' with ⟨Hxs, Hxr⟩
  iapply (step_copy d L (src := sX.slice (Rect.unit (s := S6400000) off S5120.size inb) hs) (Sd := Finset.univ) (show 0 < S5120.numel by decide) (Finset.subset_univ _)) $$ [Hw Hxs Hm Hs]
  · iframe
  iintro ⟨Hw, Hm, Hxs, Hs⟩
  iapply Hk
  ihave Hx := hx.2 $$ [Hxs Hxr]
  · isplitl [Hxs] <;> iassumption
  ihave Hm' := (Entails.of_eq (show (mX.view.loc (thr d L) ↦{fullShare} _ : Asrt F)
      = mX.view.loc (thr d L) ↦{fullShare} (xblk x b : Buf (Elt F) (mX.view.loc (thr d L))) by
    rw [read_xblk x hb hoff]; exact congrArg _ (View.write_whole_univ _ _ _))) $$ Hm
  iframe

/-- Filling an output block: 80 trips, each carrying it on by four groups of input words. -/
theorem step_fill {slot : Memref sig .scVector .vmem S40960 .f32} {tab : Vec F S40064 .f32} {v3 v5 : Vec F S16 .f32} {xs : Vec F S5120 .f32}
    {lb ub st : BitVec 32} (hok : Scf.OK lb ub st) (htr : Scf.trips lb ub st = 80)
    {body : Fin (Scf.trips lb ub st) → BitVec 32 → Prog (TpuEff nD τ sig (Elt F) Λ₀ (thr d L).2) (BitVec 32)}
    (hbody : ∀ (k : Fin (Scf.trips lb ub st)) (acc : BitVec 32), mid d L 0 slot tab v3 v5 xs ((4 * k.val + 0) * 8 + 0)
      ⊢ wp frame (wpE (defs₀ (F := F)) 𝒱₀ (thr d L) none) Set.univ (body k acc)
        fun _ => mid d L 0 slot tab v3 v5 xs ((4 * (k.val + 1) + 0) * 8 + 0))
    {α : Type} {Q : α → Asrt F} {init : BitVec 32} {kk : BitVec 32 → Prog (TpuEff nD τ sig (Elt F) Λ₀ (thr d L).2) α} :
    iprop((mT.view.loc (thr d L) ↦{fullShare} (tab : Buf (Elt F) (mT.view.loc (thr d L))))
        ∗ (mX.view.loc (thr d L) ↦{fullShare} (xs : Buf (Elt F) (mX.view.loc (thr d L)))) ∗ ∃ f, blkPts d L slot f)
      ⊢ iprop((∀ acc, iprop((mT.view.loc (thr d L) ↦{fullShare} (tab : Buf (Elt F) (mT.view.loc (thr d L))))
            ∗ (mX.view.loc (thr d L) ↦{fullShare} (xs : Buf (Elt F) (mX.view.loc (thr d L))))
            ∗ ∃ f, ⌜Good tab v3 v5 xs 2560 (blk d L slot f)⌝ ∗ blkPts d L slot f)
          -∗ wp frame (wpE (defs₀ (F := F)) 𝒱₀ (thr d L) none) Set.univ (kk acc) Q)
        -∗ wp frame (wpE (defs₀ (F := F)) 𝒱₀ (thr d L) none) Set.univ (Scf.for lb ub st hok init body >>= kk) Q) := by
  have h := Scf.wp_for_bind frame (wpE (defs₀ (F := F)) 𝒱₀ (thr d L) none) Set.univ lb ub st hok init body
    (fun k _ => mid d L 0 slot tab v3 v5 xs ((4 * k + 0) * 8 + 0)) hbody (kk := kk) (Q := Q)
  rw [htr] at h
  unfold mid at h
  iintro ⟨Ht, Hx, %f, Hb⟩ Hk
  iapply h $$ [Ht Hx Hb]
  · iframe
    iexists f
    isplitr
    · ipureintro; exact Good.zero _ _ _ _ _
    iexact Hb
  iexact Hk

end Cert.Proof.KernelIdeal
-- ==== Proof.Ideal.Deal.lean ====
/-
  What the two SparseCores' thirty-two tiles are handed of the program's arrays: read shares of the input words, the
  table, the weights and the parameters, and the blocks of the result each tile writes.
-/
module

public import proofs.«01_k».proof.Proof.Ideal.Block

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD)

/-- The arrays the call reads and writes, as the program holds them. -/
abbrev xLoc : Loc nD τ sig := (SparseCore.T d).loc main_arg0
abbrev tLoc : Loc nD τ sig := (SparseCore.T d).loc main_v2
abbrev wLoc : Loc nD τ sig := (SparseCore.T d).loc main_v12
abbrev pLoc : Loc nD τ sig := (SparseCore.T d).loc main_v10
abbrev oLoc : Loc nD τ sig := (SparseCore.T d).loc main_v13

/-- The words of the result that tile `w` writes: every thirty-second block, from the `w`-th on. -/
def tileSet (w : ℕ) : Finset S51200000.Idx := Finset.univ.filter fun p => (p 0).val / 40960 % 32 = w

theorem mem_tileSet {w : ℕ} {p : S51200000.Idx} : p ∈ tileSet w ↔ (p 0).val / 40960 % 32 = w := by simp [tileSet]

/-- The blocks of one parity that a tile writes. -/
def parSet (L : grid0.Coords) (ρ : ℕ) : Finset S51200000.Idx := (Finset.range (cnt L ρ)).biUnion fun k => blkSet (gb L ρ k)

theorem mem_parSet {L : grid0.Coords} {ρ : ℕ} (hρ : ρ < 2) {p : S51200000.Idx} :
    p ∈ parSet L ρ ↔ (p 0).val / 40960 % 32 = widN L ∧ (p 0).val / 40960 / 32 % 2 = ρ := by
  have hp : (p 0).val < 51200000 := (p 0).isLt
  have hw := widN_lt L
  simp only [parSet, Finset.mem_biUnion, Finset.mem_range, mem_blkSet, gb]
  constructor
  · rintro ⟨k, hk, h⟩; omega
  · rintro ⟨h1, h2⟩
    refine ⟨(p 0).val / 40960 / 64, ?_, by omega⟩
    unfold cnt; split
    · omega
    · split <;> omega

theorem tileSet_eq (L : grid0.Coords) : tileSet (widN L) = parSet L 0 ∪ parSet L 1 := by
  ext p; rw [Finset.mem_union, mem_tileSet, mem_parSet (by decide), mem_parSet (by decide)]; omega

theorem parSet_disjoint (L : grid0.Coords) : Disjoint (parSet L 0) (parSet L 1) :=
  Finset.disjoint_left.mpr fun p h0 h1 => by
    rw [mem_parSet (by decide)] at h0 h1; omega

theorem gb_injective (L : grid0.Coords) (ρ : ℕ) {j k : ℕ} (h : j ≠ k) : gb L ρ j ≠ gb L ρ k := by unfold gb; omega

/-- A tile's words of the result, block by block. -/
theorem tile_blocks (L : grid0.Coords) (v : Vec F S51200000 .f32) :
    (oPts d L (tileSet (widN L)) v : Asrt F)
      = iprop(bigSep (Finset.range (cnt L 0)) (fun j => oPts d L (blkSet (gb L 0 j)) v)
          ∗ bigSep (Finset.range (cnt L 1)) fun j => oPts d L (blkSet (gb L 1 j)) v) := by
  have h (ρ : ℕ) : (oPts d L (parSet L ρ) v : Asrt F) = bigSep (Finset.range (cnt L ρ)) fun j => oPts d L (blkSet (gb L ρ j)) v :=
    pointsTo_biUnion (ℓ := sO.view.loc (thr d L)) (Finset.range (cnt L ρ)) (fun j => blkSet (gb L ρ j))
      fun j _ k _ hjk => blkSet_disjoint (gb_injective L ρ hjk)
  have hu := pointsTo_union (Name := ℕ) (U := UU) (Lvl := ℕ) (Ix := HIx 1) (Val := Elt F) (ℓ := sO.view.loc (thr d L)) (q := fullShare)
    (f := (v : Buf (Elt F) (sO.view.loc (thr d L)))) (parSet_disjoint L)
  rw [tileSet_eq]
  refine (Entails.antisymm hu.1 hu.2).trans ?_
  exact congrArg₂ (fun a b : Asrt F => iprop(a ∗ b)) (h 0) (h 1)

/-- The read share of a tile: its SparseCore's share dealt among that SparseCore's tiles. -/
def share (c : Fin 2) (i : Fin 16) : PosShare TreeShare :=
  Transfers.dealOf (Transfers.dealOf fullShare (Finset.univ : Finset (Fin 2)) c) (Finset.univ : Finset (Fin 16)) i

/-- A whole array is its thirty-two read shares. -/
theorem deal_reads (ℓ : Loc nD τ sig) (f : Buf (Elt F) ℓ) :
    (ℓ ↦{fullShare} f : Asrt F) = bigSep Finset.univ fun c : Fin 2 => bigSep Finset.univ fun i : Fin 16 => ℓ ↦{share c i} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-- The result as its thirty-two tiles' words. -/
theorem deal_out (v : Vec F S51200000 .f32) :
    (oLoc d ↦{fullShare} (v : Buf (Elt F) (oLoc d)) : Asrt F)
      = bigSep Finset.univ fun c : Fin 2 => bigSep Finset.univ fun i : Fin 16 =>
          oLoc d ↦[(tileSet (i.val * 2 + c.val) : Finset (Idx (oLoc d)))]{fullShare}
            (v : Buf (Elt F) (oLoc d)) := by
  have h (c : Fin 2) := pointsTo_biUnion (Name := ℕ) (U := UU) (Lvl := ℕ) (Ix := HIx 1) (Val := Elt F) (ℓ := oLoc d) (q := fullShare)
    (f := (v : Buf (Elt F) (oLoc d))) (Finset.univ : Finset (Fin 16)) (fun i => tileSet (i.val * 2 + c.val))
    fun i _ j _ hij => Finset.disjoint_left.mpr fun p h0 h1 => hij (by rw [mem_tileSet] at h0 h1; exact Fin.ext (by omega))
  have h' := pointsTo_biUnion (Name := ℕ) (U := UU) (Lvl := ℕ) (Ix := HIx 1) (Val := Elt F) (ℓ := oLoc d) (q := fullShare)
    (f := (v : Buf (Elt F) (oLoc d))) (Finset.univ : Finset (Fin 2))
    (fun c => (Finset.univ : Finset (Fin 16)).biUnion fun i => tileSet (i.val * 2 + c.val))
    fun c _ c' _ hc => Finset.disjoint_left.mpr fun p h0 h1 => hc (by
      simp only [Finset.mem_biUnion] at h0 h1
      obtain ⟨i, -, hi⟩ := h0; obtain ⟨j, -, hj⟩ := h1
      have e : i.val * 2 + c.val = j.val * 2 + c'.val := (mem_tileSet.mp hi).symm.trans (mem_tileSet.mp hj)
      exact Fin.ext (by omega))
  have hu : (Finset.univ : Finset (Fin 2)).biUnion (fun c => (Finset.univ : Finset (Fin 16)).biUnion fun i => tileSet (i.val * 2 + c.val)) = Finset.univ := by
    ext p
    simp only [Finset.mem_biUnion, mem_tileSet, Finset.mem_univ, iff_true]
    exact ⟨⟨(p 0).val / 40960 % 32 % 2, by omega⟩, trivial, ⟨(p 0).val / 40960 % 32 / 2, by omega⟩, trivial, by
      show (p 0).val / 40960 % 32 = (p 0).val / 40960 % 32 / 2 * 2 + (p 0).val / 40960 % 32 % 2; omega⟩
  rw [hu] at h'
  refine h'.trans (bigSep_congr fun c _ => h c)

end Cert.Proof.KernelIdeal
-- ==== Proof.Ideal.Host.lean ====
/-
  The program's host operations, as the lines before and after the SparseCore call.
-/
module

public import proofs.«01_k».proof.Proof.Gen.KernelIdeal
public import Idealize.ShloMosaic.Lib.StableHlo.Run
public import Idealize.ShloMosaic.Lib.Pipeline.Frame

@[expose] public section

noncomputable section

namespace Cert.Proof.KernelIdeal

open Cert.KernelIdeal Cert.KernelIdeal.Gen
open Idealize.ShloMosaic Idealize.ShloMosaic.TcCoe
open Idealize.ShloMosaic.StableHlo

variable {F : FTy → Type} [FloatOps F]

/-- The operations before the call: they lay out the table, the weights and the two rows of parameters. -/
abbrev opsPre : List (HloOp τ sig (Elt F)) :=
  [ unary main_arg2 main_v0 ((transpose S8x5000 [1, 0] · transposes_S5000x8_S8x5000_1_0) : (⟨S5000x8, .f32⟩ : BufTy).Contents (Elt F) → (⟨S8x5000, .f32⟩ : BufTy).Contents (Elt F)),
    nullary main_c (constantI S_ 32 0#32),
    unary main_c main_call0_v0 (sitofp .f32 : (⟨S_, .i32⟩ : BufTy).Contents (Elt F) → (⟨S_, .f32⟩ : BufTy).Contents (Elt F)),
    binary main_v0 main_call0_v0 main_v1 ((fun x v => pad S8x5008 ![0, 0] ![0, 8] ![0, 0] x v pads_S8x5000_S8x5008_000_080 h_S_) : (⟨S8x5000, .f32⟩ : BufTy).Contents (Elt F) → (⟨S_, .f32⟩ : BufTy).Contents (Elt F) → (⟨S8x5008, .f32⟩ : BufTy).Contents (Elt F)),
    reshape main_v1 main_v2 (rfl : (.f32 : EltTy) = .f32) shapeCasts_S8x5008_S40064,
    unary main_arg3 main_v3 ((extractStridedSlice S1 ![4999] · slices_S5000_S1_4999) : (⟨S5000, .f32⟩ : BufTy).Contents (Elt F) → (⟨S1, .f32⟩ : BufTy).Contents (Elt F)),
    reshape main_v3 main_v4 (rfl : (.f32 : EltTy) = .f32) shapeCasts_S1_S_,
    nullary main_cst (constant S_ .f32 0x459C3800#32),
    binary main_cst main_v4 main_v5 (Host.divf : (⟨S_, .f32⟩ : BufTy).Contents (Elt F) → (⟨S_, .f32⟩ : BufTy).Contents (Elt F) → (⟨S_, .f32⟩ : BufTy).Contents (Elt F)),
    unary main_v4 main_v6 (broadcastInDim S16 ![] bcast_S_S16 : (⟨S_, .f32⟩ : BufTy).Contents (Elt F) → (⟨S16, .f32⟩ : BufTy).Contents (Elt F)),
    unary main_v5 main_v7 (broadcastInDim S16 ![] bcast_S_S16 : (⟨S_, .f32⟩ : BufTy).Contents (Elt F) → (⟨S16, .f32⟩ : BufTy).Contents (Elt F)),
    unary main_v6 main_v8 (broadcastInDim S1x16 ![1] bcast_S16_S1x16_1 : (⟨S16, .f32⟩ : BufTy).Contents (Elt F) → (⟨S1x16, .f32⟩ : BufTy).Contents (Elt F)),
    unary main_v7 main_v9 (broadcastInDim S1x16 ![1] bcast_S16_S1x16_1 : (⟨S16, .f32⟩ : BufTy).Contents (Elt F) → (⟨S1x16, .f32⟩ : BufTy).Contents (Elt F)),
    binary main_v8 main_v9 main_v10 ((fun a b => concatenate S2x16 0 [⟨S1x16, a⟩, ⟨S1x16, b⟩] concatenates_S1x16_S1x16_S2x16_d0) : (⟨S1x16, .f32⟩ : BufTy).Contents (Elt F) → (⟨S1x16, .f32⟩ : BufTy).Contents (Elt F) → (⟨S2x16, .f32⟩ : BufTy).Contents (Elt F)),
    unary main_arg1 main_v11 (broadcastInDim S8x1 ![0] bcast_S8_S8x1_0 : (⟨S8, .f32⟩ : BufTy).Contents (Elt F) → (⟨S8x1, .f32⟩ : BufTy).Contents (Elt F)),
    unary main_v11 main_v12 (broadcastInDim S8x16 ![0, 1] bcast_S8x1_S8x16_0_1 : (⟨S8x1, .f32⟩ : BufTy).Contents (Elt F) → (⟨S8x16, .f32⟩ : BufTy).Contents (Elt F)) ]

/-- The operations after the call: the call's result put in the order of the program's. -/
abbrev opsPost : List (HloOp τ sig (Elt F)) :=
  [ reshape main_v13 main_v14 (rfl : (.f32 : EltTy) = .f32) shapeCasts_S51200000_S50000x8x128,
    unary main_v14 main_v15 ((transpose S50000x128x8 [0, 2, 1] · transposes_S50000x8x128_S50000x128x8_0_2_1) : (⟨S50000x8x128, .f32⟩ : BufTy).Contents (Elt F) → (⟨S50000x128x8, .f32⟩ : BufTy).Contents (Elt F)),
    reshape main_v15 main_v16 (rfl : (.f32 : EltTy) = .f32) shapeCasts_S50000x128x8_S6400000x8 ]

/-- The program is those lines around the call. -/
theorem main_eq (d : Dev nD) : main (F := F) d = seq opsPre >>= fun _ => sc.run d 0 >>= fun _ => seq opsPost := rfl

theorem opsPre_sub : (opsPre : List (HloOp τ sig (Elt F))).Forall fun op => op.bufs ⊆ tcRefs τ sig :=
  ⟨unary_bufs_sub .., nullary_bufs_sub .., unary_bufs_sub .., binary_bufs_sub .., reshape_bufs_sub .., unary_bufs_sub .., reshape_bufs_sub ..,
    nullary_bufs_sub .., binary_bufs_sub .., unary_bufs_sub .., unary_bufs_sub .., unary_bufs_sub .., unary_bufs_sub .., binary_bufs_sub ..,
    unary_bufs_sub .., unary_bufs_sub ..⟩

theorem opsPost_sub : (opsPost : List (HloOp τ sig (Elt F))).Forall fun op => op.bufs ⊆ tcRefs τ sig :=
  ⟨reshape_bufs_sub .., unary_bufs_sub .., reshape_bufs_sub ..⟩

theorem opsPre_fresh : ∀ op ∈ (opsPre : List (HloOp τ sig (Elt F))), op.fresh = ∅ := by
  intro _ h; (repeat (cases h with | head => rfl | tail _ h => ?_)); exact nomatch h
theorem opsPost_fresh : ∀ op ∈ (opsPost : List (HloOp τ sig (Elt F))), op.fresh = ∅ := by
  intro _ h; (repeat (cases h with | head => rfl | tail _ h => ?_)); exact nomatch h

end Cert.Proof.KernelIdeal
-- ==== Proof.Ideal.Scale.lean ====
/-
  The scaling of the table in place. Eight loops of 313 trips multiply the table's 8 columns by their weights, sixteen
  words at a time: one statement `scale_loop` covers all eight, over the table with its first `g` groups of sixteen
  words scaled.
-/
module

public import proofs.«01_k».proof.Proof.Ideal.Steps
public import Idealize.ShloMosaic.Lib.Pipeline.Value

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

section Values

variable {F : FTy → Type} [FloatOps F]

/-- The index of row `a`, column `b` of the broadcast weights. -/
def wix (a b : ℕ) : S8x16.Idx := Fin.cons ⟨a % 8, Nat.mod_lt _ (by decide)⟩
  (Fin.cons ⟨b % 16, Nat.mod_lt _ (by decide)⟩ (fun i => i.elim0))

/-- The index of row `a`, column `b` of the broadcast parameters. -/
def pix (a b : ℕ) : S2x16.Idx := Fin.cons ⟨a % 2, Nat.mod_lt _ (by decide)⟩
  (Fin.cons ⟨b % 16, Nat.mod_lt _ (by decide)⟩ (fun i => i.elim0))

/-- Word `p` of the table times its weight: column `p / 5008` has the weight of that row. -/
def tabS (tab : Vec F S40064 .f32) (w : Vec F S8x16 .f32) : Vec F S40064 .f32 := fun p =>
  FloatOps.mulf (tab p) (w (wix ((p 0).val / 5008) ((p 0).val % 16)))

/-- The table with its first `g` groups of sixteen words scaled. -/
def scaled (tab : Vec F S40064 .f32) (w : Vec F S8x16 .f32) (g : ℕ) : Vec F S40064 .f32 := fun p =>
  if (p 0).val < g * 16 then tabS tab w p else tab p

theorem scaled_zero (tab : Vec F S40064 .f32) (w : Vec F S8x16 .f32) : scaled tab w 0 = tab := by
  funext p; unfold scaled; rw [if_neg (by omega)]

theorem scaled_all (tab : Vec F S40064 .f32) (w : Vec F S8x16 .f32) : scaled tab w 2504 = tabS tab w := by
  funext p
  have : (p 0).val < 40064 := (p 0).isLt
  unfold scaled; rw [if_pos (by omega)]

/-- Row `c` of the broadcast weights, as a load of one row reads it. -/
def wrow (w : Vec F S8x16 .f32) (c : ℕ) : Vec F S1x16 .f32 := fun x => w (wix c (x 1).val)

/-- Row `c` of the broadcast parameters, sixteen equal words. -/
def prow (P : Vec F S2x16 .f32) (c : ℕ) : Vec F S16 .f32 := fun x => P (pix c (x 0).val)

/-- What one trip stores: sixteen table words times the row of weights. -/
theorem pay_apply (w : Vec F S8x16 .f32) (c : ℕ) (v : Vec F S16 .f32) (x : S16.Idx) :
    k0_pay291 (wrow w c) v x = FloatOps.mulf (v x) (w (wix c (x 0).val)) :=
  congrArg (FloatOps.mulf (v x)) (shapeCast_dropUnit_apply ![16] (wrow w c) shapeCasts_S1x16_S16 x)

theorem pay289_row (P : Vec F S2x16 .f32) {off : Fin 2 → ℕ} {c : ℕ} (hc : c < 2) (hoff : off = ![c, 0]) (inb) :
    k0_pay289 (mP.view.readAt (Elt F) (Rect.unit (s := S2x16) off S1x16.size inb).toLoadRect P) = prow P c := by
  subst hoff
  funext x
  have hx : (x 0).val < 16 := (x 0).isLt
  refine (shapeCast_dropUnit_apply ![16] (mP.view.readAt (Elt F) (Rect.unit (s := S2x16) ![c, 0] S1x16.size inb).toLoadRect P)
    shapeCasts_S1x16_S16 x).trans ?_
  show P _ = P _
  congr 1
  funext a
  apply Fin.ext
  match a with
  | ⟨0, _⟩ => show c + 1 * 0 = c % 2; omega
  | ⟨1, _⟩ => show 0 + 1 * (x 0).val = (x 0).val % 16; omega

theorem read_wrow (w : Vec F S8x16 .f32) {off : Fin 2 → ℕ} {c : ℕ} (hc : c < 8) (hoff : off = ![c, 0]) (inb) :
    mW.view.readAt (Elt F) (Rect.unit (s := S8x16) off S1x16.size inb).toLoadRect w = wrow w c := by
  subst hoff
  funext x
  have hx : (x 1).val < 16 := (x 1).isLt
  have h0 : (x 0).val < 1 := (x 0).isLt
  show w _ = w _
  congr 1
  funext a
  apply Fin.ext
  match a with
  | ⟨0, _⟩ => show c + 1 * (x 0).val = c % 8; omega
  | ⟨1, _⟩ => show 0 + 1 * (x 1).val = (x 1).val % 16; omega

/-- A trip's store of sixteen scaled words scales the next group of the table. -/
theorem scaled_step (tab : Vec F S40064 .f32) (w : Vec F S8x16 .f32) {off : Fin 1 → ℕ} {c k : ℕ} (hc : c < 8) (hk : k < 313)
    (hoff : off = ![(313 * c + k) * 16]) (inb) :
    (mT.access (Rect.unit (s := S40064) off S16.size inb)).write (Elt F) (scaled tab w (313 * c + k))
      (k0_pay291 (wrow w c)
        (mT.view.readAt (Elt F) (Rect.unit (s := S40064) off S16.size inb).toLoadRect (scaled tab w (313 * c + k)))) Finset.univ
      = scaled tab w (313 * c + (k + 1)) := by
  subst hoff
  funext p
  have hp : (p 0).val < 40064 := (p 0).isLt
  by_cases h : (313 * c + k) * 16 ≤ (p 0).val ∧ (p 0).val < (313 * c + k) * 16 + 16
  · have hx : (mT.access (Rect.unit (s := S40064) ![(313 * c + k) * 16] S16.size inb)).emb (pt 16 ((p 0).val - (313 * c + k) * 16)) = p := by
      funext a
      obtain rfl := Fin.eq_zero a
      apply Fin.ext
      show (313 * c + k) * 16 + 1 * (((p 0).val - (313 * c + k) * 16) % 16) = (p 0).val
      omega
    have hw := View.write_emb_of_mem (v := mT.access (Rect.unit (s := S40064) ![(313 * c + k) * 16] S16.size inb)) (Val := Elt F)
      (scaled tab w (313 * c + k)) (k0_pay291 (wrow w c)
        (mT.view.readAt (Elt F) (Rect.unit (s := S40064) ![(313 * c + k) * 16] S16.size inb).toLoadRect (scaled tab w (313 * c + k))))
      (M := Finset.univ) (x := pt 16 ((p 0).val - (313 * c + k) * 16)) (Finset.mem_univ _)
    rw [hx] at hw
    refine hw.trans ?_
    show k0_pay291 _ _ _ = _
    rw [pay_apply]
    have hr : mT.view.readAt (Elt F) (Rect.unit (s := S40064) ![(313 * c + k) * 16] S16.size inb).toLoadRect (scaled tab w (313 * c + k))
        (pt 16 ((p 0).val - (313 * c + k) * 16)) = scaled tab w (313 * c + k) p := by
      show scaled tab w (313 * c + k) ((mT.access (Rect.unit (s := S40064) ![(313 * c + k) * 16] S16.size inb)).emb _) = _
      rw [hx]
    rw [hr]
    unfold scaled tabS
    rw [if_neg (by omega), if_pos (by omega), pt_val, show (p 0).val / 5008 = c by omega,
      show ((p 0).val - (313 * c + k) * 16) % 16 = (p 0).val % 16 by omega]
  · have hn : p ∉ (mT.access (Rect.unit (s := S40064) ![(313 * c + k) * 16] S16.size inb)).setOn Finset.univ := by
      intro hm
      obtain ⟨x, -, rfl⟩ := Finset.mem_map.mp hm
      have hx : (x 0).val < 16 := (x 0).isLt
      apply h
      show (313 * c + k) * 16 ≤ (313 * c + k) * 16 + 1 * (x 0).val ∧ (313 * c + k) * 16 + 1 * (x 0).val < (313 * c + k) * 16 + 16
      omega
    refine (View.write_of_not_mem _ _ _ hn).trans ?_
    unfold scaled
    by_cases h' : (p 0).val < (313 * c + k) * 16
    · rw [if_pos h', if_pos (by omega)]
    · rw [if_neg h', if_neg (by omega)]

end Values

variable {F : FTy → Type} [FloatOps F] (d : Dev nD) (L : grid0.Coords)

/-- The table scratch held with contents `f`. -/
abbrev tabPts (f : Vec F S40064 .f32) : Asrt F := mT.view.loc (thr d L) ↦{fullShare} (f : Buf (Elt F) (mT.view.loc (thr d L)))

/-- One trip of a scaling loop, wherever its sixteen words lie. -/
theorem scale_trip (tab : Vec F S40064 .f32) (w : Vec F S8x16 .f32) {off : Fin 1 → ℕ} {c k : ℕ} (hc : c < 8) (hk : k < 313)
    (hoff : off = ![(313 * c + k) * 16]) {inb hl hx hm} :
    tabPts d L (scaled tab w (313 * c + k)) ⊢ wp frame (wpE (defs₀ (F := F)) 𝒱₀ (thr d L) none) Set.univ
      (Prog.lift (.load mT (Rect.unit (s := S40064) off S16.size inb).toLoadRect hl) >>= fun v93 =>
        Prog.lift (.load mT (Rect.unit (s := S40064) off S16.size inb).toLoadRect hl) >>= fun _ =>
        Prog.lift (.store mT (Rect.unit (s := S40064) off S16.size inb) (k0_pay291 (wrow w c) v93) Finset.univ hx hm) >>= fun _ =>
        pure (0#32))
      fun _ => tabPts d L (scaled tab w (313 * c + (k + 1))) := by
  iintro Ht
  iapply (wp_load 𝒱₀ (thr d L) none Set.univ (S := Finset.univ) (q := fullShare) (m := mT)
    (f := (scaled tab w (313 * c + k) : Buf (Elt F) (mT.view.loc (thr d L)))) (Finset.subset_univ _)) $$ Ht
  iintro Ht
  iapply (wp_load 𝒱₀ (thr d L) none Set.univ (S := Finset.univ) (q := fullShare) (m := mT)
    (f := (scaled tab w (313 * c + k) : Buf (Elt F) (mT.view.loc (thr d L)))) (Finset.subset_univ _)) $$ Ht
  iintro Ht
  iapply (wp_store 𝒱₀ (thr d L) none Set.univ (S := Finset.univ) (m := mT)
    (r := Rect.unit (s := S40064) off S16.size inb)
    (f := (scaled tab w (313 * c + k) : Buf (Elt F) (mT.view.loc (thr d L)))) (Finset.subset_univ _)) $$ Ht
  iintro Ht
  iapply (step_pure d L (Entails.rfl))
  rw [scaled_step tab w hc hk hoff inb]
  iexact Ht

/-- A load of row `c` of the weights, and the loop that scales column `c` of the table by it. -/
theorem scale_loop (tab : Vec F S40064 .f32) (w : Vec F S8x16 .f32) {c : ℕ} (hc : c < 8) {off : Fin 2 → ℕ} (hoff : off = ![c, 0]) {inb hl}
    {lb ub st : BitVec 32} (hok : Scf.OK lb ub st) (htr : Scf.trips lb ub st = 313)
    {body : Vec F S1x16 .f32 → Fin (Scf.trips lb ub st) → BitVec 32 → Prog (TpuEff nD τ sig (Elt F) Λ₀ (thr d L).2) (BitVec 32)}
    (hbody : ∀ (k : Fin (Scf.trips lb ub st)) (acc : BitVec 32), tabPts d L (scaled tab w (313 * c + k.val))
      ⊢ wp frame (wpE (defs₀ (F := F)) 𝒱₀ (thr d L) none) Set.univ (body (wrow w c) k acc)
        fun _ => tabPts d L (scaled tab w (313 * c + (k.val + 1))))
    {α : Type} {Q : α → Asrt F} {init : BitVec 32} {kk : BitVec 32 → Prog (TpuEff nD τ sig (Elt F) Λ₀ (thr d L).2) α} :
    iprop(tabPts d L (scaled tab w (313 * c)) ∗ (mW.view.loc (thr d L) ↦{fullShare} (w : Buf (Elt F) (mW.view.loc (thr d L)))))
      ⊢ iprop((∀ acc, iprop(tabPts d L (scaled tab w (313 * (c + 1))) ∗ (mW.view.loc (thr d L) ↦{fullShare} (w : Buf (Elt F) (mW.view.loc (thr d L)))))
          -∗ wp frame (wpE (defs₀ (F := F)) 𝒱₀ (thr d L) none) Set.univ (kk acc) Q)
        -∗ wp frame (wpE (defs₀ (F := F)) 𝒱₀ (thr d L) none) Set.univ
          (Prog.lift (.load mW (Rect.unit (s := S8x16) off S1x16.size inb).toLoadRect hl) >>= fun wl =>
            Scf.for lb ub st hok init (body wl) >>= kk) Q) := by
  iintro ⟨Ht, Hw⟩ Hk
  iapply (wp_load 𝒱₀ (thr d L) none Set.univ (S := Finset.univ) (q := fullShare) (m := mW)
    (f := (w : Buf (Elt F) (mW.view.loc (thr d L)))) (Finset.subset_univ _)) $$ Hw
  iintro Hw
  rw [read_wrow w hc hoff inb]
  iapply (Scf.wp_for_bind frame (wpE (defs₀ (F := F)) 𝒱₀ (thr d L) none) Set.univ lb ub st hok init (body (wrow w c))
    (fun k _ => tabPts d L (scaled tab w (313 * c + k))) hbody) $$ Ht
  iintro %acc Ht
  iapply Hk
  rw [htr, show 313 * c + 313 = 313 * (c + 1) by omega]
  iframe

end Cert.Proof.KernelIdeal
-- ==== Proof.Ideal.Pay.lean ====
/-
  What the call's handshakes carry: to each SparseCore, and from it to each of its tiles, the tile's read shares and its
  words of the result; back, the same with those words written.
-/
module

public import proofs.«01_k».proof.Proof.Ideal.Deal
public import proofs.«01_k».proof.Proof.Ideal.Host
public import proofs.«01_k».proof.Proof.Ideal.Scale

@[expose] public section

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (after launchContents)

variable {F : FTy → Type} [FloatOps F] (m : (ℓ : Loc nD τ sig) → Buf (Elt F) ℓ) (d : Dev nD)

theorem nCore_zero : (K (F := F)).nCore 0 = 2 := rfl
theorem nSub_zero : (K (F := F)).nSub 0 = 16 := rfl

/-- The device's arrays when the call begins. -/
def atCall : Valuation τ sig (Elt F) := after opsPre (launchContents m d)

/-- The call's operands, and its result before and after. -/
def argX : Vec F S6400000 .f32 := atCall m d (Proc.devRef .tc main_arg0)
def argT : Vec F S40064 .f32 := atCall m d (Proc.devRef .tc main_v2)
def argW : Vec F S8x16 .f32 := atCall m d (Proc.devRef .tc main_v12)
def argP : Vec F S2x16 .f32 := atCall m d (Proc.devRef .tc main_v10)
def outI : Vec F S51200000 .f32 := atCall m d (Proc.devRef .tc main_v13)
def outN : Vec F S51200000 .f32 := outv (tabS (argT m d) (argW m d)) (prow (argP m d) 0) (prow (argP m d) 1) (argX m d)

/-- One tile's part of the call's arrays, the result holding `v`. -/
def tileRes (v : Vec F S51200000 .f32) (c : Fin 2) (i : Fin 16) : Asrt F :=
  iprop((xLoc d ↦{share c i} (argX m d : Buf (Elt F) (xLoc d))) ∗ (tLoc d ↦{share c i} (argT m d : Buf (Elt F) (tLoc d)))
    ∗ (wLoc d ↦{share c i} (argW m d : Buf (Elt F) (wLoc d))) ∗ (pLoc d ↦{share c i} (argP m d : Buf (Elt F) (pLoc d)))
    ∗ oLoc d ↦[(tileSet (i.val * 2 + c.val) : Finset (Idx (oLoc d)))]{fullShare} (v : Buf (Elt F) (oLoc d)))

instance tileRes_storable (v : Vec F S51200000 .f32) (c : Fin 2) (i : Fin 16) :
    BI.Storable (upEmb : UEmb _ (MT nD τ sig (HIx 1) (Elt F) ℕ UU ℕ)) (tileRes m d v c i) := by
  unfold tileRes; infer_instance

/-- The handshakes' payloads. -/
def P : (K (F := F)).Pay (nD := nD) (Val := Elt F) (Name := ℕ) (U := UU) where
  st := fun q d c => match q with | 0 => bigSep Finset.univ fun i : Fin 16 => tileRes m d (outI m d) (Fin.cast nCore_zero c) i
  dn := fun q d c => match q with | 0 => bigSep Finset.univ fun i : Fin 16 => tileRes m d (outN m d) (Fin.cast nCore_zero c) i
  go := fun q d c i => match q with | 0 => tileRes m d (outI m d) (Fin.cast nCore_zero c) (Fin.cast nSub_zero i)
  td := fun q d c i => match q with | 0 => tileRes m d (outN m d) (Fin.cast nCore_zero c) (Fin.cast nSub_zero i)
  x := fun _ _ => iprop(emp)

instance P_storable : (P (F := F) m).IsStorable where
  st q d c := match q with
    | 0 => (inferInstance : BI.Storable (upEmb : UEmb _ (MT nD τ sig (HIx 1) (Elt F) ℕ UU ℕ))
      (bigSep Finset.univ fun i : Fin 16 => tileRes m d (outI m d) (Fin.cast nCore_zero c) i))
  dn q d c := match q with
    | 0 => (inferInstance : BI.Storable (upEmb : UEmb _ (MT nD τ sig (HIx 1) (Elt F) ℕ UU ℕ))
      (bigSep Finset.univ fun i : Fin 16 => tileRes m d (outN m d) (Fin.cast nCore_zero c) i))
  go q d c i := match q with | 0 => tileRes_storable m d _ _ _
  td q d c i := match q with | 0 => tileRes_storable m d _ _ _

theorem bigSep_tasks (Φ : Fin 16 → Asrt F) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → Asrt F) :
    (bigSep Finset.univ fun c : Fin ((K (F := F)).nCore 0) => Φ (Fin.cast nCore_zero c)) = bigSep Finset.univ Φ :=
  bigSep_congr fun _ _ => congrArg Φ (Fin.ext rfl)

/-- A SparseCore's operands are its tiles', and its results theirs. -/
theorem vecSplit : (K (F := F)).VecSplit' (P m) 0 := by
  intro d c
  show (bigSep Finset.univ fun i : Fin 16 => tileRes m d (outI m d) (Fin.cast nCore_zero c) i) ⊢ |={Set.univ}=> iprop(
      (bigSep Finset.univ fun i : Fin ((K (F := F)).nSub 0) => tileRes m d (outI m d) (Fin.cast nCore_zero c) (Fin.cast nSub_zero i))
      ∗ ((bigSep Finset.univ fun i : Fin ((K (F := F)).nSub 0) => tileRes m d (outN m d) (Fin.cast nCore_zero c) (Fin.cast nSub_zero i))
          -∗ (bigSep Finset.univ fun i : Fin 16 => tileRes m d (outN m d) (Fin.cast nCore_zero c) i)))
  rw [bigSep_tasks (F := F) (fun i => tileRes m d (outI m d) (Fin.cast nCore_zero c) i),
    bigSep_tasks (F := F) (fun i => tileRes m d (outN m d) (Fin.cast nCore_zero c) i)]
  iintro H; imodintro
  isplitl [H]; · iexact H
  iintro H; iexact H

/-- The tiles' parts together are the call's five arrays. -/
theorem tiles_eq (v : Vec F S51200000 .f32) :
    (bigSep Finset.univ fun c : Fin ((K (F := F)).nCore 0) => bigSep Finset.univ fun i : Fin 16 => tileRes m d v (Fin.cast nCore_zero c) i)
      = iprop((xLoc d ↦{fullShare} (argX m d : Buf (Elt F) (xLoc d))) ∗ (tLoc d ↦{fullShare} (argT m d : Buf (Elt F) (tLoc d)))
        ∗ (wLoc d ↦{fullShare} (argW m d : Buf (Elt F) (wLoc d))) ∗ (pLoc d ↦{fullShare} (argP m d : Buf (Elt F) (pLoc d)))
        ∗ oLoc d ↦{fullShare} (v : Buf (Elt F) (oLoc d))) := by
  rw [bigSep_cores (F := F) (fun c => bigSep Finset.univ fun i : Fin 16 => tileRes m d v c i)]
  unfold tileRes
  simp only [bigSep_sep']
  rw [deal_reads (xLoc d), deal_reads (tLoc d), deal_reads (wLoc d), deal_reads (pLoc d), deal_out d v]

end Cert.Proof.KernelIdeal
-- ==== Proof.Ideal.Main.lean ====
/-
  The program's run: the lines of host operations around the call, and the launch of all threads, given what one tile's
  task does. At its end every array of the program holds what the operations, and the call, leave in it.
-/
module

public import proofs.«01_k».proof.Proof.Ideal.Pay

@[expose] public section

noncomputable section

namespace Cert.Proof.KernelIdeal

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after launchContents held wp_seq)
open Idealize.ShloMosaic.Pipeline (ucRefs unscopedBufs_held sub_ucRefs)

variable {F : FTy → Type} [FloatOps F] (m : (ℓ : Loc nD τ sig) → Buf (Elt F) ℓ) (ρ : Dev nD → PrngReg) (d : Dev nD)

/-- The device's arrays when the call has returned, and at the program's end. -/
def afterCall : Valuation τ sig (Elt F) := Function.update (atCall m d) (Proc.devRef .tc main_v13) (outN m d)
def atEnd : Valuation τ sig (Elt F) := after opsPost (afterCall m d)

/-- The five arrays the call is handed. -/
abbrev callRefs : Finset (DevRef τ sig) :=
  {Proc.devRef .tc main_arg0, Proc.devRef .tc main_v2, Proc.devRef .tc main_v12, Proc.devRef .tc main_v10, Proc.devRef .tc main_v13}

theorem callRefs_sub : callRefs ⊆ ucRefs τ sig := by decide

theorem held_callRefs (V : Valuation τ sig (Elt F)) :
    (held (T d) callRefs V : Asrt F) = iprop((xLoc d ↦{fullShare} V (Proc.devRef .tc main_arg0)) ∗ (tLoc d ↦{fullShare} V (Proc.devRef .tc main_v2))
      ∗ (wLoc d ↦{fullShare} V (Proc.devRef .tc main_v12)) ∗ (pLoc d ↦{fullShare} V (Proc.devRef .tc main_v10))
      ∗ oLoc d ↦{fullShare} V (Proc.devRef .tc main_v13)) := by
  unfold held callRefs
  rw [SparseCore.bigSep_insert' (by decide), SparseCore.bigSep_insert' (by decide), SparseCore.bigSep_insert' (by decide),
    SparseCore.bigSep_insert' (by decide), bigSep_singleton]

/-- The arrays before the call: the five handed over, and the rest. -/
theorem held_atCall :
    (held (T d) (ucRefs τ sig) (atCall m d) : Asrt F)
      = iprop((bigSep Finset.univ fun c : Fin ((K (F := F)).nCore 0) => (P m).st 0 d c) ∗ held (T d) (ucRefs τ sig \ callRefs) (atCall m d)) := by
  rw [show (held (T d) (ucRefs τ sig) (atCall m d) : Asrt F)
      = iprop(held (T d) callRefs (atCall m d) ∗ held (T d) (ucRefs τ sig \ callRefs) (atCall m d)) from bigSep_sdiff_split callRefs_sub, held_callRefs]
  exact congrArg (fun a : Asrt F => iprop(a ∗ held (T d) (ucRefs τ sig \ callRefs) (atCall m d))) (tiles_eq m d (outI m d)).symm

/-- The arrays after the call: the five handed back, the result written, and the rest as they were. -/
theorem held_afterCall :
    iprop((bigSep Finset.univ fun c : Fin ((K (F := F)).nCore 0) => (P m).dn 0 d c) ∗ held (T d) (ucRefs τ sig \ callRefs) (atCall m d))
      = (held (T d) (ucRefs τ sig) (afterCall m d) : Asrt F) := by
  have hrest : (held (T d) (ucRefs τ sig \ callRefs) (atCall m d) : Asrt F) = held (T d) (ucRefs τ sig \ callRefs) (afterCall m d) :=
    bigSep_congr fun b hb => by
      have hne : b ≠ Proc.devRef .tc main_v13 := fun e => (Finset.mem_sdiff.mp hb).2 (by rw [e]; decide)
      unfold afterCall; rw [Function.update_of_ne hne]
  rw [show (held (T d) (ucRefs τ sig) (afterCall m d) : Asrt F)
      = iprop(held (T d) callRefs (afterCall m d) ∗ held (T d) (ucRefs τ sig \ callRefs) (afterCall m d)) from bigSep_sdiff_split callRefs_sub,
    held_callRefs, hrest]
  have h0 : afterCall m d (Proc.devRef .tc main_arg0) = argX m d := Function.update_of_ne (by decide) _ _
  have h2 : afterCall m d (Proc.devRef .tc main_v2) = argT m d := Function.update_of_ne (by decide) _ _
  have h12 : afterCall m d (Proc.devRef .tc main_v12) = argW m d := Function.update_of_ne (by decide) _ _
  have h10 : afterCall m d (Proc.devRef .tc main_v10) = argP m d := Function.update_of_ne (by decide) _ _
  have h13 : afterCall m d (Proc.devRef .tc main_v13) = outN m d := Function.update_self _ _ _
  rw [h0, h2, h12, h10, h13]
  exact congrArg (fun a : Asrt F => iprop(a ∗ held (T d) (ucRefs τ sig \ callRefs) (afterCall m d))) (tiles_eq m d (outN m d))

/-- The launch's arrays, as the set the host operations hold. -/
theorem launch_held : (unscopedBufs d (fun b => m ((SparseCore.T d).loc b)) : Asrt F) = held (T d) (ucRefs τ sig) (launchContents m d) :=
  unscopedBufs_held (Ix := HIx 1) (Name := ℕ) (U := UU) (Lvl := ℕ) d (launchContents m d)

/-- The program on the device's TensorCore: the first line, the call, the second line; at its end it holds every array
    at its final contents. -/
theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) (ucRefs τ sig) (atEnd m d) ∗ (K (F := F)).tcEnd d) := by
  unfold SparseCore.Cfg.tcRes SparseCore.Cfg.tcEnd
  rw [main_eq, launch_held]
  iintro ⟨#Hctx, Hst, ⟨Hb, Hheld, Hts, -⟩, -⟩
  iapply (wp_seq 𝒱 none Set.univ d (ucRefs τ sig) _ opsPre (fun op h => sub_ucRefs op (List.forall_iff_forall_mem.mp opsPre_sub op h))
    opsPre_fresh (launchContents m d)) $$ [Hb Hheld]
  · iframe
  iintro ⟨Hb, Hheld⟩
  ihave Hh := (Entails.of_eq ((rfl : held d.tc (ucRefs τ sig) (after opsPre (launchContents m d)) = (held (T d) (ucRefs τ sig) (atCall m d) : Asrt F)).trans (held_atCall m d))) $$ Hheld
  icases Hh with ⟨Hcall, Hrest⟩
  rw [wp_bind]
  iapply ((K (F := F)).wp_run (D (F := F)) 𝒱 (EH := EH) (P := P m) κ d 0) $$ [Hst Hcall Hb Hrest Hts]
  isplitr; · iexact Hctx
  isplitl [Hst]; · iexact Hst
  isplitl [Hcall]; · iexact Hcall
  iintro ⟨Hst, Hdn⟩
  ihave Hheld := (Entails.of_eq (held_afterCall m d)) $$ [Hdn Hrest]
  · iframe
  rw [← bind_pure (StableHlo.seq opsPost)]
  iapply (wp_seq 𝒱 none Set.univ d (ucRefs τ sig) _ opsPost (fun op h => sub_ucRefs op (List.forall_iff_forall_mem.mp opsPost_sub op h))
    opsPost_fresh (afterCall m d)) $$ [Hb Hheld]
  · iframe
  iintro ⟨Hb, Hheld⟩
  rw [wp_pure]; imodintro
  isplitl [Hst]; · iexact Hst
  isplitl [Hheld]; · iexact Hheld
  isplitl [Hb] <;> iassumption

/-- What the final memory holds of the device's arrays. -/
def fq (s' : Phys nD τ sig (Elt F)) : Prop := ∀ b ∈ ucRefs τ sig, s'.mem.mem (d, b) = atEnd m d b

theorem hfin (s' : Phys nD τ sig (Elt F)) : iprop(held (T d) (ucRefs τ sig) (atEnd m d) ∗ SI s') ⊢ (⌜fq m d s'⌝ : Asrt F) := by
  unfold held
  iintro ⟨H, HSI⟩
  ihave %h := (SI_pointsTo_bufs_agree (qs := fun _ => fullShare) (ucRefs τ sig)) $$ [HSI H]
  · isplitl [HSI]; · iexact HSI
    iexact H
  ipureintro; exact h

/-- The launch element: the handshakes' cells, and the counters' unit. -/
def u₀ : UU := (initOf (K (F := F)).hsCells (K (F := F)).hsToks, 1)

theorem bigSep_emp {I : Type} (s : Finset I) : (bigSep s fun _ => iprop(emp)) = (iprop(emp) : Asrt F) := bigSep_emp_const s

theorem hu₀ : (ownU (u₀ (F := F)) : Asrt F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨Hh, -⟩
  imodintro
  isplitl [Hh]; · iexact Hh
  simp only [show (P m).x = fun _ _ => iprop(emp) from rfl, bigSep_emp]
  isplitr <;> iempintro

/-- What the run ends with: every array of every device at its final contents, and no semaphore left up. -/
def QC : PUnit × MemSt nD τ sig (Elt F) → Prop := fun r => (∀ c : Dev nD, ∀ b ∈ ucRefs τ sig, r.2.mem (c, b) = atEnd m c b) ∧ r.2.sem = fun _ => 0

/-- The program's run, given the tiles' tasks. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => htile)
    (fun q _ => match q with | 0 => SparseCore.Cfg.VecSplit.of_plain (vecSplit m))
    m ρ main (fun _ => iprop(emp)) (fun d => held (T d) (ucRefs τ sig) (atEnd m d)) (u₀ (F := F)) (sep_elim_left.trans (hu₀ m))
    (fun κ d => hmain m ρ d κ) (fq m) (hfin m) (QC m) (fun _ h hz => ⟨h, hz⟩)

end Cert.Proof.KernelIdeal
-- ==== Proof.Ideal.Own.lean ====
/-
  What a tile owns: its five scratch buffers and its semaphores out of everything that is its own, and the output
  buffer as its two blocks.
-/
module

public import proofs.«01_k».proof.Proof.Ideal.Block

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem

/-- The scratch buffers of the body, and the semaphores it uses. -/
def bufs : Finset (Ref sig .scVector) := {cc0_scratch0, cc0_scratch1, cc0_scratch2, cc0_scratch3, cc0_scratch4}
def sems : Finset (SemLoc sig) :=
  {SemLoc.dma cc0_scratch5.sem, SemLoc.dma cc0_scratch6.sem, SemLoc.dma cc0_scratch7.sem, SemLoc.dma cc0_scratch8.sem,
    SemLoc.dma cc0_scoped0.sem, SemLoc.dma cc0_scoped1.sem, SemLoc.dma cc0_scoped2.sem, SemLoc.dma cc0_scoped3.sem, SemLoc.dma cc0_scoped4.sem}

theorem sems_scoped : ∀ s ∈ sems, s.isScoped .scVector = true := by decide

theorem bufs_owner (c : Fin τ.nSC) (i : Fin τ.nSub) : ∀ b ∈ bufs, ((Proc.scVector c i).devRef b : DevRef τ sig).owner = .proc (.scVector c i) := by
  intro b hb
  simp only [bufs, Finset.mem_insert, Finset.mem_singleton] at hb
  rcases hb with rfl | rfl | rfl | rfl | rfl <;> rfl

/-- Row `h` of the output buffer. -/
theorem mem_row {off : Fin 2 → ℕ} {h : ℕ} (hoff : off = ![h, 0]) (inb) (hs) (p : S2x40960.Idx) :
    p ∈ (((mO.slice (Rect.unit (s := S2x40960) off S1x40960.size inb) hs).squeeze S40960 squeezes_S1x40960_S40960).access (.whole S40960)).set
      ↔ (p 0).val = h := by
  have e : (((mO.slice (Rect.unit (s := S2x40960) off S1x40960.size inb) hs).squeeze S40960 squeezes_S1x40960_S40960).access (.whole S40960)).set
      = (Rect.unit (s := S2x40960) off S1x40960.size inb).set := by
    refine (View.set_slice _ _).trans ?_
    rw [Rect.set_whole]
    refine (View.set_reshape _ _).trans ?_
    exact View.set_slice_whole _ _
  rw [e]
  subst hoff
  rw [← Rect.map_emb_univ]
  constructor
  · intro hp
    obtain ⟨x, -, rfl⟩ := Finset.mem_map.mp hp
    have hx : (x 0).val < 1 := (x 0).isLt
    show h + 1 * (x 0).val = h
    omega
  · intro hp
    refine Finset.mem_map.mpr ⟨fun a => ⟨match a with | 0 => 0 | 1 => (p 1).val, ?_⟩, Finset.mem_univ _, ?_⟩
    · match a with
      | 0 => exact Nat.one_pos
      | 1 => exact (p 1).isLt
    · funext a; apply Fin.ext
      match a with
      | 0 => show h + 1 * 0 = (p 0).val; omega
      | 1 => show 0 + 1 * (p 1).val = (p 1).val; omega

/-- The two rows of the output buffer make it up. -/
theorem rows_disjoint : Disjoint (slot0.access (.whole S40960)).set (slot1.access (.whole S40960)).set := by
  rw [Finset.disjoint_left]
  intro p h h'
  have h1 := (mem_row (h := 0) rfl _ _ p).mp h
  have h2 := (mem_row (h := 1) rfl _ _ p).mp h'
  omega
theorem rows_cover : (slot0.access (.whole S40960)).set ∪ (slot1.access (.whole S40960)).set = Finset.univ := by
  ext p
  have hp : (p 0).val < 2 := (p 0).isLt
  rw [Finset.mem_union]
  refine ⟨fun _ => Finset.mem_univ _, fun _ => ?_⟩
  by_cases h0 : (p 0).val = 0
  · exact Or.inl ((mem_row (h := 0) rfl _ _ p).mpr h0)
  · exact Or.inr ((mem_row (h := 1) rfl _ _ p).mpr (by omega))

variable {F : FTy → Type} [FloatOps F] (d : Dev nD) (L : grid0.Coords)

/-- A collection is a part of it, named by distinct names, and the rest. -/
theorem bigSep_part {I J : Type} [DecidableEq I] [DecidableEq J] {s : Finset I} {t : Finset J} {f : J → I} (inj : Function.Injective f)
    (sub : ∀ j ∈ t, f j ∈ s) (Φ : I → Asrt F) : bigSep s Φ = iprop(bigSep t (fun j => Φ (f j)) ∗ bigSep (s \ t.image f) Φ) := by
  rw [bigSep_sdiff_split (t := t.image f) fun x hx => by obtain ⟨j, hj, rfl⟩ := Finset.mem_image.mp hx; exact sub j hj,
    SparseCore.bigSep_image_of_injOn inj.injOn]
  rfl

/-- What is left of the tile's own semaphores and buffers. -/
def restSems : Asrt F := bigSep (ownCells (thr d L) \ sems.image fun s => (thr d L, s)) fun g => semVal g 0
def restBufs : Asrt F := bigSep (ownRefs (thr d L).2 \ bufs.image fun b => (Proc.scVector (cV L) (jV L)).devRef b) fun b =>
  iprop(∃ f, ((d, b) : Loc nD τ sig) ↦{fullShare} f)

/-- The tile's own semaphores at zero: those the body uses, and the rest. -/
theorem own_sems : (ownSems0 (thr d L) : Asrt F)
    = iprop((sem0 d L cc0_scratch5.sem ∗ sem0 d L cc0_scratch6.sem ∗ sem0 d L cc0_scratch7.sem ∗ sem0 d L cc0_scratch8.sem
        ∗ sem0 d L cc0_scoped0.sem ∗ sem0 d L cc0_scoped1.sem ∗ sem0 d L cc0_scoped2.sem ∗ sem0 d L cc0_scoped3.sem ∗ sem0 d L cc0_scoped4.sem)
      ∗ restSems d L) := by
  unfold ownSems0
  refine (bigSep_part (t := sems) (f := fun s => (thr d L, s)) (fun _ _ h => (Prod.mk.inj h).2)
    (fun s hs => mem_ownCells.mpr ⟨rfl, sems_scoped s hs⟩) _).trans ?_
  unfold restSems
  congr 1
  unfold sems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The tile's own buffers at some contents: the body's five, and the rest. -/
theorem own_bufs : (ownBufs (thr d L) : Asrt F)
    = iprop(((∃ f, mT.view.loc (thr d L) ↦{fullShare} f) ∗ (∃ f, mX.view.loc (thr d L) ↦{fullShare} f) ∗ (∃ f, mO.view.loc (thr d L) ↦{fullShare} f)
        ∗ (∃ f, mW.view.loc (thr d L) ↦{fullShare} f) ∗ (∃ f, mP.view.loc (thr d L) ↦{fullShare} f)) ∗ restBufs d L) := by
  unfold ownBufs
  refine (bigSep_part (t := bufs) (f := fun b => (Proc.scVector (cV L) (jV L)).devRef b) (fun _ _ h => Proc.devRef_injective _ h)
    (fun b hb => mem_ownRefs_of_owner (bufs_owner _ _ b hb)) _).trans ?_
  unfold restBufs
  congr 1
  unfold bufs
  rw [SparseCore.bigSep_insert' (by decide), SparseCore.bigSep_insert' (by decide), SparseCore.bigSep_insert' (by decide),
    SparseCore.bigSep_insert' (by decide), bigSep_singleton]

/-- The output buffer is its two blocks, each at some contents. -/
theorem out_rows : iprop(∃ f, mO.view.loc (thr d L) ↦{fullShare} f) ⊢ (iprop((∃ f, blkPts d L slot0 f) ∗ ∃ f, blkPts d L slot1 f) : Asrt F) := by
  iintro ⟨%f, H⟩
  have h := (pointsTo_union (Name := ℕ) (U := UU) (Lvl := ℕ) (Ix := HIx 1) (Val := Elt F) (ℓ := mO.view.loc (thr d L)) (q := fullShare) (f := f) rows_disjoint).1
  rw [rows_cover] at h
  ihave H := h $$ H
  icases H with ⟨H0, H1⟩
  isplitl [H0]
  · iexists f; iexact H0
  · iexists f; iexact H1

theorem rows_out : (iprop((∃ f, blkPts d L slot0 f) ∗ ∃ f, blkPts d L slot1 f) : Asrt F) ⊢ iprop(∃ f, mO.view.loc (thr d L) ↦{fullShare} f) := by
  iintro ⟨⟨%f, H0⟩, %g, H1⟩
  have h := pointsTo_join (Name := ℕ) (U := UU) (Lvl := ℕ) (Ix := HIx 1) (Val := Elt F) (ℓ := mO.view.loc (thr d L)) (q := fullShare) (f := f) (g := g) rows_disjoint
  rw [rows_cover] at h
  iexists _
  iapply h $$ [H0 H1]
  isplitl [H0]
  · iexact H0
  · iexact H1

end Cert.Proof.KernelIdeal
-- ==== Proof.Ideal.Trip.lean ====
/-
  One trip of the loop that fills an output block: 32 gathers and 32 scatters over four groups of sixteen input words.
  The kernel holds the same loop twice, once for each of its two blocks; the steps are those of `Steps`.
-/
module

public import proofs.«01_k».proof.Proof.Ideal.Steps
public import proofs.«01_k».proof.Proof.Ideal.Args

@[expose] public section

noncomputable section

namespace Cert.Proof.KernelIdeal

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-! Where each of a trip's four groups of input words begins, for either block. -/

theorem off11 : ∀ t : Fin k0_t10_loop.trips, k0_off11 t = ![(4 * t.val + 0) * 16] := by decide +kernel
theorem off12 : ∀ t : Fin k0_t10_loop.trips, k0_off12 t = ![(4 * t.val + (0 + 1)) * 16] := by decide +kernel
theorem off13 : ∀ t : Fin k0_t10_loop.trips, k0_off13 t = ![(4 * t.val + (0 + 1 + 1)) * 16] := by decide +kernel
theorem off14 : ∀ t : Fin k0_t10_loop.trips, k0_off14 t = ![(4 * t.val + (0 + 1 + 1 + 1)) * 16] := by decide +kernel
theorem off18 : ∀ t : Fin k0_t11_loop.trips, k0_off18 t = ![(4 * t.val + 0) * 16] := by decide +kernel
theorem off19 : ∀ t : Fin k0_t11_loop.trips, k0_off19 t = ![(4 * t.val + (0 + 1)) * 16] := by decide +kernel
theorem off20 : ∀ t : Fin k0_t11_loop.trips, k0_off20 t = ![(4 * t.val + (0 + 1 + 1)) * 16] := by decide +kernel
theorem off21 : ∀ t : Fin k0_t11_loop.trips, k0_off21 t = ![(4 * t.val + (0 + 1 + 1 + 1)) * 16] := by decide +kernel

attribute [local irreducible] SparseCore.vectorLoadIdx SparseCore.vectorStoreIdx mid

set_option maxHeartbeats 4000000 in
attribute [local irreducible] k0_part1 k0_part2 k0_part3 k0_part4 k0_part5 k0_part6 k0_part7 k0_part8 k0_part9 in
/-- A trip of the first block's loop carries the block on by its four groups. -/
theorem trip0 {tab : Vec F S40064 .f32} {v3 v5 : Vec F S16 .f32} {xs : Vec F S5120 .f32} {v38 : IVec S16 32}
    (h38 : Lanes v38) (v1 : BitVec 32) (t9 : Fin (k0_t9_loop L).trips) (v91 : BitVec 32) (h1 : k0_cond1 L t9 = 1#1)
    (t : Fin k0_t10_loop.trips) (acc : BitVec 32) :
    mid d L 0 slot0 tab v3 v5 xs ((4 * t.val + 0) * 8 + 0)
      ⊢ wp frame (wpE (defs₀ (F := F)) 𝒱₀ (thr d L) none) Set.univ
          (args (k0_t10_body (F := F) L) v1 v3 v5 v38 t9 v91 h1 t acc)
          fun _ => mid d L 0 slot0 tab v3 v5 xs ((4 * (t.val + 1) + 0) * 8 + 0) := by
  have ht : t.val < 80 := Nat.lt_of_lt_of_le t.isLt k0_t10_abs.2.1
  unfold args k0_t10_body
  iterate 10
    -- the next part of the trip, if one is left
    try
      refine step_bind d L ?_
      first
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
    -- its instructions in order
    repeat first
      | refine step_gather d L (by decide) ?_
      | refine step_scatter d L h38 ht (by decide) (by decide) ?_
      | (refine step_assume_gather d L (by decide) ?_ ?_; · exact fun h _ => h)
      | (refine step_assume_scatter d L h38 ht (by decide) (by decide) ?_ ?_; · exact fun h _ => h)
      | refine step_load d L ht (by decide) (off11 t) ?_
      | refine step_load_next d L ht (by decide) (off12 t) ?_
      | refine step_load_next d L ht (by decide) (off13 t) ?_
      | refine step_load_next d L ht (by decide) (off14 t) ?_
      | refine step_pure d L ?_
    try dsimp only
  rw [show (4 * (t.val + 1) + 0) * 8 + 0 = (4 * t.val + (0 + 1 + 1 + 1)) * 8 + 8 by omega]

set_option maxHeartbeats 4000000 in
attribute [local irreducible] k0_part11 k0_part12 k0_part13 k0_part14 k0_part15 k0_part16 k0_part17 k0_part18 k0_part19 in
/-- A trip of the second block's loop carries the block on by its four groups. -/
theorem trip1 {tab : Vec F S40064 .f32} {v3 v5 : Vec F S16 .f32} {xs : Vec F S5120 .f32} {v38 : IVec S16 32}
    (h38 : Lanes v38) (v1 : BitVec 32) (t9 : Fin (k0_t9_loop L).trips) (v96 : BitVec 32) (h3 : k0_cond3 L t9 = 1#1)
    (t : Fin k0_t11_loop.trips) (acc : BitVec 32) :
    mid d L 0 slot1 tab v3 v5 xs ((4 * t.val + 0) * 8 + 0)
      ⊢ wp frame (wpE (defs₀ (F := F)) 𝒱₀ (thr d L) none) Set.univ
          (args (k0_t11_body (F := F) L) v1 v3 v5 v38 t9 v96 h3 t acc)
          fun _ => mid d L 0 slot1 tab v3 v5 xs ((4 * (t.val + 1) + 0) * 8 + 0) := by
  have ht : t.val < 80 := Nat.lt_of_lt_of_le t.isLt k0_t11_abs.2.1
  unfold args k0_t11_body
  iterate 10
    -- the next part of the trip, if one is left
    try
      refine step_bind d L ?_
      first
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
    -- its instructions in order
    repeat first
      | refine step_gather d L (by decide) ?_
      | refine step_scatter d L h38 ht (by decide) (by decide) ?_
      | (refine step_assume_gather d L (by decide) ?_ ?_; · exact fun h _ => h)
      | (refine step_assume_scatter d L h38 ht (by decide) (by decide) ?_ ?_; · exact fun h _ => h)
      | refine step_load d L ht (by decide) (off18 t) ?_
      | refine step_load_next d L ht (by decide) (off19 t) ?_
      | refine step_load_next d L ht (by decide) (off20 t) ?_
      | refine step_load_next d L ht (by decide) (off21 t) ?_
      | refine step_pure d L ?_
    try dsimp only
  rw [show (4 * (t.val + 1) + 0) * 8 + 0 = (4 * t.val + (0 + 1 + 1 + 1)) * 8 + 8 by omega]

end Cert.Proof.KernelIdeal
-- ==== Proof.Ideal.Outer.lean ====
/-
  The tile's outer loop: a trip takes a block of each parity. Each block's turn is its generated part followed by the
  copy out of the second half; after it the tile is one block further in that parity.
-/
module

public import proofs.«01_k».proof.Proof.Ideal.Block
public import proofs.«01_k».proof.Proof.Ideal.Trip

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)
variable {O : CellTallies nD τ sig (HIx 1)} {W : Waits sig (HIx 1)} (q : PosShare TreeShare)
variable (x : Vec F S6400000 .f32) (tab : Vec F S40064 .f32) (v3 v5 : Vec F S16 .f32) (vI : Vec F S51200000 .f32)

/-- What every block's turn uses and gives back: the input words' read share, the scaled table, the input block, and the
    semaphore `sm` of the fetch. -/
def env (O : CellTallies nD τ sig (HIx 1)) (W : Waits sig (HIx 1)) (sm : DmaSem sig) : Asrt F :=
  iprop(Wts d L O W ∗ (sX.view.loc (thr d L) ↦{q} (x : Buf (Elt F) (sX.view.loc (thr d L))))
    ∗ (mT.view.loc (thr d L) ↦{fullShare} (tab : Buf (Elt F) (mT.view.loc (thr d L)))) ∗ xAny d L ∗ sem0 d L sm)

/-- After a block's generated part: the block is filled, its first half under way, its second half still to be sent. -/
def sent (slot : Memref sig .scVector .vmem S40960 .f32) (sa sb : DmaSem sig) (ρ J k : ℕ) : Asrt F :=
  iprop(∃ f, ⌜Good tab v3 v5 (xblk x (gb L ρ k)) 2560 (blk d L slot f)⌝
    ∗ Fly d L sa credit iprop(oPts d L (chunk (2 * gb L ρ k + 0)) (outv tab v3 v5 x) ∗ h0Pts d L slot f)
    ∗ h1Pts d L slot f ∗ oPts d L (chunk (2 * gb L ρ k + 1)) vI ∗ sem0 d L sb ∗ outs d L ρ J (outv tab v3 v5 x) vI k (k + 1))

/-- A part of a program that is known on its own is walked in one step. -/
theorem step_part {α β : Type} {Q : α → Asrt F} {Γ : Asrt F} {R : β → Asrt F} {p : Prog (TpuEff nD τ sig (Elt F) Λ₀ (thr d L).2) β}
    {k : β → Prog (TpuEff nD τ sig (Elt F) Λ₀ (thr d L).2) α}
    (H : Γ ⊢ wp frame (wpE (defs₀ (F := F)) 𝒱₀ (thr d L) none) Set.univ p R) :
    Γ ⊢ iprop((∀ a, R a -∗ wp frame (wpE (defs₀ (F := F)) 𝒱₀ (thr d L) none) Set.univ (k a) Q)
      -∗ wp frame (wpE (defs₀ (F := F)) 𝒱₀ (thr d L) none) Set.univ (p >>= k) Q) := by
  rw [wp_bind]
  exact BI.wand_intro ((sep_mono H Entails.rfl).trans (wp_wand_r _ _ _))

/-- Before the first trip nothing is under way. -/
theorem par_first {slot : Memref sig .scVector .vmem S40960 .f32} {sa sb : DmaSem sig} {ρ J : ℕ} {vN vI : Vec F S51200000 .f32} {k : ℕ} (h : k = 0) :
    (par d L slot sa sb ρ J vN vI k : Asrt F) ⊢ iprop(free d L slot sa sb ∗ outs d L ρ J vN vI k k) := by
  subst h; exact Entails.rfl

/-- With both halves of its latest block under way, the parity is one block further. -/
theorem par_next {slot : Memref sig .scVector .vmem S40960 .f32} {sa sb : DmaSem sig} {ρ J k : ℕ} {vN vI : Vec F S51200000 .f32}
    (f : Buf (Elt F) (slot.view.loc (thr d L))) :
    iprop(Fly d L sa credit iprop(oPts d L (chunk (2 * gb L ρ k + 0)) vN ∗ h0Pts d L slot f)
        ∗ Fly d L sb credit iprop(oPts d L (chunk (2 * gb L ρ k + 1)) vN ∗ h1Pts d L slot f) ∗ outs d L ρ J vN vI k (k + 1))
      ⊢ (par d L slot sa sb ρ J vN vI (k + 1) : Asrt F) := by
  show _ ⊢ iprop(busy d L slot sa sb vN (gb L ρ k) ∗ outs d L ρ J vN vI k (k + 1))
  unfold busy
  iintro ⟨H0, H1, Ho⟩
  isplitl [H0 H1]
  · iexists f; iframe
  iexact Ho

set_option maxHeartbeats 4000000 in
attribute [local irreducible] k0_t10_body k0_t11_body in
/-- The even block's generated part. -/
theorem part10 {v38 : Vec F S16 .i32} (h38 : Lanes v38) (v1 v91 : BitVec 32) (t : Fin (k0_t9_loop L).trips) (h1 : k0_cond1 L t = 1#1) :
    iprop(env d L q x tab O W cc0_scoped3.sem ∗ par d L slot0 cc0_scratch5.sem cc0_scratch6.sem 0 (cnt L 0) (outv tab v3 v5 x) vI t.val)
      ⊢ wp frame (wpE (defs₀ (F := F)) 𝒱₀ (thr d L) none) Set.univ (args (k0_part10 (F := F) L) v1 v3 v5 v38 t v91 h1)
        fun _ => iprop(env d L q x tab O W cc0_scoped3.sem
          ∗ sent d L x tab v3 v5 vI slot0 cc0_scratch5.sem cc0_scratch6.sem 0 (cnt L 0) t.val) := by
  have ht : t.val < cnt L 0 := by have := t.isLt; have := trips9 L; unfold cnt; simp only [if_true]; omega
  unfold args
  rw [k0_part10_eq_skeleton]; unfold k0_part10_skel env
  iintro ⟨⟨Hw, Hx, Ht, Hm, Hs⟩, Hp⟩
  iapply (step_fetch d L (x := x) (q := q) (gb_lt L (ρ := 0) (by decide) ht) (off9 L t)) $$ [Hw Hx Hm Hs]
  · iframe
  iintro ⟨Hw, Hx, Hm, Hs⟩
  by_cases hc : k0_cond2 L t = 1#1
  on_goal 1 =>
    have ht1 := (cond2 L t).mp hc
    obtain ⟨k, hk⟩ : ∃ k, t.val = k + 1 := ⟨t.val - 1, by omega⟩
    simp -proj only [dif_pos hc]
    ihave Hp := (Entails.of_eq (congrArg (par d L slot0 cc0_scratch5.sem cc0_scratch6.sem 0 (cnt L 0) (outv tab v3 v5 x) vI) hk)) $$ Hp
    iapply (step_drain d L _ _ _ _ _ _ k) $$ [Hw Hp]
    · iframe
    iintro ⟨Hw, Hf, Ho⟩
    ihave Ho := (Entails.of_eq (congrArg (fun n => outs d L 0 (cnt L 0) (outv tab v3 v5 x) vI n n) hk.symm)) $$ Ho
  on_goal 2 =>
    have ht0 : t.val = 0 := by
      by_contra h; exact hc ((cond2 L t).mpr (by omega))
    simp -proj only [dif_neg hc]
    ihave Hp := (par_first d L ht0) $$ Hp
    icases Hp with ⟨Hf, Ho⟩
  all_goals
    unfold free
    icases Hf with ⟨Hb, Ha, Hc⟩
    iapply (step_fill d L (v3 := v3) (v5 := v5) (k0_t10_ok L t h1) (by decide +kernel : k0_t10_loop.trips = 80) (fun k acc => trip0 d L h38 v1 t v91 h1 k acc)) $$ [Ht Hm Hb]
    · iframe
    iintro %acc ⟨Ht, Hm, %f, %hf, Hb⟩
    ihave H := (issue_split d L 0 (cnt L 0) (outv tab v3 v5 x) vI ht f) $$ [Hb Ho]
    · iframe
    icases H with ⟨H0, H1, Hc0, Hc1, Ho⟩
    iapply (step_send d L vI (slot := slot0) (gb_lt L (ρ := 0) (by decide) ht) (by decide : 0 < 2) hf (off15a L t) (offs := ![0]) rfl) $$ [H0 Hc0 Ha]
    · iframe
    iintro HF
    iapply (step_pure d L (Entails.rfl))
    unfold sent xAny
    isplitl [Hw Hx Ht Hm Hs]
    · iframe
      iexists _; iexact Hm
    iexists f
    iframe
    ipureintro; exact hf

set_option maxHeartbeats 4000000 in
attribute [local irreducible] k0_t10_body k0_t11_body in
/-- The odd block's generated part. -/
theorem part20 {v38 : Vec F S16 .i32} (h38 : Lanes v38) (v1 v96 : BitVec 32) (t : Fin (k0_t9_loop L).trips) (h3 : k0_cond3 L t = 1#1) :
    iprop(env d L q x tab O W cc0_scoped4.sem ∗ par d L slot1 cc0_scratch7.sem cc0_scratch8.sem 1 (cnt L 1) (outv tab v3 v5 x) vI t.val)
      ⊢ wp frame (wpE (defs₀ (F := F)) 𝒱₀ (thr d L) none) Set.univ (args (k0_part20 (F := F) L) v1 v3 v5 v38 t v96 h3)
        fun _ => iprop(env d L q x tab O W cc0_scoped4.sem
          ∗ sent d L x tab v3 v5 vI slot1 cc0_scratch7.sem cc0_scratch8.sem 1 (cnt L 1) t.val) := by
  have ht : t.val < cnt L 1 := (cond3 L t).mp h3
  unfold args
  rw [k0_part20_eq_skeleton]; unfold k0_part20_skel env
  iintro ⟨⟨Hw, Hx, Ht, Hm, Hs⟩, Hp⟩
  iapply (step_fetch d L (x := x) (q := q) (gb_lt L (ρ := 1) (by decide) ht) (off16 L t)) $$ [Hw Hx Hm Hs]
  · iframe
  iintro ⟨Hw, Hx, Hm, Hs⟩
  by_cases hc : k0_cond4 L t = 1#1
  on_goal 1 =>
    have ht1 := (cond4 L t).mp hc
    obtain ⟨k, hk⟩ : ∃ k, t.val = k + 1 := ⟨t.val - 1, by omega⟩
    simp -proj only [dif_pos hc]
    ihave Hp := (Entails.of_eq (congrArg (par d L slot1 cc0_scratch7.sem cc0_scratch8.sem 1 (cnt L 1) (outv tab v3 v5 x) vI) hk)) $$ Hp
    iapply (step_drain d L _ _ _ _ _ _ k) $$ [Hw Hp]
    · iframe
    iintro ⟨Hw, Hf, Ho⟩
    ihave Ho := (Entails.of_eq (congrArg (fun n => outs d L 1 (cnt L 1) (outv tab v3 v5 x) vI n n) hk.symm)) $$ Ho
  on_goal 2 =>
    have ht0 : t.val = 0 := by
      by_contra h; exact hc ((cond4 L t).mpr (by omega))
    simp -proj only [dif_neg hc]
    ihave Hp := (par_first d L ht0) $$ Hp
    icases Hp with ⟨Hf, Ho⟩
  all_goals
    unfold free
    icases Hf with ⟨Hb, Ha, Hc⟩
    iapply (step_fill d L (v3 := v3) (v5 := v5) (k0_t11_ok L t h3) (by decide +kernel : k0_t11_loop.trips = 80) (fun k acc => trip1 d L h38 v1 t v96 h3 k acc)) $$ [Ht Hm Hb]
    · iframe
    iintro %acc ⟨Ht, Hm, %f, %hf, Hb⟩
    ihave H := (issue_split d L 1 (cnt L 1) (outv tab v3 v5 x) vI ht f) $$ [Hb Ho]
    · iframe
    icases H with ⟨H0, H1, Hc0, Hc1, Ho⟩
    iapply (step_send d L vI (slot := slot1) (gb_lt L (ρ := 1) (by decide) ht) (by decide : 0 < 2) hf (off22a L t) (offs := ![0]) rfl) $$ [H0 Hc0 Ha]
    · iframe
    iintro HF
    iapply (step_pure d L (Entails.rfl))
    unfold sent xAny
    isplitl [Hw Hx Ht Hm Hs]
    · iframe
      iexists _; iexact Hm
    iexists f
    iframe
    ipureintro; exact hf

/-- What the outer loop holds after `t` trips. -/
def outer (O : CellTallies nD τ sig (HIx 1)) (W : Waits sig (HIx 1)) (t : ℕ) : Asrt F :=
  iprop(env d L q x tab O W cc0_scoped3.sem ∗ sem0 d L cc0_scoped4.sem
    ∗ par d L slot0 cc0_scratch5.sem cc0_scratch6.sem 0 (cnt L 0) (outv tab v3 v5 x) vI t
    ∗ par d L slot1 cc0_scratch7.sem cc0_scratch8.sem 1 (cnt L 1) (outv tab v3 v5 x) vI (min t (cnt L 1)))

set_option maxHeartbeats 4000000 in
attribute [local irreducible] k0_part10 k0_part20 in
/-- A trip of the outer loop: a block of each parity, the odd one only while the tile has one. -/
theorem outer_trip {v38 : Vec F S16 .i32} (h38 : Lanes v38) (v1 z : BitVec 32) (t : Fin (k0_t9_loop L).trips) (acc : BitVec 32) :
    outer d L q x tab v3 v5 vI O W t.val
      ⊢ wp frame (wpE (defs₀ (F := F)) 𝒱₀ (thr d L) none) Set.univ (args (k0_t9_body (F := F) L) v1 v3 v5 v38 z t acc)
        fun _ => outer d L q x tab v3 v5 vI O W (t.val + 1) := by
  have h1 := cond1 L t
  have ht : t.val < cnt L 0 := by have := t.isLt; have := trips9 L; unfold cnt; simp only [if_true]; omega
  unfold args k0_t9_body outer
  simp -proj only [dif_pos h1]
  iintro ⟨He, Hs4, Hp0, Hp1⟩
  iapply (step_part d L (part10 d L (O := O) (W := W) q x tab v3 v5 vI h38 v1 _ t h1)) $$ [He Hp0]
  · iframe
  iintro %_ ⟨He, Hp0⟩
  unfold sent
  icases Hp0 with ⟨%f, %hf, Hfl, H1, Hc1, Hsb, Ho⟩
  iapply (step_send d L vI (slot := slot0) (gb_lt L (ρ := 0) (by decide) ht) (by decide : 1 < 2) hf (off15b L t) (offs := ![20480]) rfl) $$ [H1 Hc1 Hsb]
  · iframe
  iintro Hfl'
  ihave Hp0 := (par_next d L f) $$ [Hfl Hfl' Ho]
  · iframe
  by_cases h3 : k0_cond3 L t = 1#1
  · have ht1 := (cond3 L t).mp h3
    simp -proj only [dif_pos h3]
    unfold env
    icases He with ⟨Hw, Hx, Ht, Hm, Hs3⟩
    ihave Hp1 := (Entails.of_eq (congrArg (par d L slot1 cc0_scratch7.sem cc0_scratch8.sem 1 (cnt L 1) (outv tab v3 v5 x) vI)
      (Nat.min_eq_left ht1.le))) $$ Hp1
    iapply (step_part d L (part20 d L (O := O) (W := W) q x tab v3 v5 vI h38 v1 _ t h3)) $$ [Hw Hx Ht Hm Hs4 Hp1]
    · unfold env; iframe
    unfold env sent
    iintro %_ ⟨⟨Hw, Hx, Ht, Hm, Hs4⟩, %f', %hf', Hfl2, H1, Hc1, Hsb, Ho'⟩
    iapply (step_send d L vI (slot := slot1) (gb_lt L (ρ := 1) (by decide) ht1) (by decide : 1 < 2) hf' (off22b L t) (offs := ![20480]) rfl) $$ [H1 Hc1 Hsb]
    · iframe
    iintro Hfl2'
    ihave Hp1 := (par_next d L f') $$ [Hfl2 Hfl2' Ho']
    · iframe
    iapply (step_pure d L (Entails.rfl))
    rw [Nat.min_eq_left (show t.val + 1 ≤ cnt L 1 from ht1)]
    iframe
  · have ht1 : cnt L 1 ≤ t.val := Nat.le_of_not_lt fun h => h3 ((cond3 L t).mpr h)
    simp -proj only [dif_neg h3]
    iapply (step_pure d L (Entails.rfl))
    rw [Nat.min_eq_right ht1, Nat.min_eq_right (ht1.trans (Nat.le_succ _))]
    iframe

/-- The whole outer loop: all blocks of both parities are taken. -/
theorem outer_loop {v38 : Vec F S16 .i32} (h38 : Lanes v38) (v1 z : BitVec 32) {α : Type} {Q : α → Asrt F}
    {kk : BitVec 32 → Prog (TpuEff nD τ sig (Elt F) Λ₀ (thr d L).2) α} :
    outer d L q x tab v3 v5 vI O W 0
      ⊢ iprop((∀ acc, outer d L q x tab v3 v5 vI O W 20 -∗ wp frame (wpE (defs₀ (F := F)) 𝒱₀ (thr d L) none) Set.univ (kk acc) Q)
        -∗ wp frame (wpE (defs₀ (F := F)) 𝒱₀ (thr d L) none) Set.univ
          (Scf.Loop.for (k0_t9_loop L) (k0_t9_ok L) 0#32 (args (k0_t9_body (F := F) L) v1 v3 v5 v38 z) >>= kk) Q) := by
  have htr : Scf.trips (k0_t9_loop L).lb (k0_t9_loop L).ub (k0_t9_loop L).st = 20 := trips9 L
  have h := Scf.wp_for_bind frame (wpE (defs₀ (F := F)) 𝒱₀ (thr d L) none) Set.univ (k0_t9_loop L).lb (k0_t9_loop L).ub (k0_t9_loop L).st
    (k0_t9_ok L) 0#32 (args (k0_t9_body (F := F) L) v1 v3 v5 v38 z) (fun t _ => outer d L q x tab v3 v5 vI O W t)
    (fun t acc => outer_trip d L q x tab v3 v5 vI h38 v1 z t acc) (kk := kk) (Q := Q)
  rw [htr] at h
  exact h

end Cert.Proof.KernelIdeal
-- ==== Proof.Ideal.Prologue.lean ====
/-
  The start of a tile's body: the table, the weights and the parameters are copied in, the two parameter vectors are
  read, and the table is scaled by the weights, column by column.
-/
module

public import proofs.«01_k».proof.Proof.Ideal.Scale
public import proofs.«01_k».proof.Proof.Ideal.Copy
public import proofs.«01_k».proof.Proof.Ideal.Args

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-! Where the scaling loops' trips lie in the table. -/

theorem off1 : ∀ t : Fin k0_t1_loop.trips, k0_off1 t = ![(313 * 0 + t.val) * 16] := by decide +kernel
theorem off2 : ∀ t : Fin k0_t2_loop.trips, k0_off2 t = ![(313 * 1 + t.val) * 16] := by decide +kernel
theorem off3 : ∀ t : Fin k0_t3_loop.trips, k0_off3 t = ![(313 * 2 + t.val) * 16] := by decide +kernel
theorem off4 : ∀ t : Fin k0_t4_loop.trips, k0_off4 t = ![(313 * 3 + t.val) * 16] := by decide +kernel
theorem off5 : ∀ t : Fin k0_t5_loop.trips, k0_off5 t = ![(313 * 4 + t.val) * 16] := by decide +kernel
theorem off6 : ∀ t : Fin k0_t6_loop.trips, k0_off6 t = ![(313 * 5 + t.val) * 16] := by decide +kernel
theorem off7 : ∀ t : Fin k0_t7_loop.trips, k0_off7 t = ![(313 * 6 + t.val) * 16] := by decide +kernel
theorem off8 : ∀ t : Fin k0_t8_loop.trips, k0_off8 t = ![(313 * 7 + t.val) * 16] := by decide +kernel

/-- The kernel's operands as a tile reads them: the padded table, the broadcast weights, the parameters. -/
abbrev sT : Memref sig .scVector .hbm S40064 .f32 := Memref.whole main_v2_scv
abbrev sW : Memref sig .scVector .hbm S8x16 .f32 := Memref.whole main_v12_scv
abbrev sP : Memref sig .scVector .hbm S2x16 .f32 := Memref.whole main_v10_scv

variable {O : CellTallies nD τ sig (HIx 1)} {W : Waits sig (HIx 1)}

/-- The three operands held at read shares. -/
abbrev srcs (q : PosShare TreeShare) (tab : Vec F S40064 .f32) (w : Vec F S8x16 .f32) (P : Vec F S2x16 .f32) : Asrt F :=
  iprop((sT.view.loc (thr d L) ↦{q} (tab : Buf (Elt F) (sT.view.loc (thr d L))))
    ∗ (sW.view.loc (thr d L) ↦{q} (w : Buf (Elt F) (sW.view.loc (thr d L))))
    ∗ (sP.view.loc (thr d L) ↦{q} (P : Buf (Elt F) (sP.view.loc (thr d L)))))

/-- The three scratch arrays after the first part, with the table's first `c` columns scaled. -/
abbrev held (tab : Vec F S40064 .f32) (w : Vec F S8x16 .f32) (P : Vec F S2x16 .f32) (c : ℕ) : Asrt F :=
  iprop(tabPts d L (scaled tab w (313 * c)) ∗ (mW.view.loc (thr d L) ↦{fullShare} (w : Buf (Elt F) (mW.view.loc (thr d L))))
    ∗ (mP.view.loc (thr d L) ↦{fullShare} (P : Buf (Elt F) (mP.view.loc (thr d L)))))

/-- The tile's number. -/
def wid : BitVec 32 := Scalar.addi (Scalar.muli (BitVec.ofNat 32 (L 1).val) 2#32) (BitVec.ofNat 32 (L 0).val)

/-- The first part of the body: operands copied in, parameters read, three columns scaled. -/
theorem part41 (q : PosShare TreeShare) (tab : Vec F S40064 .f32) (w : Vec F S8x16 .f32) (P : Vec F S2x16 .f32) :
    iprop(Wts d L O W ∗ srcs d L q tab w P ∗ (∃ f, mT.view.loc (thr d L) ↦{fullShare} f) ∗ (∃ f, mW.view.loc (thr d L) ↦{fullShare} f)
        ∗ (∃ f, mP.view.loc (thr d L) ↦{fullShare} f) ∗ sem0 d L cc0_scoped0.sem ∗ sem0 d L cc0_scoped1.sem ∗ sem0 d L cc0_scoped2.sem)
      ⊢ wp frame (wpE (defs₀ (F := F)) 𝒱₀ (thr d L) none) Set.univ (args (k0_part41 (F := F) L))
        fun r => iprop(⌜r = ⟨wid L, prow P 0, prow P 1⟩⌝ ∗ Wts d L O W ∗ srcs d L q tab w P ∗ held d L tab w P 3
          ∗ sem0 d L cc0_scoped0.sem ∗ sem0 d L cc0_scoped1.sem ∗ sem0 d L cc0_scoped2.sem) := by
  unfold args
  rw [k0_part41_eq_skeleton]; unfold k0_part41_skel
  iintro ⟨Hwt, ⟨HsT, HsW, HsP⟩, HmT, HmW, HmP, H0, H1, H2⟩
  -- the three copies in, each waited for at once
  iapply (step_copy_whole d L sT mT (View.set_whole _) (View.set_whole _) (g := tab)
    (fun fd => View.write_whole_univ _ _ _) (by decide)) $$ [Hwt HsT HmT H0]
  · iframe
  iintro ⟨Hwt, HsT, HmT, H0⟩
  iapply (step_copy_whole d L sW mW (View.set_whole _) (View.set_whole _) (g := w)
    (fun fd => View.write_whole_univ _ _ _) (by decide)) $$ [Hwt HsW HmW H1]
  · iframe
  iintro ⟨Hwt, HsW, HmW, H1⟩
  iapply (step_copy_whole d L sP mP (View.set_whole _) (View.set_whole _) (g := P)
    (fun fd => View.write_whole_univ _ _ _) (by decide)) $$ [Hwt HsP HmP H2]
  · iframe
  iintro ⟨Hwt, HsP, HmP, H2⟩
  -- the two rows of parameters
  iapply (wp_load 𝒱₀ (thr d L) none Set.univ (S := Finset.univ) (q := fullShare) (m := mP)
    (f := (P : Buf (Elt F) (mP.view.loc (thr d L)))) (Finset.subset_univ _)) $$ HmP
  iintro HmP
  iapply (wp_load 𝒱₀ (thr d L) none Set.univ (S := Finset.univ) (q := fullShare) (m := mP)
    (f := (P : Buf (Elt F) (mP.view.loc (thr d L)))) (Finset.subset_univ _)) $$ HmP
  iintro HmP
  -- the first three columns
  ihave HmT := (Entails.of_eq (show (mT.view.loc (thr d L) ↦{fullShare} (tab : Buf (Elt F) (mT.view.loc (thr d L))) : Asrt F)
    = tabPts d L (scaled tab w (313 * 0)) by rw [scaled_zero])) $$ HmT
  iapply (scale_loop d L tab w (c := 0) (by decide) rfl k0_t1_ok (by decide +kernel)
    (fun k acc => scale_trip d L tab w (by decide) (Nat.lt_of_lt_of_le k.isLt k0_t1_abs.2.1) (off1 k))) $$ [HmT HmW]
  · iframe
  iintro %acc ⟨HmT, HmW⟩
  iapply (scale_loop d L tab w (c := 1) (by decide) rfl k0_t2_ok (by decide +kernel)
    (fun k acc => scale_trip d L tab w (by decide) (Nat.lt_of_lt_of_le k.isLt k0_t2_abs.2.1) (off2 k))) $$ [HmT HmW]
  · iframe
  iintro %acc ⟨HmT, HmW⟩
  iapply (scale_loop d L tab w (c := 2) (by decide) rfl k0_t3_ok (by decide +kernel)
    (fun k acc => scale_trip d L tab w (by decide) (Nat.lt_of_lt_of_le k.isLt k0_t3_abs.2.1) (off3 k))) $$ [HmT HmW]
  · iframe
  iintro %acc ⟨HmT, HmW⟩
  iapply (step_pure d L (Entails.rfl))
  rw [pay289_row P (by decide) rfl, show (k0_pay290 (F := F)) = k0_pay289 from rfl, pay289_row P (by decide) rfl]
  isplitr
  · ipureintro; rfl
  unfold srcs held
  iframe

/-- The second part: the last five columns scaled, and the lane numbers. -/
theorem part42 (v1 : BitVec 32) (tab : Vec F S40064 .f32) (w : Vec F S8x16 .f32) (P : Vec F S2x16 .f32) :
    held d L tab w P 3
      ⊢ wp frame (wpE (defs₀ (F := F)) 𝒱₀ (thr d L) none) Set.univ (args (k0_part42 (F := F) L) v1)
        fun r => iprop(⌜Lanes r.1 ∧ r.2 = Scalar.subi 1250#32 v1⌝ ∗ held d L tab w P 8) := by
  unfold args
  rw [k0_part42_eq_skeleton]; unfold k0_part42_skel
  iintro ⟨HmT, HmW, HmP⟩
  iapply (scale_loop d L tab w (c := 3) (by decide) rfl k0_t4_ok (by decide +kernel)
    (fun k acc => scale_trip d L tab w (by decide) (Nat.lt_of_lt_of_le k.isLt k0_t4_abs.2.1) (off4 k))) $$ [HmT HmW]
  · iframe
  iintro %acc ⟨HmT, HmW⟩
  iapply (scale_loop d L tab w (c := 4) (by decide) rfl k0_t5_ok (by decide +kernel)
    (fun k acc => scale_trip d L tab w (by decide) (Nat.lt_of_lt_of_le k.isLt k0_t5_abs.2.1) (off5 k))) $$ [HmT HmW]
  · iframe
  iintro %acc ⟨HmT, HmW⟩
  iapply (scale_loop d L tab w (c := 5) (by decide) rfl k0_t6_ok (by decide +kernel)
    (fun k acc => scale_trip d L tab w (by decide) (Nat.lt_of_lt_of_le k.isLt k0_t6_abs.2.1) (off6 k))) $$ [HmT HmW]
  · iframe
  iintro %acc ⟨HmT, HmW⟩
  iapply (scale_loop d L tab w (c := 6) (by decide) rfl k0_t7_ok (by decide +kernel)
    (fun k acc => scale_trip d L tab w (by decide) (Nat.lt_of_lt_of_le k.isLt k0_t7_abs.2.1) (off7 k))) $$ [HmT HmW]
  · iframe
  iintro %acc ⟨HmT, HmW⟩
  iapply (scale_loop d L tab w (c := 7) (by decide) rfl k0_t8_ok (by decide +kernel)
    (fun k acc => scale_trip d L tab w (by decide) (Nat.lt_of_lt_of_le k.isLt k0_t8_abs.2.1) (off8 k))) $$ [HmT HmW]
  · iframe
  iintro %acc ⟨HmT, HmW⟩
  iapply (step_pure d L (Entails.rfl))
  isplitr
  · ipureintro
    exact ⟨fun x => iota_single_apply .scVector S16 32 0 iota_S16_d0_w32_scVector x, rfl⟩
  unfold held
  iframe

end Cert.Proof.KernelIdeal
-- ==== Proof.Ideal.Tile.lean ====
/-
  One tile's task: its operands copied in, the table scaled, the outer loop, and the last blocks awaited. At its end its
  blocks of the result hold the interpolated products.
-/
module

public import proofs.«01_k».proof.Proof.Ideal.Own
public import proofs.«01_k».proof.Proof.Ideal.Outer
public import proofs.«01_k».proof.Proof.Ideal.Prologue
public import proofs.«01_k».proof.Proof.Ideal.Pay

@[expose] public section

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] (d : Dev nD) (L : grid0.Coords)

/-- The body's trip counts, computed before the loops: both parities have had a block when they end. -/
theorem part43_eq : ∃ r, args (k0_part43 (F := F) L) (Scalar.subi 1250#32 (wid L)) = Pure.pure r ∧ r.2.1 = 0#32 ∧ r.2.2.1 = 0#32
    ∧ Scalar.cmpi .ne (Scalar.extui (Scalar.cmpi .sgt r.1 0#32) : BitVec 32) 0#32 = 1#1
    ∧ Scalar.cmpi .ne (Scalar.extui (Scalar.cmpi .sgt r.1 1#32) : BitVec 32) 0#32 = 1#1 := by
  unfold args
  rw [k0_part43_eq_skeleton]; unfold k0_part43_skel
  refine ⟨_, rfl, rfl, rfl, ?_⟩
  revert L
  unfold wid
  decide +kernel

/-- Before the outer loop a parity's blocks are untouched. -/
theorem par_start {slot : Memref sig .scVector .vmem S40960 .f32} {sa sb : DmaSem sig} {ρ J : ℕ} {vN vI : Vec F S51200000 .f32} :
    iprop((∃ f, blkPts d L slot f) ∗ sem0 d L sa ∗ sem0 d L sb ∗ bigSep (Finset.range J) fun j => oPts d L (blkSet (gb L ρ j)) vI)
      ⊢ (par d L slot sa sb ρ J vN vI 0 : Asrt F) := by
  show _ ⊢ iprop(free d L slot sa sb ∗ outs d L ρ J vN vI 0 0)
  unfold free outs
  rw [Finset.range_zero, BI.bigSep_empty, Finset.range_eq_Ico]
  iintro ⟨Hb, Ha, Hc, Ho⟩
  isplitl [Hb Ha Hc]
  · iframe
  isplitr
  · iempintro
  iexact Ho

/-- With as many blocks sent as the parity has, all are written. -/
theorem outs_end {ρ J n : ℕ} (hn : J = n) {vN vI : Vec F S51200000 .f32} :
    (outs d L ρ J vN vI n n : Asrt F) ⊢ bigSep (Finset.range J) fun j => oPts d L (blkSet (gb L ρ j)) vN := by
  subst hn
  unfold outs
  iintro ⟨H, -⟩
  iexact H

/-- The second of the body's two loops has no trips. -/
theorem no_trips {v82 : BitVec 32} {body : Fin (k0_t12_loop L).trips → BitVec 32 → Prog (TpuEff nD τ sig (Elt F) Λ₀ (thr d L).2) (BitVec 32)}
    {α : Type} {Q : α → Asrt F} {kk : BitVec 32 → Prog (TpuEff nD τ sig (Elt F) Λ₀ (thr d L).2) α} :
    iprop(∀ acc, wp frame (wpE (defs₀ (F := F)) 𝒱₀ (thr d L) none) Set.univ (kk acc) Q)
      ⊢ wp frame (wpE (defs₀ (F := F)) 𝒱₀ (thr d L) none) Set.univ (Scf.Loop.for (k0_t12_loop L) (k0_t12_ok L) v82 body >>= kk) Q := by
  have h := Scf.wp_for_bind frame (wpE (defs₀ (F := F)) 𝒱₀ (thr d L) none) Set.univ (k0_t12_loop L).lb (k0_t12_loop L).ub (k0_t12_loop L).st
    (k0_t12_ok L) v82 body (fun _ _ => iprop(∀ acc, wp frame (wpE (defs₀ (F := F)) 𝒱₀ (thr d L) none) Set.univ (kk acc) Q))
    (fun t _ => absurd t.isLt (by have := trips12 L; show ¬ t.val < (k0_t12_loop L).trips; omega)) (kk := kk) (Q := Q)
  refine h.trans ?_
  iintro Hw
  iapply Hw
  iintro %acc HΓ
  iapply HΓ

/-- A part that only computes is its value. -/
theorem step_value {α β : Type} {Q : α → Asrt F} {p : Prog (TpuEff nD τ sig (Elt F) Λ₀ (thr d L).2) β} {r : β} (h : p = Pure.pure r)
    {k : β → Prog (TpuEff nD τ sig (Elt F) Λ₀ (thr d L).2) α} :
    wp frame (wpE (defs₀ (F := F)) 𝒱₀ (thr d L) none) Set.univ (k r) Q ⊢ wp frame (wpE (defs₀ (F := F)) 𝒱₀ (thr d L) none) Set.univ (p >>= k) Q := by
  rw [h, pure_bind]

theorem cnt_pos (ρ : ℕ) : ∃ k, cnt L ρ = k + 1 ∧ cnt L ρ ≤ 20 := by
  unfold cnt; split
  · exact ⟨19, rfl, le_refl _⟩
  · split
    · exact ⟨19, rfl, le_refl _⟩
    · exact ⟨18, rfl, by decide⟩

theorem cnt_zero : cnt L 0 = 19 + 1 := rfl

set_option maxHeartbeats 4000000 in
attribute [local irreducible] k0_part41 k0_part42 k0_part43 k0_t9_body k0_t12_body in
/-- The task of the tile at coordinates `L`. -/
theorem tile_body (hF : (K (F := F)).Facts) (O : CellTallies nD τ sig (HIx 1)) (W : Waits sig (HIx 1)) (hO : ∀ g, O g none = 0)
    (q : PosShare TreeShare) (x : Vec F S6400000 .f32) (tab : Vec F S40064 .f32) (w : Vec F S8x16 .f32) (P : Vec F S2x16 .f32) (vI : Vec F S51200000 .f32) :
    iprop(levAts (K (F := F)).L (K (F := F)).lev ∗ emp
        ∗ ((sX.view.loc (thr d L) ↦{q} (x : Buf (Elt F) (sX.view.loc (thr d L)))) ∗ srcs d L q tab w P ∗ oPts d L (tileSet (widN L)) vI)
        ∗ scopedBufs (thr d L) ∗ scopedSems0 (thr d L) ∗ owes (thr d L) O W)
      ⊢ wp frame (wpE (defs₀ (F := F)) 𝒱₀ (thr d L) none) Set.univ (args (cc0_body (F := F) L))
        fun _ => iprop(((sX.view.loc (thr d L) ↦{q} (x : Buf (Elt F) (sX.view.loc (thr d L)))) ∗ srcs d L q tab w P
            ∗ oPts d L (tileSet (widN L)) (outv (tabS tab w) (prow P 0) (prow P 1) x))
          ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L),
    own_sems, own_bufs, tile_blocks]
  unfold args
  rw [cc0_body_eq_skeleton]; unfold cc0_body_skel
  iintro ⟨#Hlv, -, ⟨Hx, Hs, Ho0, Ho1⟩, ⟨⟨HT, HX, HO, HW, HP⟩, Hrb⟩, ⟨⟨Ha0, Hb0, Ha1, Hb1, H0, H1, H2, H3, H4⟩, Hrs⟩, Howes⟩
  ihave HM := ((K (F := F)).mayWaits_none (thr := thr d L) hO) $$ Hlv
  ihave Hw : Wts d L O W $$ [HM Howes]
  · unfold Wts
    isplitl [HM]; · iexact HM
    iexists W
    isplitr
    · ipureintro; exact fun _ h => Or.inl h
    · iexact Howes
  iapply (step_part d L (part41 d L (O := O) (W := W) q tab w P)) $$ [Hw Hs HT HW HP H0 H1 H2]
  · iframe
  iintro %r ⟨%hr, Hw, Hs, Hh, H0, H1, H2⟩
  subst hr
  iapply (step_part d L (part42 d L (wid L) tab w P)) $$ [Hh]
  · iframe
  iintro %r ⟨%hr, Hh⟩
  obtain ⟨v38, v39⟩ := r
  obtain ⟨h38, h39⟩ := hr
  simp only at h38 h39
  subst h39
  obtain ⟨⟨v58, a, b, c, e⟩, h43, ha, hb, h9, h10⟩ := part43_eq (F := F) L
  simp only at ha hb h9 h10
  subst ha hb
  iapply (step_value d L h43)
  unfold held
  icases Hh with ⟨HT, HW, HP⟩
  ihave HT := (Entails.of_eq (congrArg (tabPts d L) (scaled_all tab w))) $$ HT
  ihave Hrows := (out_rows d L) $$ HO
  icases Hrows with ⟨HO0, HO1⟩
  ihave Hp0 := (par_start d L (vN := outv (tabS tab w) (prow P 0) (prow P 1) x)) $$ [HO0 Ha0 Hb0 Ho0]
  · iframe
  ihave Hp1 := (par_start d L (vN := outv (tabS tab w) (prow P 0) (prow P 1) x)) $$ [HO1 Ha1 Hb1 Ho1]
  · iframe
  iapply (outer_loop d L (O := O) (W := W) q x (tabS tab w) (prow P 0) (prow P 1) vI h38 (wid L) 0#32) $$ [Hw Hx HT HX H3 H4 Hp0 Hp1]
  · unfold outer env
    rw [Nat.zero_min]
    iframe
  iintro %acc Hout
  unfold outer env
  icases Hout with ⟨⟨Hw, Hx, HT, HX, H3⟩, H4, Hp0, Hp1⟩
  iapply (no_trips d L)
  iintro %acc'
  simp -proj only [dif_pos h9, dif_pos h10]
  iapply (step_drain d L _ _ _ _ _ _ 19) $$ [Hw Hp0]
  · iframe
  iintro ⟨Hw, Hf0, Ho0⟩
  obtain ⟨k, hk, hk20⟩ := cnt_pos L 1
  ihave Hp1 := (Entails.of_eq (congrArg (par d L slot1 cc0_scratch7.sem cc0_scratch8.sem 1 (cnt L 1) (outv (tabS tab w) (prow P 0) (prow P 1) x) vI)
    ((Nat.min_eq_right hk20).trans hk))) $$ Hp1
  iapply (step_drain d L _ _ _ _ _ _ k) $$ [Hw Hp1]
  · iframe
  iintro ⟨Hw, Hf1, Ho1⟩
  iapply (step_pure d L (Entails.rfl))
  ihave Ho0 := (outs_end d L (cnt_zero L)) $$ Ho0
  ihave Ho1 := (outs_end d L hk) $$ Ho1
  ihave Ho := (Entails.of_eq (tile_blocks d L (outv (tabS tab w) (prow P 0) (prow P 1) x)).symm) $$ [Ho0 Ho1]
  · iframe
  unfold free
  icases Hf0 with ⟨HO0, Ha0, Hb0⟩
  icases Hf1 with ⟨HO1, Ha1, Hb1⟩
  ihave HO := (rows_out d L) $$ [HO0 HO1]
  · iframe
  isplitl [Hx Hs Ho]
  · iframe
  isplitl [HT HX HO HW HP Hrb]
  · isplitr [Hrb]
    · isplitl [HT]
      · iexists _; iexact HT
      isplitl [HX]; · iexact HX
      isplitl [HO]; · iexact HO
      isplitl [HW]
      · iexists _; iexact HW
      · iexists _; iexact HP
    · iexact Hrb
  isplitl [Ha0 Hb0 Ha1 Hb1 H0 H1 H2 H3 H4 Hrs]
  · iframe
  unfold Wts
  icases Hw with ⟨-, H⟩
  iexact H

/-- The tile at core `c` and subcore `s`. -/
def coordsV (c : Fin (grid0.bound 0)) (s : Fin (grid0.bound 1)) : grid0.Coords := fun
  | 0 => c
  | 1 => s
  | ⟨_ + 2, h⟩ => absurd h (Nat.not_lt.2 (Nat.le_add_left _ _))

/-- The task's program at the coordinates `L`. -/
def tileProg (L : grid0.Coords) : Prog (TpuEff nD τ sig (Elt F) Λ₀ (.scVector ((L 0).castLE hcore0) ((L 1).castLE hsub0))) PUnit :=
  args (cc0_body (F := F) L)

theorem defs₀_vector (c : Fin τ.nSC) (s : Fin τ.nSub) :
    defs₀ (F := F) (.scVector c s) 0 () = SparseCore.onTile hcore0 hsub0 (fun c s => tileProg (F := F) (coordsV c s)) ⟨⟩ c s := rfl

/-- The waits left over, as the launch states them. -/
theorem weaken_waits {t : Thread nD τ} {A B C : Asrt F} {O : CellTallies nD τ sig (HIx 1)} {W : Waits sig (HIx 1)} {r : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some r⌝ ∗ owes t O W') := by
  iintro ⟨HA, HB, HC, %W', %hW', HO⟩
  iframe
  iexists W'
  isplitr
  · ipureintro; exact fun p hp => (hW' p hp).imp_right Or.inl
  · iexact HO

/-- A tile's part of the call's arrays, in the names of the task. -/
theorem tileRes_in (m : (ℓ : Loc nD τ sig) → Buf (Elt F) ℓ) (v : Vec F S51200000 .f32) (c : Fin 2) (i : Fin 16) :
    tileRes m d v c i ⊢ iprop((sX.view.loc (thr d (coordsV c i)) ↦{share c i} (argX m d : Buf (Elt F) (sX.view.loc (thr d (coordsV c i)))))
      ∗ srcs d (coordsV c i) (share c i) (argT m d) (argW m d) (argP m d) ∗ oPts d (coordsV c i) (tileSet (widN (coordsV c i))) v) := by
  unfold tileRes srcs
  iintro ⟨H0, H1, H2, H3, H4⟩
  isplitl [H0]; · iexact H0
  isplitl [H1 H2 H3]
  · isplitl [H1]; · iexact H1
    isplitl [H2]; · iexact H2
    iexact H3
  iexact H4

theorem tileRes_out (m : (ℓ : Loc nD τ sig) → Buf (Elt F) ℓ) (v : Vec F S51200000 .f32) (c : Fin 2) (i : Fin 16) :
    iprop((sX.view.loc (thr d (coordsV c i)) ↦{share c i} (argX m d : Buf (Elt F) (sX.view.loc (thr d (coordsV c i)))))
      ∗ srcs d (coordsV c i) (share c i) (argT m d) (argW m d) (argP m d) ∗ oPts d (coordsV c i) (tileSet (widN (coordsV c i))) v)
      ⊢ tileRes m d v c i := by
  unfold tileRes srcs
  iintro ⟨H0, ⟨H1, H2, H3⟩, H4⟩
  isplitl [H0]; · iexact H0
  isplitl [H1]; · iexact H1
  isplitl [H2]; · iexact H2
  isplitl [H3]; · iexact H3
  iexact H4

/-- What the launch asks of every tile's task. -/
theorem tileObl (m : (ℓ : Loc nD τ sig) → Buf (Elt F) ℓ) (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans (sep_mono Entails.rfl (sep_mono Entails.rfl (sep_mono (tileRes_in d m (outI m d) _ _) Entails.rfl)))
    ((tile_body d (coordsV ⟨_, hc.1⟩ ⟨_, hc.2⟩) hF O W hO (share (Fin.cast nCore_zero c) (Fin.cast nSub_zero i))
    (argX m d) (argT m d) (argW m d) (argP m d) (outI m d)).trans
      (wp_mono frame _ _ fun _ => (sep_mono (tileRes_out d m (outN m d) _ _) Entails.rfl).trans weaken_waits))

end Cert.Proof.KernelIdeal
-- ==== Proof.Ideal.Order.lean ====
/-
  The order of the result: the call leaves its words in groups of 128 input words, each group column by column; the
  operations after the call put them in rows, one to an input word.
-/
module

public import proofs.«01_k».proof.Proof.Ideal.Out
public import Idealize.ShloMosaic.Lib.Pipeline.Value
public import Idealize.ShloMosaic.Lib.StableHlo.Predicate
public import Idealize.ShloMosaic.Lib.ValueIdxCore

@[expose] public section

noncomputable section

namespace Cert.Proof.KernelIdeal

open Cert.KernelIdeal Cert.KernelIdeal.Gen
open Idealize.ShloMosaic Idealize.ShloMosaic.StableHlo.Predicate Idealize.ShloMosaic.ValueIdx

variable {F : FTy → Type} [FloatOps F]

/-- The call's output in the order of the result: input word by column. -/
def ordered (o : FVec F S51200000 .f32) : FVec F S6400000x8 .f32 :=
  shapeCast S6400000x8 (transpose S50000x128x8 [0, 2, 1] (shapeCast S50000x8x128 o shapeCasts_S51200000_S50000x8x128)
    transposes_S50000x8x128_S50000x128x8_0_2_1) shapeCasts_S50000x128x8_S6400000x8

/-- Where the call leaves the word of input word `i` and column `c`. -/
def placeOf (i c : ℕ) : ℕ := i / 128 * 1024 + c * 128 + i % 128

theorem ordered_apply (o : FVec F S51200000 .f32) (i : Fin 6400000) (c : Fin 8) :
    ordered o (ij i c) = o (pt 51200000 (placeOf i.val c.val)) := by
  have hi := i.isLt
  have hc := c.isLt
  unfold ordered
  rw [shapeCast_apply _ _ (ij i c) (ix3 ⟨i.val / 128, by omega⟩ ⟨i.val % 128, by omega⟩ c : S50000x128x8.Idx) (by
      rw [Shape.rowMajor_val_three, Shape.rowMajor_val_two]
      show (i.val / 128 * 128 + i.val % 128) * 8 + c.val = i.val * 8 + c.val
      omega),
    transpose_apply _ _ _ _ (ix3 ⟨i.val / 128, by omega⟩ c ⟨i.val % 128, by omega⟩ : S50000x8x128.Idx) (fun b => by fin_cases b <;> rfl),
    shapeCast_apply _ _ _ (pt 51200000 (placeOf i.val c.val)) (by
      rw [Shape.rowMajor_val_three, Shape.rowMajor_val_one]
      show placeOf i.val c.val % 51200000 = (i.val / 128 * 8 + c.val) * 128 + i.val % 128
      unfold placeOf; omega)]

/-- The call's word there: the entry of the scaled table in column `c` that input word `i`'s grid index selects. -/
theorem outv_apply (tab : Vec F S40064 .f32) (v3 v5 : Vec F S16 .f32) (x : Vec F S6400000 .f32) {i c : ℕ} (hi : i < 6400000) (hc : c < 8) :
    outv tab v3 v5 x (pt 51200000 (placeOf i c))
      = tab (pt 40064 ((ixS (F := F) (v3 (pt 16 (i % 16))) (v5 (pt 16 (i % 16))) (x (pt 6400000 i))).toNat + c * 5008)) := by
  have hP : (pt 51200000 (placeOf i c) 0).val = placeOf i c := by
    rw [pt_val]; unfold placeOf; omega
  unfold outv tgt xblk
  rw [hP, pt_val]
  have e1 : (placeOf i c % 40960) % 16 = i % 16 := by unfold placeOf; omega
  have e2 : (placeOf i c / 40960) * 5120 + wordOf (placeOf i c % 40960) % 5120 = i := by unfold wordOf placeOf; omega
  have e3 : colOf (placeOf i c % 40960) = c := by unfold colOf placeOf; omega
  rw [e2, e3, pt_congr (n := placeOf i c % 40960) (n' := i % 16) (by omega)]

end Cert.Proof.KernelIdeal
-- ==== Proof.Ideal.Frame.lean ====
/-
  What a reader of the program's arrays finds at its end: the arguments as they were, every semaphore down, and the
  result holding the call's output in the order of the input words.
-/
module

public import proofs.«01_k».proof.Proof.Ideal.Main
public import proofs.«01_k».proof.Proof.Ideal.Tile
public import proofs.«01_k».proof.Proof.Ideal.Order
public import Idealize.ShloMosaic.Lib.Pipeline.FrameTail

@[expose] public section

noncomputable section

namespace Cert.Proof.KernelIdeal

open Cert.KernelIdeal Cert.KernelIdeal.Gen
open Idealize.ShloMosaic Idealize.ShloMosaic.TcCoe
open Idealize.SL.Sem
open Idealize.ShloMosaic.StableHlo (after)
open Idealize.ShloMosaic.Pipeline (ucRefs)

variable {F : FTy → Type} [FloatOps F] (m : (ℓ : Loc nD τ sig) → Buf (Elt F) ℓ) (ρ : Dev nD → PrngReg)

/-- An argument of the program. -/
abbrev argRef (i : Fin 4) : Ref sig .tc := ![main_arg0, main_arg1, main_arg2, main_arg3] i

/-- No operation before the call, nor the call, nor an operation after it writes an argument. -/
theorem atEnd_arg (d : Dev nD) (i : Fin 4) : atEnd m d (Proc.devRef .tc (argRef i)) = m (d, Proc.devRef .tc (argRef i)) := by
  fin_cases i <;> (unfold atEnd afterCall atCall opsPost opsPre; after_results; rfl)

/-- The result holds the call's output, put in order. -/
theorem atEnd_res (d : Dev nD) : atEnd m d (Proc.devRef .tc main_v16) = ordered (outN m d) := by
  unfold atEnd afterCall opsPost; after_results; rfl

/-- The program terminates, its arguments end unchanged, its result is the call's output in order, and every
    semaphore ends down. -/
theorem run_value [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_v16) = ordered (outN m c)
        ∧ ∀ i, r.2.mem ((c.tc : Thread nD τ).loc (argRef i)) = m ((c.tc : Thread nD τ).loc (argRef i)))
      ∧ r.2.sem = fun _ => 0 :=
  (θ_run _ _ _).mono (fun r h => ⟨fun c => ⟨(h.1 c _ (Pipeline.devRef_mem_ucRefs rfl)).trans (atEnd_res m c),
      fun i => (h.1 c _ (Pipeline.devRef_mem_ucRefs (by revert i; decide))).trans (atEnd_arg m c i)⟩, h.2⟩)
    (run_main m ρ (tileObl m facts))

end Cert.Proof.KernelIdeal
-- ==== Proof.Value.Index.lean ====
/-
  The grid index of an input word, at the extended reals: the kernel divides by the spacing and rounds up, the reference
  counts the grid points below the word. On equally spaced points from zero the two give one number.
-/
module

public import Idealize.ShloMosaic.PureOps.Ideal
public import Idealize.ShloMosaic.PureOps.Ideal.Laws
public import Idealize.ShloMosaic.Lib.IdealHost
public import Idealize.ShloMosaic.Lib.StableHlo.Predicate

@[expose] public section

noncomputable section

namespace Cert.Proof.Grid

open Idealize.ShloMosaic Idealize.ShloMosaic.StableHlo.Predicate

/-! ## The kernel's rounding -/

/-- Round `a` up to a whole number and hold it between 0 and 4999, as the kernel does: toward zero, then one more where
    that is less. -/
def roundUp (a : EReal) : BitVec 32 :=
  let n := Ideal.fptosi 32 a
  IntOp.minsi (IntOp.maxsi (Scalar.select (Ideal.cmp .olt ((n.toInt : ℝ) : EReal) a) (IntOp.addi n 1#32) n) 0#32) 4999#32

theorem hold_neg {w : BitVec 32} (h : w.toInt ≤ 0) : IntOp.minsi (IntOp.maxsi w 0#32) 4999#32 = 0#32 := by
  have h0 : IntOp.maxsi w 0#32 = 0#32 := by
    unfold IntOp.maxsi
    by_cases hw : w = 0#32
    · subst hw; rfl
    · have : w.toInt ≠ 0 := fun e => hw (BitVec.eq_of_toInt_eq (by simpa using e))
      simp [BitVec.sle, BitVec.slt] <;> omega
  rw [h0]; decide

theorem hold_small {n : ℕ} (h : n ≤ 4999) : IntOp.minsi (IntOp.maxsi (BitVec.ofNat 32 n) 0#32) 4999#32 = BitVec.ofNat 32 n :=
  clamp_eval _ _ (by decide) (by simp [BitVec.toNat_ofNat]; omega)

theorem roundUp_bot : roundUp ⊥ = 0#32 := by
  unfold roundUp
  refine hold_neg ?_
  rw [show Ideal.cmp .olt ((((Ideal.fptosi 32 ⊥).toInt : ℝ) : ℝ) : EReal) ⊥ = 0#1 by simp [Ideal.cmp]]
  decide

/-- The integer part of a real that no clamp reaches. -/
theorem fptosi_toInt {a : ℝ} {n : ℤ} (h : Ideal.toIntClamped (-(2 ^ 31 : ℕ)) ((2 ^ 31 : ℕ) - 1) (a : EReal) = n)
    (h1 : -(2 ^ 31 : ℤ) ≤ n) (h2 : n < 2 ^ 31) : (Ideal.fptosi 32 (a : EReal)).toInt = n := by
  unfold Ideal.fptosi
  rw [show (32 - 1) = 31 from rfl, h, BitVec.toInt_ofInt_eq_self (by decide) (by simpa using h1) (by simpa using h2)]

/-- At a real not above 4999 the result is the least whole number at or above it, and 0 below zero. -/
theorem roundUp_real {a : ℝ} (ha : a ≤ 4999) : roundUp (a : EReal) = BitVec.ofNat 32 ⌈a⌉₊ := by
  have hcl : Ideal.toIntClamped (-(2 ^ 31 : ℕ)) ((2 ^ 31 : ℕ) - 1) (a : EReal)
      = max (-(2 ^ 31 : ℕ) : ℤ) (min ((2 ^ 31 : ℕ) - 1 : ℤ) (if 0 ≤ a then ⌊a⌋ else ⌈a⌉)) := rfl
  by_cases h0 : 0 ≤ a
  · have hf0 : 0 ≤ ⌊a⌋ := Int.floor_nonneg.2 h0
    have hf1 : ⌊a⌋ ≤ 4999 := by
      have : (⌊a⌋ : ℝ) ≤ 4999 := (Int.floor_le a).trans ha
      exact_mod_cast this
    have hn : (Ideal.fptosi 32 (a : EReal)).toInt = ⌊a⌋ :=
      fptosi_toInt (by rw [hcl, if_pos h0]; omega) (by omega) (by omega)
    have hw : Ideal.fptosi 32 (a : EReal) = BitVec.ofNat 32 ⌊a⌋₊ := by
      apply BitVec.eq_of_toInt_eq
      rw [hn, toInt_ofNat_small _ (by have := Int.floor_toNat a; omega), ← Int.floor_toNat, Int.toNat_of_nonneg hf0]
    have hfn : (⌊a⌋ : ℤ) = (⌊a⌋₊ : ℤ) := by rw [← Int.floor_toNat, Int.toNat_of_nonneg hf0]
    unfold roundUp
    simp only
    rw [hn, hw]
    by_cases hlt : (⌊a⌋ : ℝ) < a
    · have hc : ⌈a⌉₊ = ⌊a⌋₊ + 1 := by
        refine (Nat.ceil_eq_iff (by omega)).2 ⟨?_, ?_⟩
        · have : ((⌊a⌋ : ℤ) : ℝ) = (⌊a⌋₊ : ℝ) := by rw [hfn]; simp
          simpa [this] using hlt
        · push_cast; exact (Nat.lt_floor_add_one a).le
      have hs : Ideal.cmp .olt (((⌊a⌋ : ℤ) : ℝ) : EReal) (a : EReal) = 1#1 := by
        simp [Ideal.cmp, hlt]
      rw [hs]
      have hle : ⌈a⌉₊ ≤ 4999 := Nat.ceil_le.2 (by exact_mod_cast ha)
      show IntOp.minsi (IntOp.maxsi (BitVec.ofNat 32 ⌊a⌋₊ + BitVec.ofNat 32 1) 0#32) 4999#32 = _
      rw [← BitVec.ofNat_add, ← hc]; exact hold_small hle
    · have he : (⌊a⌋ : ℝ) = a := le_antisymm (Int.floor_le a) (not_lt.1 hlt)
      have hc : ⌈a⌉₊ = ⌊a⌋₊ := by
        have : a = (⌊a⌋₊ : ℝ) := by rw [← he, hfn]; simp
        rw [this]; simp
      have hs : Ideal.cmp .olt (((⌊a⌋ : ℤ) : ℝ) : EReal) (a : EReal) = 0#1 := by
        simp [Ideal.cmp, hlt]
      rw [hs]
      have hle : ⌈a⌉₊ ≤ 4999 := Nat.ceil_le.2 (by exact_mod_cast ha)
      show IntOp.minsi (IntOp.maxsi (BitVec.ofNat 32 ⌊a⌋₊) 0#32) 4999#32 = _
      rw [← hc]; exact hold_small hle
  · have hneg : a < 0 := not_le.1 h0
    have hc0 : ⌈a⌉ ≤ 0 := Int.ceil_le.2 (by exact_mod_cast hneg.le)
    have hn : (Ideal.fptosi 32 (a : EReal)).toInt = max (-(2 ^ 31 : ℤ)) ⌈a⌉ :=
      fptosi_toInt (by rw [hcl, if_neg h0]; omega) (by omega) (by omega)
    have hge : ¬ (((max (-(2 ^ 31 : ℤ)) ⌈a⌉ : ℤ) : ℝ) < a) := by
      rw [not_lt]
      exact (Int.le_ceil a).trans (by exact_mod_cast le_max_right _ _)
    unfold roundUp
    simp only
    rw [hn, show Ideal.cmp .olt (((max (-(2 ^ 31 : ℤ)) ⌈a⌉ : ℤ) : ℝ) : EReal) (a : EReal) = 0#1 by
      simp only [Ideal.cmp, EReal.coe_lt_coe_iff, hge]; rfl]
    rw [Nat.ceil_eq_zero.2 hneg.le]
    exact hold_neg (w := Ideal.fptosi 32 (a : EReal)) (by rw [hn]; omega)

/-! ## The reference's count -/

/-- The grid points are equally spaced from zero, and the last one is `L`. -/
structure Uniform (R : Fin 5000 → EReal) (L : ℝ) : Prop where
  nonneg : 0 ≤ L
  last : R 4999 = (L : EReal)
  step : ∀ i, R i * ((4999 : ℝ) : EReal) = ((i.val : ℝ) : EReal) * (L : EReal)

/-- On such a grid point `i` is `i` times the spacing. -/
theorem Uniform.point {R : Fin 5000 → EReal} {L : ℝ} (h : Uniform R L) (i : Fin 5000) :
    R i = ((i.val * L / 4999 : ℝ) : EReal) := by
  have hs := h.step i
  rw [← EReal.coe_mul] at hs
  induction hr : R i using EReal.rec with
  | bot => rw [hr, EReal.bot_mul_coe_of_pos (by norm_num)] at hs; exact absurd hs.symm (EReal.coe_ne_bot _)
  | top => rw [hr, EReal.top_mul_coe_of_pos (by norm_num)] at hs; exact absurd hs.symm (EReal.coe_ne_top _)
  | coe r =>
    rw [hr, ← EReal.coe_mul, EReal.coe_eq_coe_iff] at hs
    rw [← hs]; congr 1; field_simp

theorem Uniform.le_last {R : Fin 5000 → EReal} {L : ℝ} (h : Uniform R L) (i : Fin 5000) : R i ≤ (L : EReal) := by
  rw [h.point i, EReal.coe_le_coe_iff, div_le_iff₀ (by norm_num)]
  have hi : (i.val : ℝ) ≤ 4999 := by exact_mod_cast (show i.val ≤ 4999 by omega)
  nlinarith [h.nonneg]

/-- The number of whole numbers below 5000 that lie below `a`. -/
theorem card_below {a : ℝ} (ha : a ≤ 4999) :
    (Finset.univ.filter fun i : Fin 5000 => (i.val : ℝ) < a).card = ⌈a⌉₊ := by
  have hle : ⌈a⌉₊ ≤ 4999 := Nat.ceil_le.2 (by exact_mod_cast ha)
  have he : (Finset.univ.filter fun i : Fin 5000 => (i.val : ℝ) < a) = Finset.univ.filter fun i : Fin 5000 => i.val < ⌈a⌉₊ :=
    Finset.filter_congr fun i _ => Nat.lt_ceil.symm
  rw [he, Fin.card_filter_val_lt]
  omega

/-- The kernel's index of `x` is the number of grid points below `x`, the last point at most. -/
theorem index_eq {R : Fin 5000 → EReal} {L : ℝ} (h : Uniform R L) (x : EReal) :
    roundUp (min x (R 4999) * Ideal.div ((4999 : ℝ) : EReal) (R 4999))
      = BitVec.ofNat 32 (Finset.univ.filter fun i : Fin 5000 => R i < min x (R 4999)).card := by
  rw [h.last]
  have hc0 : ∀ t : EReal, (∀ i, ¬ R i < t) → (Finset.univ.filter fun i : Fin 5000 => R i < t).card = 0 := fun t ht => by
    rw [Finset.card_eq_zero, Finset.filter_eq_empty_iff]; exact fun i _ => ht i
  rcases h.nonneg.eq_or_lt with hL | hL
  · -- every point is zero, and the reciprocal spacing is infinite
    subst hL
    have hR : ∀ i, R i = 0 := fun i => by rw [h.point i]; simp
    have hd : Ideal.div ((4999 : ℝ) : EReal) ((0 : ℝ) : EReal) = ⊤ := by
      unfold Ideal.div; rw [if_pos (by simp), if_pos (by exact_mod_cast (by norm_num : (0 : ℝ) < 4999))]
    rw [hd, hc0 _ fun i => by rw [hR i]; simp, EReal.coe_zero]
    rcases le_or_gt 0 x with hx | hx
    · rw [min_eq_right hx, zero_mul]
      have := roundUp_real (a := 0) (by norm_num)
      simpa using this
    · rw [min_eq_left hx.le, EReal.mul_top_of_neg hx]
      exact roundUp_bot
  · have hd : Ideal.div ((4999 : ℝ) : EReal) (L : EReal) = ((4999 / L : ℝ) : EReal) := by
      rw [Ideal.div_coe hL.ne', ← EReal.coe_mul]; congr 1; ring
    rw [hd]
    have hm : min x (L : EReal) ≤ (L : EReal) := min_le_right _ _
    induction ht : min x (L : EReal) using EReal.rec with
    | bot =>
      rw [EReal.bot_mul_coe_of_pos (by positivity), hc0 _ fun i => not_lt_bot]
      exact roundUp_bot
    | top => rw [ht] at hm; exact absurd hm (by simp)
    | coe t =>
      rw [ht, EReal.coe_le_coe_iff] at hm
      have ha : t * (4999 / L) ≤ 4999 := by
        rw [mul_div_assoc', div_le_iff₀ hL]; nlinarith
      rw [← EReal.coe_mul, roundUp_real ha, ← card_below ha]
      refine congrArg (fun s : Finset (Fin 5000) => BitVec.ofNat 32 s.card) (Finset.filter_congr fun i _ => ?_)
      rw [h.point i, EReal.coe_lt_coe_iff, div_lt_iff₀ (by norm_num), mul_div_assoc', lt_div_iff₀ hL]

/-- That number names a row of the table. -/
theorem count_le {R : Fin 5000 → EReal} (x : EReal) :
    (Finset.univ.filter fun i : Fin 5000 => R i < min x (R 4999)).card ≤ 4999 := by
  have hss : (Finset.univ.filter fun i : Fin 5000 => R i < min x (R 4999)) ⊂ Finset.univ := by
    refine Finset.filter_ssubset.2 ⟨4999, Finset.mem_univ _, ?_⟩
    exact not_lt.2 (min_le_right _ _)
  have := Finset.card_lt_card hss
  rw [Finset.card_univ, Fintype.card_fin] at this
  omega

end Cert.Proof.Grid
-- ==== Proof.Value.Pre.lean ====
/-
  What the precondition says: its printed text, evaluated to one, is that the grid points are equally spaced from zero.
-/
module

public import proofs.«01_k».proof.Pre_uniform_grid
public import proofs.«01_k».proof.Proof.Value.Index
public import Idealize.ShloMosaic.Lib.ReduceAll
public import Idealize.ShloMosaic.Lib.Pipeline.Value

@[expose] public section

noncomputable section

namespace Cert.Proof.Grid

open Idealize.ShloMosaic Idealize.ShloMosaic.StableHlo.Predicate
open Cert.Pre_uniform_grid

/-- The f32 pattern `0x459C3800` is 4999. -/
theorem ofBits_4999 : Ideal.ofBits .f32 0x459C3800#32 = ((4999 : ℝ) : EReal) := by
  simp [Ideal.ofBits, Ideal.ieee, -EReal.coe_mul]; norm_num

/-- The f32 pattern `0x7F800000` is plus infinity. -/
theorem ofBits_top : Ideal.ofBits .f32 0x7F800000#32 = ⊤ := by
  simp [Ideal.ofBits, Ideal.ieee]

/-- The f32 pattern `0xFF800000` is minus infinity. -/
theorem ofBits_bot : Ideal.ofBits .f32 0xFF800000#32 = ⊥ := by
  simp [Ideal.ofBits, Ideal.ieee]

theorem cmp_oeq {x y : EReal} (h : Ideal.cmp .oeq x y = 1#1) : x = y := by
  have := (ofBool_eq_one_iff _).1 h; simpa using this
theorem cmp_oge {x y : EReal} (h : Ideal.cmp .oge x y = 1#1) : y ≤ x := by
  have := (ofBool_eq_one_iff _).1 h; simpa using this
theorem cmp_olt {x y : EReal} : Ideal.cmp .olt x y = 1#1 ↔ x < y := by
  unfold Ideal.cmp; rw [ofBool_eq_one_iff]; simp

/-- The grid points as a list of numbers. -/
abbrev points (r : FVec Ideal ⟨1, ![5000]⟩ .f32) : Fin 5000 → EReal := fun i => r (Shape.Idx.ofFin i)

/-- The precondition holds only on equally spaced points from zero. -/
theorem uniform_of_pre [Cert.Pre_uniform_grid.Facts] (x : FVec Ideal S6400000 .f32) (w : FVec Ideal S8 .f32) (v : FVec Ideal S5000x8 .f32)
    (r : FVec Ideal S5000 .f32) (h : Cert.Pre_uniform_grid.fn (F := Ideal) x w v r = fun _ => 1#1) : ∃ L : ℝ, Uniform (points r) L := by
  have h0 := congrFun h (fun a => a.elim0)
  obtain ⟨h1, hlt⟩ := IntOp.andi_eq_one.1 h0
  obtain ⟨hall, hge⟩ := IntOp.andi_eq_one.1 h1
  have hlast : ∀ j : S_.Idx, shapeCast S_ (extractStridedSlice S1 ![4999] r Facts.slices_S5000_S1_4999) Facts.shapeCasts_S1_S_ j
      = points r 4999 := fun j => by
    rw [shapeCast_apply _ _ j (Shape.Idx.ofFin 0) rfl]
    exact extractStridedSlice_apply _ _ _ _ _ fun a => by obtain rfl := Fin.eq_zero a; rfl
  have hge' : 0 ≤ points r 4999 := by
    have := cmp_oge hge; rw [hlast] at this; exact (Ideal.ofBits_zero_f32).symm.trans_le this
  have hlt' : points r 4999 < ⊤ := by
    have := cmp_olt.1 hlt; rw [hlast] at this; exact this.trans_eq ofBits_top
  obtain ⟨L, hL⟩ : ∃ L : ℝ, points r 4999 = (L : EReal) :=
    ⟨_, (EReal.coe_toReal hlt'.ne (ne_bot_of_le_ne_bot (by simp) hge')).symm⟩
  refine ⟨L, ⟨by rw [hL] at hge'; exact_mod_cast hge', hL, fun i => ?_⟩⟩
  haveI : Subsingleton S_.Idx := ⟨fun a b => funext fun k => k.elim0⟩
  have hi := cmp_oeq (Host.reduce_andi_all _ _ _ _ _ hall (Shape.Idx.ofFin i))
  rw [← hL, ← ofBits_4999]
  refine Eq.trans (Eq.trans ?_ hi) ?_
  · rfl
  · show (((BitVec.ofNat 32 i.val).toInt : ℝ) : EReal) * _ = _
    rw [toInt_ofNat_small _ (by omega)]
    exact congrArg _ (hlast _)

end Cert.Proof.Grid
-- ==== Proof.Value.Operands.lean ====
/-
  What the kernel's call is handed, as functions of the program's arguments, and one word of each: the table column by
  column in columns of 5008 words, the weights and the two parameters sixteen times over.
-/
module

public import proofs.«01_k».proof.Proof.Ideal.Host
public import proofs.«01_k».proof.Proof.Ideal.Scale
public import proofs.«01_k».proof.Proof.Ideal.Order
public import proofs.«01_k».proof.Proof.Value.Pre
public import Idealize.ShloMosaic.Lib.KernelVsHost

@[expose] public section

noncomputable section

namespace Cert.Proof.KernelIdeal

open Cert.KernelIdeal Cert.KernelIdeal.Gen
open Idealize.ShloMosaic Idealize.ShloMosaic.StableHlo.Predicate Idealize.ShloMosaic.ValueIdx

/-- The table as the call reads it: each column padded to 5008 words, the columns end to end. -/
def tableOf (v : FVec Ideal S5000x8 .f32) : FVec Ideal S40064 .f32 :=
  shapeCast S40064 (pad S8x5008 ![0, 0] ![0, 8] ![0, 0] (transpose S8x5000 [1, 0] v transposes_S5000x8_S8x5000_1_0)
    (sitofp .f32 (constantI S_ 32 0#32)) pads_S8x5000_S8x5008_000_080 h_S_) shapeCasts_S8x5008_S40064

/-- The weights as the call reads them: row `c` is sixteen times weight `c`. -/
def weightsOf (w : FVec Ideal S8 .f32) : FVec Ideal S8x16 .f32 :=
  broadcastInDim S8x16 ![0, 1] bcast_S8x1_S8x16_0_1 (broadcastInDim S8x1 ![0] bcast_S8_S8x1_0 w)

/-- The last grid point. -/
def lastOf (r : FVec Ideal S5000 .f32) : FVec Ideal S_ .f32 :=
  shapeCast S_ (extractStridedSlice S1 ![4999] r slices_S5000_S1_4999) shapeCasts_S1_S_

/-- The parameters as the call reads them: sixteen times the last grid point, sixteen times the reciprocal spacing. -/
def paramsOf (r : FVec Ideal S5000 .f32) : FVec Ideal S2x16 .f32 :=
  concatenate S2x16 0
    [⟨S1x16, broadcastInDim S1x16 ![1] bcast_S16_S1x16_1 (broadcastInDim S16 ![] bcast_S_S16 (lastOf r))⟩,
      ⟨S1x16, broadcastInDim S1x16 ![1] bcast_S16_S1x16_1 (broadcastInDim S16 ![] bcast_S_S16
        (Host.divf (constant S_ .f32 0x459C3800#32) (lastOf r)))⟩] concatenates_S1x16_S1x16_S2x16_d0

theorem tableOf_apply (v : FVec Ideal S5000x8 .f32) (k : Fin 5000) (c : Fin 8) :
    tableOf v (pt 40064 (k.val + c.val * 5008)) = v (ij k c) := by
  have hk := k.isLt
  have hc := c.isLt
  unfold tableOf
  rw [shapeCast_apply _ _ _ (ij c ⟨k.val, by omega⟩ : S8x5008.Idx) (by
      rw [Shape.rowMajor_val_two, Shape.rowMajor_val_one]
      show c.val * 5008 + k.val = (k.val + c.val * 5008) % 40064
      omega),
    pad_apply_of_inside _ _ _ _ _ _ _ _ (ij c k : S8x5000.Idx) (fun a => by
      match a with
      | ⟨0, _⟩ => show c.val = 0 + c.val * (0 + 1); omega
      | ⟨1, _⟩ => show k.val = 0 + k.val * (0 + 1); omega),
    transpose_apply _ _ _ _ (ij k c : S5000x8.Idx) (fun b => by fin_cases b <;> rfl)]

theorem weightsOf_apply (w : FVec Ideal S8 .f32) (c : Fin 8) (l : ℕ) : weightsOf w (wix c.val l) = w (Shape.Idx.ofFin c) := by
  have h : wix c.val l = (ij c ⟨l % 16, Nat.mod_lt _ (by norm_num)⟩ : S8x16.Idx) := by
    funext a
    match a with
    | ⟨0, _⟩ => exact Fin.ext (Nat.mod_eq_of_lt c.isLt)
    | ⟨1, _⟩ => rfl
  rw [h]
  exact bcast_rows _ _ w c _

theorem lastOf_apply (r : FVec Ideal S5000 .f32) (j : S_.Idx) : lastOf r j = Grid.points r 4999 := by
  unfold lastOf
  rw [shapeCast_apply _ _ j (Shape.Idx.ofFin 0 : S1.Idx) rfl]
  exact extractStridedSlice_apply _ _ _ _ _ fun a => by obtain rfl := Fin.eq_zero a; rfl

/-- A scalar laid out as one row of sixteen. -/
theorem row_apply (s : FVec Ideal S_ .f32) (q : Fin 16) :
    broadcastInDim S1x16 ![1] bcast_S16_S1x16_1 (broadcastInDim S16 ![] bcast_S_S16 s) (ij 0 q : S1x16.Idx) = s (Shape.Idx.first h_S_) := by
  have h : (ij 0 q : S1x16.Idx) = i1q q := by funext a; match a with | ⟨0, _⟩ => rfl | ⟨1, _⟩ => rfl
  rw [h, bcast_row1, bcast_scalar _ h_S_]

theorem paramsOf_last (r : FVec Ideal S5000 .f32) (n : ℕ) : prow (F := Ideal) (paramsOf r) 0 (pt 16 n) = Grid.points r 4999 := by
  refine (concatenate_pair_apply_left (t := S2x16) (s₁ := S1x16) (s₂ := S1x16) 0 _ _ concatenates_S1x16_S1x16_S2x16_d0 (pix 0 (n % 16)) rfl
    (ij 0 ⟨n % 16, Nat.mod_lt _ (by decide)⟩ : S1x16.Idx) (fun b => ?_)).trans ((row_apply _ _).trans (lastOf_apply r _))
  match b with
  | ⟨0, _⟩ => rfl
  | ⟨1, _⟩ => show n % 16 = n % 16 % 16; omega

theorem paramsOf_inv (r : FVec Ideal S5000 .f32) (n : ℕ) :
    prow (F := Ideal) (paramsOf r) 1 (pt 16 n) = Ideal.div ((4999 : ℝ) : EReal) (Grid.points r 4999) := by
  refine (concatenate_pair_apply_right (t := S2x16) (s₁ := S1x16) (s₂ := S1x16) 0 _ _ concatenates_S1x16_S1x16_S2x16_d0 (pix 1 (n % 16)) rfl rfl
    (ij 0 ⟨n % 16, Nat.mod_lt _ (by decide)⟩ : S1x16.Idx) (fun b hb => ?_) rfl).trans ((row_apply _ _).trans ?_)
  · match b with
    | ⟨0, _⟩ => exact absurd rfl hb
    | ⟨1, _⟩ => show n % 16 = n % 16 % 16; omega
  · show Ideal.div (Ideal.ofBits .f32 0x459C3800#32) (lastOf r _) = _
    rw [Grid.ofBits_4999, lastOf_apply]

/-- The kernel's index is the rounding of the scaled word. -/
theorem ixS_eq (r k x : Elt Ideal .f32) : ixS (F := Ideal) r k x = Grid.roundUp (min x r * k) := rfl

/-- What the kernel's program returns. -/
def kerOut (x : FVec Ideal S6400000 .f32) (w : FVec Ideal S8 .f32) (v : FVec Ideal S5000x8 .f32) (r : FVec Ideal S5000 .f32) :
    FVec Ideal S6400000x8 .f32 :=
  ordered (outv (F := Ideal) (tabS (F := Ideal) (tableOf v) (weightsOf w)) (prow (F := Ideal) (paramsOf r) 0) (prow (F := Ideal) (paramsOf r) 1) x)

/-- Its word at input word `i` and column `c`: the entry of the table in the row the rounding names, times the weight. -/
theorem kerOut_apply (x : FVec Ideal S6400000 .f32) (w : FVec Ideal S8 .f32) (v : FVec Ideal S5000x8 .f32) (r : FVec Ideal S5000 .f32)
    (i : Fin 6400000) (c : Fin 8) (n : Fin 5000)
    (hn : Grid.roundUp (min (x (Shape.Idx.ofFin i)) (Grid.points r 4999) * Ideal.div ((4999 : ℝ) : EReal) (Grid.points r 4999)) = BitVec.ofNat 32 n.val) :
    kerOut x w v r (ij i c) = v (ij n c) * w (Shape.Idx.ofFin c) := by
  have hnl := n.isLt
  have hc := c.isLt
  have hi : (pt 6400000 i.val : S6400000.Idx) = Shape.Idx.ofFin i := by
    funext a; obtain rfl := Fin.eq_zero a; exact Fin.ext (Nat.mod_eq_of_lt i.isLt)
  have hix : (ixS (F := Ideal) (prow (F := Ideal) (paramsOf r) 0 (pt 16 (i.val % 16))) (prow (F := Ideal) (paramsOf r) 1 (pt 16 (i.val % 16))) (x (pt 6400000 i.val))).toNat = n.val := by
    rw [paramsOf_last, paramsOf_inv, hi, ixS_eq, hn, BitVec.toNat_ofNat]; omega
  unfold kerOut
  rw [ordered_apply, outv_apply _ _ _ _ i.isLt c.isLt, hix]
  unfold tabS
  rw [tableOf_apply, pt_val, show (n.val + c.val * 5008) % 40064 / 5008 = c.val by omega, weightsOf_apply]
  rfl

end Cert.Proof.KernelIdeal
-- ==== Proof.Value.Run.lean ====
/-
  The idealized kernel's run: its result as a function of the program's arguments.
-/
module

public import proofs.«01_k».proof.Proof.Ideal.Frame
public import proofs.«01_k».proof.Proof.Value.Operands

@[expose] public section

noncomputable section

namespace Cert.Proof.KernelIdeal

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg) (d : Dev nD)

theorem argX_eq : argX m d = m ((d.tc : Thread nD τ).loc main_arg0) := by
  unfold argX atCall opsPre; after_results
theorem argT_eq : argT m d = tableOf (m ((d.tc : Thread nD τ).loc main_arg2)) := by
  unfold argT atCall opsPre; after_results; rfl
theorem argW_eq : argW m d = weightsOf (m ((d.tc : Thread nD τ).loc main_arg1)) := by
  unfold argW atCall opsPre; after_results; rfl
theorem argP_eq : argP m d = paramsOf (m ((d.tc : Thread nD τ).loc main_arg3)) := by
  unfold argP atCall opsPre; after_results; rfl

/-- The result as a function of the arguments. -/
theorem result_eq : ordered (outN m d) = kerOut (m ((d.tc : Thread nD τ).loc main_arg0)) (m ((d.tc : Thread nD τ).loc main_arg1))
    (m ((d.tc : Thread nD τ).loc main_arg2)) (m ((d.tc : Thread nD τ).loc main_arg3)) := by
  unfold outN kerOut; rw [argX_eq, argT_eq, argW_eq, argP_eq]

/-- The idealized kernel ends with that in its result, its arguments unchanged. -/
theorem run_kernel :
    θ_run (Cert.KernelIdeal.defs (F := Ideal)) (Cert.KernelIdeal.threads (F := Ideal)) ⟨m, fun _ => 0, ρ⟩ fun r => ∀ c : Dev nD,
      r.2.mem ((c.tc : Thread nD τ).loc main_v16) = kerOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h.1 c).1.trans (result_eq m c), (h.1 c).2 0, (h.1 c).2 1, (h.1 c).2 2, (h.1 c).2 3⟩) (run_value m ρ)

end Cert.Proof.KernelIdeal
-- ==== Proof.Value.Reference.lean ====
/-
  What the reference computes, word by word: the entry of the table in the row numbered by the count of grid points below
  the input word, the greatest grid point at most, times the column's weight.
-/
module

public import proofs.«01_k».proof.Proof.Gen.ReferenceIdeal.Run
public import proofs.«01_k».proof.Proof.Value.Pre
public import Idealize.ShloMosaic.Lib.Routing.Ops
public import Idealize.ShloMosaic.PureOps.Reduce

@[expose] public section

noncomputable section

namespace Cert.Proof.Grid

open Idealize.ShloMosaic Idealize.ShloMosaic.StableHlo.Predicate Idealize.ShloMosaic.ValueIdx Idealize.ShloMosaic.Routing
open Cert.ReferenceIdeal Cert.ReferenceIdeal.Gen Idealize.SL.Sem

/-- The greatest grid point. -/
def greatest (r : FVec Ideal S5000 .f32) : FVec Ideal S_ .f32 :=
  Host.reduce FloatOps.maximumf r (constant S_ .f32 0xFF800000#32) reducesTo_S5000_S_d0 h_S_

/-- On equally spaced points that is the last one. -/
theorem greatest_eq {r : FVec Ideal S5000 .f32} {L : ℝ} (h : Uniform (points r) L) (j : S_.Idx) : greatest r j = points r 4999 := by
  haveI : Subsingleton S_.Idx := ⟨fun a b => funext fun k => k.elim0⟩
  have hf : (Finset.univ.filter fun i : S5000.Idx => (reducesTo_S5000_S_d0).drop i = j) = Finset.univ :=
    Finset.filter_true_of_mem fun _ _ => Subsingleton.elim _ _
  unfold greatest
  rw [Host.reduce_eq_fold, hf]
  show Finset.fold max (Ideal.ofBits .f32 0xFF800000#32) r Finset.univ = _
  rw [ofBits_bot]
  refine le_antisymm (Finset.fold_max_le _ |>.2 ⟨bot_le, fun i _ => ?_⟩) (Finset.le_fold_max _ |>.2 (.inr ⟨_, Finset.mem_univ _, le_rfl⟩))
  rw [Shape.Idx.eq_ofFin i, h.last]; exact h.le_last _

/-- The grid point each input word is compared with, for every pair of the two. -/
def below (x : FVec Ideal S6400000 .f32) (r : FVec Ideal S5000 .f32) : IVec S5000x6400000 1 :=
  cmpf .olt (broadcastInDim S5000x6400000 ![0, 1] bcast_S5000x1_S5000x6400000_0_1 (broadcastInDim S5000x1 ![0] bcast_S5000_S5000x1_0 r))
    (broadcastInDim S5000x6400000 ![0, 1] bcast_S1x6400000_S5000x6400000_0_1 (broadcastInDim S1x6400000 ![1] bcast_S6400000_S1x6400000_1
      (minimumf x (broadcastInDim S6400000 ![] bcast_S_S6400000 (greatest r)))))

/-- The number of grid points below input word `i`, the greatest point at most. -/
def count (x : FVec Ideal S6400000 .f32) (r : FVec Ideal S5000 .f32) (i : Fin 6400000) : ℕ :=
  (Finset.univ.filter fun p : Fin 5000 => points r p < min (x (Shape.Idx.ofFin i)) (points r 4999)).card

/-- The counts, as the reference sums them. -/
def counts (x : FVec Ideal S6400000 .f32) (r : FVec Ideal S5000 .f32) : IVec S6400000 32 :=
  Host.reduce IntOp.addi (extui 32 (below x r) natLt_1_32) (constantI S_ 32 0#32) reducesTo_S5000x6400000_S6400000_d0 h_S_

theorem below_iff {x : FVec Ideal S6400000 .f32} {r : FVec Ideal S5000 .f32} {L : ℝ} (h : Uniform (points r) L) (p : Fin 5000) (i : Fin 6400000) :
    below x r (ij p i) = 1#1 ↔ points r p < min (x (Shape.Idx.ofFin i)) (points r 4999) := by
  show Ideal.cmp .olt _ _ = 1#1 ↔ _
  rw [cmp_olt, bcast_rows, bcast_cols]
  show _ < min _ (broadcastInDim S6400000 ![] bcast_S_S6400000 (greatest r) _) ↔ _
  rw [bcast_scalar _ h_S_, greatest_eq h]

theorem counts_eq {x : FVec Ideal S6400000 .f32} {r : FVec Ideal S5000 .f32} {L : ℝ} (h : Uniform (points r) L) (i : Fin 6400000) :
    counts x r (Shape.Idx.ofFin i) = BitVec.ofNat 32 (count x r i) := by
  have hc : count x r i ≤ 4999 := count_le _
  apply BitVec.eq_of_toNat_eq
  have hm : (4294967296 : ℕ) = 2 ^ 32 := rfl
  rw [BitVec.toNat_ofNat, Nat.mod_eq_of_lt (by omega)]
  refine (toNat_reduce_count_rows (n := 5000) (m := 6400000) (by decide) (below x r) natLt_1_32 _ h_S_ (Shape.Idx.ofFin i)).trans ?_
  unfold count
  exact congrArg Finset.card (Finset.filter_congr fun p _ => by rw [Shape.Idx.ofFin_zero]; exact below_iff h p i)

/-- The row of the table each input word takes: the count, were it negative one table's length more. -/
def rows (x : FVec Ideal S6400000 .f32) (r : FVec Ideal S5000 .f32) : IVec S6400000x1 32 :=
  broadcastInDim S6400000x1 ![0] bcast_S6400000_S6400000x1_0
    (select (cmpi .slt (counts x r) (broadcastInDim S6400000 ![] bcast_S_S6400000 (constantI S_ 32 0#32)))
      (addi (counts x r) (broadcastInDim S6400000 ![] bcast_S_S6400000 (constantI S_ 32 5000#32))) (counts x r))

theorem rows_eq {x : FVec Ideal S6400000 .f32} {r : FVec Ideal S5000 .f32} {L : ℝ} (h : Uniform (points r) L) (i : Fin 6400000) :
    rows x r (ixP i) = BitVec.ofNat 32 (count x r i) := by
  have hc : count x r i ≤ 4999 := count_le _
  unfold rows
  rw [bcast_col1]
  show Scalar.select (IntOp.cmpi .slt (counts x r _) 0#32) _ (counts x r _) = _
  rw [counts_eq h]
  unfold Scalar.select
  rw [if_neg fun e => ?_]
  have := (slt_iff_toNat (by rw [BitVec.toNat_ofNat]; omega) (by decide)).1 e
  exact absurd this (Nat.not_lt_zero _)

/-- What the reference returns. -/
def refOut (x : FVec Ideal S6400000 .f32) (w : FVec Ideal S8 .f32) (v : FVec Ideal S5000x8 .f32) (r : FVec Ideal S5000 .f32) :
    FVec Ideal S6400000x8 .f32 :=
  mulf (broadcastInDim S6400000x8 ![0, 1] bcast_S1x8_S6400000x8_0_1 (broadcastInDim S1x8 ![1] bcast_S8_S1x8_1 w))
    (Host.gather gather_S5000x8_S6400000x1_S6400000x8_1_0_n_n_0_1_18 v (rows x r))

/-- Its word at input word `i` and column `c`. -/
theorem refOut_apply {x : FVec Ideal S6400000 .f32} {w : FVec Ideal S8 .f32} {v : FVec Ideal S5000x8 .f32} {r : FVec Ideal S5000 .f32}
    {L : ℝ} (h : Uniform (points r) L) (i : Fin 6400000) (c : Fin 8) {n : Fin 5000} (hn : n.val = count x r i) :
    refOut x w v r (ij i c) = w (Shape.Idx.ofFin c) * v (ij n c) := by
  have hg : Host.gather gather_S5000x8_S6400000x1_S6400000x8_1_0_n_n_0_1_18 v (rows x r) (ij i c) = v (ij n c) :=
    gather_row (nb := 5000) (B := 8) (n := 6400000) _ rfl rfl rfl rfl rfl v (rows x r) i c n
      ((congrArg _ (ixP_eq_ix2 i).symm).trans ((rows_eq h i).trans (congrArg _ hn.symm))) (by decide)
  show _ * _ = _
  rw [hg, bcast_cols]

/-- The reference ends with that in its result, its arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.Proof.Grid
-- ==== Proof.Value.Equation.lean ====
/-
  On equally spaced grid points the kernel's result is the reference's.
-/
module

public import proofs.«01_k».proof.Proof.Value.Operands
public import proofs.«01_k».proof.Proof.Value.Reference

@[expose] public section

noncomputable section

namespace Cert.Proof.Grid

open Idealize.ShloMosaic Idealize.ShloMosaic.StableHlo.Predicate

/-- Word by word: one row of the table on both sides, and a product in either order. -/
theorem kerOut_eq_refOut (x : FVec Ideal Cert.KernelIdeal.S6400000 .f32) (w : FVec Ideal Cert.KernelIdeal.S8 .f32)
    (v : FVec Ideal Cert.KernelIdeal.S5000x8 .f32) (r : FVec Ideal Cert.KernelIdeal.S5000 .f32) {L : ℝ} (h : Uniform (points r) L) :
    Cert.Proof.KernelIdeal.kerOut x w v r = refOut x w v r := by
  funext j
  obtain ⟨i, c, rfl⟩ : ∃ (i : Fin 6400000) (c : Fin 8), j = ij i c := ⟨j 0, j 1, (ij_eta j).symm⟩
  have hn : count x r i < 5000 := by have := count_le (R := points r) (x (Shape.Idx.ofFin i)); unfold count; omega
  have hi := index_eq h (x (Shape.Idx.ofFin i))
  rw [show (Finset.univ.filter fun p : Fin 5000 => points r p < min (x (Shape.Idx.ofFin i)) (points r 4999)).card = count x r i from
    by unfold count; rfl] at hi
  generalize hk : count x r i = k at hn hi
  rw [Cert.Proof.KernelIdeal.kerOut_apply x w v r i c ⟨k, hn⟩ hi, refOut_apply h i c (n := ⟨k, hn⟩) hk.symm]
  exact EReal.mul_comm _ _

end Cert.Proof.Grid
-- ==== Proof.lean ====
/-
  The certificate's claim, assembled: the kernel's run (Proof/Frame.lean, Proof/Ideal/Frame.lean), the reference's
  (Proof/Value/Reference.lean), and the equation between their results (Proof/Value/Equation.lean).
-/
module

public import proofs.«01_k».proof.Defs
public import proofs.«01_k».proof.Proof.Frame
public import proofs.«01_k».proof.Proof.Value.Run
public import proofs.«01_k».proof.Proof.Value.Equation
public import proofs.«01_k».proof.Proof.Gen.Pre_uniform_grid
public import Idealize.ShloMosaic.Adequacy
public import Idealize.ShloMosaic.Init

@[expose] public section

noncomputable section

namespace Cert.Proof

open Idealize.ShloMosaic Idealize.SL.Sem

/-- The kernel over bit patterns runs, leaves its arguments unchanged and every semaphore counter at zero. -/
theorem frame_kernel : Cert.quiescent_Kernel := fun m g _ =>
  (θ_run _ _ _).mono (fun _ h => ⟨fun c => ⟨(h.1 c).2 0, (h.1 c).2 1, (h.1 c).2 2, (h.1 c).2 3⟩, h.2⟩) (Kernel.run_value (F := Bits) m g)

/-- The same of the kernel over extended reals. -/
theorem frame_kernelIdeal : Cert.quiescent_KernelIdeal := fun m g _ =>
  (θ_run _ _ _).mono (fun _ h => ⟨fun c => ⟨(h.1 c).2 0, (h.1 c).2 1, (h.1 c).2 2, (h.1 c).2 3⟩, h.2⟩) (KernelIdeal.run_value (F := Ideal) m g)

/-- The reference over extended reals runs and leaves its arguments unchanged; it declares no semaphore. -/
theorem frame_referenceIdeal : Cert.quiescent_ReferenceIdeal := fun m g _ =>
  (θ_run _ _ _).mono (fun r h => ⟨fun c => (h c).2, sem_eq_zero_of_no_sems (by decide) r.2⟩) (Grid.run_reference m g)

/-- From equal arguments, the grid points equally spaced, the two programs over extended reals end with equal results. -/
theorem equal_results : Cert.algebraic_KernelIdeal_ReferenceIdeal_pre_uniform_grid := by
  intro m g m' g' hpre hagree
  refine ⟨_, KernelIdeal.run_kernel m g, (θ_run _ _ _).mono (fun r h c => ⟨(h c).1.trans ?_, (h c).2⟩) (Grid.run_reference m' g')⟩
  obtain ⟨h0, h1, h2, h3⟩ := hagree c
  obtain ⟨L, hL⟩ := Grid.uniform_of_pre _ _ _ _ (hpre c)
  exact (congr (congr (congr (congrArg Grid.refOut h0) h1) h2) h3).trans (Grid.kerOut_eq_refOut _ _ _ _ hL).symm

/-- Everything the certificate claims. -/
theorem claim : Cert.Claim :=
  ⟨Cert.Kernel.Gen.facts, Cert.KernelIdeal.Gen.facts, Cert.ReferenceIdeal.Gen.facts, Cert.Pre_uniform_grid.Gen.facts,
    frame_kernel, frame_kernelIdeal, fun m g _ => frame_kernelIdeal m g trivial, frame_referenceIdeal,
    fun m g _ => frame_referenceIdeal m g trivial, trivial, equal_results⟩

end Cert.Proof

end
